-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 [hPre_in_pool : Cert.Pre_in_pool.Facts] (m : (ℓ : Loc Cert.Kernel7.nD Cert.Kernel7.τ Cert.Kernel7.sig) → Buf (Elt Bits) ℓ) : Prop :=
  ∀ c : Dev Cert.Kernel7.nD,
    (Cert.Pre_in_pool.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5))) = (fun _ => 1#1)

def Pre_Kernel7Ideal [hPre_in_pool : Cert.Pre_in_pool.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_in_pool.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_in_pool [hPre_in_pool : Cert.Pre_in_pool.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_in_pool.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] [hPre_in_pool : Cert.Pre_in_pool.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] [hPre_in_pool : Cert.Pre_in_pool.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_in_pool [hReference7Ideal : Cert.Reference7Ideal.Facts] [hPre_in_pool : Cert.Pre_in_pool.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_in_pool m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  IdealRules.named_const.Statement Cert.KernelIdeal.κ "neg_big" .f32 0xF149F2CA#32 ⊥
  ∧ IdealRules.named_const.Statement Cert.KernelIdeal.κ "mask_fill" .f32 0xF1C9F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  IdealRules.named_const.Statement Cert.Kernel7Ideal.κ "neg_big" .f32 0xF149F2CA#32 ⊥

def algebraic_Kernel7Ideal_Reference7Ideal [hKernel7Ideal : Cert.Kernel7Ideal.Facts] [hReference7Ideal : Cert.Reference7Ideal.Facts] [hPre_in_pool : Cert.Pre_in_pool.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v68) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_in_pool : Cert.Pre_in_pool.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7) (hPre_in_pool := hPre_in_pool)
    ∧ quiescent_Kernel7Ideal (hKernel7Ideal := hKernel7Ideal) (hPre_in_pool := hPre_in_pool)
    ∧ quiescent_Reference7Ideal (hReference7Ideal := hReference7Ideal)
    ∧ quiescent_Reference7Ideal_pre_in_pool (hReference7Ideal := hReference7Ideal) (hPre_in_pool := hPre_in_pool)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal) (hPre_in_pool := hPre_in_pool)
-- ==== Pre_in_pool.lean ====
abbrev S128x8x8x256 : Shape := ⟨4, ![128, 8, 8, 256]⟩
abbrev S128x8x8x64 : Shape := ⟨4, ![128, 8, 8, 64]⟩
abbrev S128x8x320 : Shape := ⟨3, ![128, 8, 320]⟩
abbrev S128x64 : Shape := ⟨2, ![128, 64]⟩
abbrev S2x10240x128x320 : Shape := ⟨4, ![2, 10240, 128, 320]⟩
abbrev S256x8x256 : Shape := ⟨3, ![256, 8, 256]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel

variable [Facts]

def fn {F : FTy → Type} [FloatOps F] (main_arg0 : FVec F S128x8x8x256 .f32) (main_arg1 : FVec F S128x8x8x64 .f32) (main_arg2 : FVec F S128x8x320 .f32) (main_arg3 : IVec S128x64 32) (main_arg4 : FVec F S2x10240x128x320 .f32) (main_arg5 : FVec F S256x8x256 .f32) : IVec S_ 1 :=
  let main_c : IVec S_ 32 := constantI S_ 32 0#32
  let main_v0 : IVec S128x64 32 := broadcastInDim S128x64 ![] bcast_S_S128x64 main_c
  let main_v1 : IVec S128x64 1 := cmpi .sge main_arg3 main_v0
  let main_c_0 : IVec S_ 32 := constantI S_ 32 10240#32
  let main_v2 : IVec S128x64 32 := broadcastInDim S128x64 ![] bcast_S_S128x64 main_c_0
  let main_v3 : IVec S128x64 1 := cmpi .slt main_arg3 main_v2
  let main_v4 : IVec S128x64 1 := andi main_v1 main_v3
  let main_c_1 : IVec S_ 1 := constantI S_ 1 1#1
  let main_v5 : IVec S_ 1 := (fun x v => Host.reduce IntOp.andi x v reducesTo_S128x64_S_d0_1 h_S_) main_v4 main_c_1
  main_v5
-- ==== Kernel.lean ====
abbrev S2x4096x8x256 : Shape := ⟨4, ![2, 4096, 8, 256]⟩
abbrev S2x4096x8x64 : Shape := ⟨4, ![2, 4096, 8, 64]⟩
abbrev S2x4096x320 : Shape := ⟨3, ![2, 4096, 320]⟩
abbrev S256x8x256 : Shape := ⟨3, ![256, 8, 256]⟩
abbrev S2x4096x8x320 : Shape := ⟨4, ![2, 4096, 8, 320]⟩
abbrev S256x8x128 : Shape := ⟨3, ![256, 8, 128]⟩
abbrev S8x256x128 : Shape := ⟨3, ![8, 256, 128]⟩
abbrev S2x8x4096x320 : Shape := ⟨4, ![2, 8, 4096, 320]⟩
abbrev S2x8x16x256x320 : Shape := ⟨5, ![2, 8, 16, 256, 320]⟩
abbrev S2x16x320x8x256 : Shape := ⟨5, ![2, 16, 320, 8, 256]⟩
abbrev S2x16x320x2048 : Shape := ⟨4, ![2, 16, 320, 2048]⟩
abbrev S2x4096x256 : Shape := ⟨3, ![2, 4096, 256]⟩
abbrev S2x256x4096 : Shape := ⟨3, ![2, 256, 4096]⟩
abbrev S8x128x256 : Shape := ⟨3, ![8, 128, 256]⟩
abbrev S2x1024x4096 : Shape := ⟨3, ![2, 1024, 4096]⟩
abbrev S1x1x320x2048 : Shape := ⟨4, ![1, 1, 320, 2048]⟩
abbrev S1x256x320 : Shape := ⟨3, ![1, 256, 320]⟩
abbrev S1x256x256 : Shape := ⟨3, ![1, 256, 256]⟩
abbrev S1x1024x256 : Shape := ⟨3, ![1, 1024, 256]⟩
abbrev S1x2048 : Shape := ⟨2, ![1, 2048]⟩
abbrev S256x2048 : Shape := ⟨2, ![256, 2048]⟩
abbrev S256x320 : Shape := ⟨2, ![256, 320]⟩
abbrev S320x2048 : Shape := ⟨2, ![320, 2048]⟩
abbrev S2048 : Shape := ⟨1, ![2048]⟩
abbrev S256x256 : Shape := ⟨2, ![256, 256]⟩
abbrev S256x1 : Shape := ⟨2, ![256, 1]⟩
abbrev S1x128x256 : Shape := ⟨3, ![1, 128, 256]⟩
abbrev S128x256 : Shape := ⟨2, ![128, 256]⟩

abbrev nBuf : Space → Nat
  | .hbm => 18
  | .vmem => 12
  | .smem => 0
  | _ => 0

abbrev bufTy : (tb : Table) → Fin (tcTables nBuf tb) → BufTy
  | .hbm, ⟨0, _⟩ => ⟨S2x4096x8x256, .f32⟩
  | .hbm, ⟨1, _⟩ => ⟨S2x4096x8x64, .f32⟩
  | .hbm, ⟨2, _⟩ => ⟨S2x4096x320, .f32⟩
  | .hbm, ⟨3, _⟩ => ⟨S256x8x256, .f32⟩
  | .hbm, ⟨4, _⟩ => ⟨S2x4096x8x320, .f32⟩
  | .hbm, ⟨5, _⟩ => ⟨S2x4096x8x320, .bf16⟩
  | .hbm, ⟨6, _⟩ => ⟨S256x8x128, .f32⟩
  | .hbm, ⟨7, _⟩ => ⟨S8x256x128, .f32⟩
  | .hbm, ⟨8, _⟩ => ⟨S8x256x128, .bf16⟩
  | .hbm, ⟨9, _⟩ => ⟨S2x8x4096x320, .bf16⟩
  | .hbm, ⟨10, _⟩ => ⟨S2x4096x320, .bf16⟩
  | .hbm, ⟨11, _⟩ => ⟨S2x8x16x256x320, .bf16⟩
  | .hbm, ⟨12, _⟩ => ⟨S2x16x320x8x256, .bf16⟩
  | .hbm, ⟨13, _⟩ => ⟨S2x16x320x2048, .bf16⟩
  | .hbm, ⟨14, _⟩ => ⟨S2x4096x256, .bf16⟩
  | .hbm, ⟨15, _⟩ => ⟨S2x256x4096, .bf16⟩
  | .hbm, ⟨16, _⟩ => ⟨S8x128x256, .bf16⟩
  | .hbm, ⟨17, _⟩ => ⟨S2x1024x4096, .f32⟩
  | .local _ .vmem, ⟨0, _⟩ => ⟨S1x1x320x2048, .bf16⟩
  | .local _ .vmem, ⟨1, _⟩ => ⟨S1x1x320x2048, .bf16⟩
  | .local _ .vmem, ⟨2, _⟩ => ⟨S1x256x320, .bf16⟩
  | .local _ .vmem, ⟨3, _⟩ => ⟨S1x256x320, .bf16⟩
  | .local _ .vmem, ⟨4, _⟩ => ⟨S1x256x256, .bf16⟩
  | .local _ .vmem, ⟨5, _⟩ => ⟨S1x256x256, .bf16⟩
  | .local _ .vmem, ⟨6, _⟩ => ⟨S8x128x256, .bf16⟩
  | .local _ .vmem, ⟨7, _⟩ => ⟨S1x1024x256, .f32⟩
  | .local _ .vmem, ⟨8, _⟩ => ⟨S1x1024x256, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | _, _ => ⟨S2x4096x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 16, 16], ![false, false, false]⟩

def k0_cond3 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg1 arg2
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg1 arg2
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1x320x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x320 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S8x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== KernelIdeal.lean ====
variable {F : FTy → Type} [FloatOps F] [Named F]
def κ : String → Option EReal := fun
  | "mask_fill" => some ⊥
  | "neg_big" => some ⊥
  | _ => none
-- ==== ReferenceIdeal.lean ====
abbrev S2x4096x8x256 : Shape := ⟨4, ![2, 4096, 8, 256]⟩
abbrev S2x4096x8x64 : Shape := ⟨4, ![2, 4096, 8, 64]⟩
abbrev S2x4096x320 : Shape := ⟨3, ![2, 4096, 320]⟩
abbrev S256x8x256 : Shape := ⟨3, ![256, 8, 256]⟩
abbrev S4096 : Shape := ⟨1, ![4096]⟩
abbrev S2x4096x256 : Shape := ⟨3, ![2, 4096, 256]⟩
abbrev S2x4096x4096x8 : Shape := ⟨4, ![2, 4096, 4096, 8]⟩
abbrev S2x8x4096x4096 : Shape := ⟨4, ![2, 8, 4096, 4096]⟩
abbrev S2x4096x64 : Shape := ⟨3, ![2, 4096, 64]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S2x8x4096 : Shape := ⟨3, ![2, 8, 4096]⟩
abbrev S2x8x4096x1 : Shape := ⟨4, ![2, 8, 4096, 1]⟩
abbrev S1x1x4096x4096 : Shape := ⟨4, ![1, 1, 4096, 4096]⟩
abbrev S2x256x8x4096 : Shape := ⟨4, ![2, 256, 8, 4096]⟩
abbrev S256x8x128 : Shape := ⟨3, ![256, 8, 128]⟩
abbrev S8x128x2x4096 : Shape := ⟨4, ![8, 128, 2, 4096]⟩
abbrev S2x4096x8x128 : Shape := ⟨4, ![2, 4096, 8, 128]⟩
abbrev S2x4096x1024 : Shape := ⟨3, ![2, 4096, 1024]⟩
abbrev S2x1024x4096 : Shape := ⟨3, ![2, 1024, 4096]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x8x256, .f32⟩
  | .hbm, ⟨1, _⟩ => ⟨S2x4096x8x64, .f32⟩
  | .hbm, ⟨2, _⟩ => ⟨S2x4096x320, .f32⟩
  | .hbm, ⟨3, _⟩ => ⟨S256x8x256, .f32⟩
  | .hbm, ⟨4, _⟩ => ⟨S4096, .i32⟩
  | .hbm, ⟨5, _⟩ => ⟨S2x4096x256, .f32⟩
  | .hbm, ⟨6, _⟩ => ⟨S2x4096x4096x8, .f32⟩
  | .hbm, ⟨7, _⟩ => ⟨S2x8x4096x4096, .f32⟩
  | .hbm, ⟨8, _⟩ => ⟨S2x4096x64, .f32⟩
  | .hbm, ⟨9, _⟩ => ⟨S2x4096x4096x8, .f32⟩
  | .hbm, ⟨10, _⟩ => ⟨S2x8x4096x4096, .f32⟩
  | .hbm, ⟨11, _⟩ => ⟨S2x8x4096x4096, .f32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S2x8x4096x4096, .i1⟩
  | .hbm, ⟨20, _⟩ => ⟨S2x8x4096x4096, .f32⟩
  | .hbm, ⟨21, _⟩ => ⟨S2x8x4096x4096, .f32⟩
  | .hbm, ⟨22, _⟩ => ⟨S_, .f32⟩
  | .hbm, ⟨23, _⟩ => ⟨S2x8x4096, .f32⟩
  | .hbm, ⟨24, _⟩ => ⟨S2x8x4096x1, .f32⟩
  | .hbm, ⟨25, _⟩ => ⟨S2x8x4096x4096, .f32⟩
  | .hbm, ⟨26, _⟩ => ⟨S2x8x4096x4096, .f32⟩
  | .hbm, ⟨27, _⟩ => ⟨S2x8x4096x4096, .f32⟩
  | .hbm, ⟨28, _⟩ => ⟨S4096x4096, .f32⟩
  | .hbm, ⟨29, _⟩ => ⟨S1x1x4096x4096, .f32⟩
  | .hbm, ⟨30, _⟩ => ⟨S2x8x4096x4096, .f32⟩
  | .hbm, ⟨31, _⟩ => ⟨S2x8x4096x4096, .f32⟩
  | .hbm, ⟨32, _⟩ => ⟨S_, .f32⟩
  | .hbm, ⟨33, _⟩ => ⟨S2x8x4096, .f32⟩
  | .hbm, ⟨34, _⟩ => ⟨S2x8x4096x1, .f32⟩
  | .hbm, ⟨35, _⟩ => ⟨S_, .f32⟩
  | .hbm, ⟨36, _⟩ => ⟨S2x8x4096x1, .f32⟩
  | .hbm, ⟨37, _⟩ => ⟨S2x8x4096x1, .f32⟩
  | .hbm, ⟨38, _⟩ => ⟨S2x8x4096x4096, .f32⟩
  | .hbm, ⟨39, _⟩ => ⟨S2x8x4096x4096, .f32⟩
  | .hbm, ⟨40, _⟩ => ⟨S2x4096x256, .f32⟩
  | .hbm, ⟨41, _⟩ => ⟨S2x256x8x4096, .f32⟩
  | .hbm, ⟨42, _⟩ => ⟨S2x4096x8x256, .f32⟩
  | .hbm, ⟨43, _⟩ => ⟨S256x8x128, .f32⟩
  | .hbm, ⟨44, _⟩ => ⟨S8x128x2x4096, .f32⟩
  | .hbm, ⟨45, _⟩ => ⟨S2x4096x8x128, .f32⟩
  | .hbm, ⟨46, _⟩ => ⟨S2x4096x1024, .f32⟩
  | .hbm, ⟨47, _⟩ => ⟨S2x1024x4096, .f32⟩
  | _, _ => ⟨S2x4096x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel2.lean ====
abbrev S2x4096x2048 : Shape := ⟨3, ![2, 4096, 2048]⟩
abbrev S128x8x2048 : Shape := ⟨3, ![128, 8, 2048]⟩
abbrev S2048 : Shape := ⟨1, ![2048]⟩
abbrev S2048x11264 : Shape := ⟨2, ![2048, 11264]⟩
abbrev S5632x2048 : Shape := ⟨2, ![5632, 2048]⟩
abbrev S8192x2048 : Shape := ⟨2, ![8192, 2048]⟩
abbrev S1024x2048 : Shape := ⟨2, ![1024, 2048]⟩
abbrev S9216x2048 : Shape := ⟨2, ![9216, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 14
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S128x8x2048, .f32⟩
  | .hbm, ⟨2, _⟩ => ⟨S2048, .f32⟩
  | .hbm, ⟨3, _⟩ => ⟨S2048, .f32⟩
  | .hbm, ⟨4, _⟩ => ⟨S2048x11264, .f32⟩
  | .hbm, ⟨5, _⟩ => ⟨S5632x2048, .f32⟩
  | .hbm, ⟨6, _⟩ => ⟨S8192x2048, .f32⟩
  | .hbm, ⟨7, _⟩ => ⟨S1024x2048, .f32⟩
  | .hbm, ⟨8, _⟩ => ⟨S9216x2048, .f32⟩
  | .hbm, ⟨9, _⟩ => ⟨S2048x11264, .bf16⟩
  | .hbm, ⟨10, _⟩ => ⟨S5632x2048, .bf16⟩
  | .hbm, ⟨11, _⟩ => ⟨S1x2048, .f32⟩
  | .hbm, ⟨12, _⟩ => ⟨S1x2048, .f32⟩
  | .hbm, ⟨13, _⟩ => ⟨S9216x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![18, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S2x4096x2048 : Shape := ⟨3, ![2, 4096, 2048]⟩
abbrev S128x8x2048 : Shape := ⟨3, ![128, 8, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x11264 : Shape := ⟨3, ![2, 4096, 11264]⟩
abbrev S2x4096x5632 : Shape := ⟨3, ![2, 4096, 5632]⟩
abbrev S8192x2048 : Shape := ⟨2, ![8192, 2048]⟩
abbrev S128x8 : Shape := ⟨2, ![128, 8]⟩
abbrev S128x8x1 : Shape := ⟨3, ![128, 8, 1]⟩
abbrev S128x8x11264 : Shape := ⟨3, ![128, 8, 11264]⟩
abbrev S128x8x5632 : Shape := ⟨3, ![128, 8, 5632]⟩
abbrev S1024x2048 : Shape := ⟨2, ![1024, 2048]⟩
abbrev S9216x2048 : Shape := ⟨2, ![9216, 2048]⟩

abbrev nBuf : Space → Nat
  | .hbm => 109
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S128x8x2048, .f32⟩
  | .hbm, ⟨2, _⟩ => ⟨S2048, .f32⟩
  | .hbm, ⟨3, _⟩ => ⟨S2048, .f32⟩
  | .hbm, ⟨4, _⟩ => ⟨S2048x11264, .f32⟩
  | .hbm, ⟨5, _⟩ => ⟨S5632x2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2x4096x11264, .f32⟩
  | .hbm, ⟨23, _⟩ => ⟨S2x4096x5632, .f32⟩
  | .hbm, ⟨24, _⟩ => ⟨S2x4096x5632, .f32⟩
  | .hbm, ⟨25, _⟩ => ⟨S2x4096x5632, .f32⟩
  | .hbm, ⟨26, _⟩ => ⟨S2x4096x5632, .f32⟩
  | .hbm, ⟨27, _⟩ => ⟨S_, .f32⟩
  | .hbm, ⟨28, _⟩ => ⟨S2x4096x5632, .f32⟩
  | .hbm, ⟨29, _⟩ => ⟨S2x4096x5632, .f32⟩
  | .hbm, ⟨30, _⟩ => ⟨S_, .f32⟩
  | .hbm, ⟨31, _⟩ => ⟨S2x4096x5632, .f32⟩
  | .hbm, ⟨32, _⟩ => ⟨S2x4096x5632, .f32⟩
  | .hbm, ⟨33, _⟩ => ⟨S2x4096x5632, .f32⟩
  | .hbm, ⟨34, _⟩ => ⟨S2x4096x5632, .f32⟩
  | .hbm, ⟨35, _⟩ => ⟨S2x4096x2048, .f32⟩
  | .hbm, ⟨36, _⟩ => ⟨S2x4096x2048, .f32⟩
  | .hbm, ⟨37, _⟩ => ⟨S_, .f32⟩
  | .hbm, ⟨38, _⟩ => ⟨S2x4096, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S_, .f32⟩
  | .hbm, ⟨44, _⟩ => ⟨S2x4096x1, .f32⟩
  | .hbm, ⟨45, _⟩ => ⟨S2x4096x1, .f32⟩
  | .hbm, ⟨46, _⟩ => ⟨S2x4096x1, .f32⟩
  | .hbm, ⟨47, _⟩ => ⟨S2x4096x2048, .f32⟩
  | .hbm, ⟨48, _⟩ => ⟨S2x4096x2048, .f32⟩
  | .hbm, ⟨49, _⟩ => ⟨S1x1x2048, .f32⟩
  | .hbm, ⟨50, _⟩ => ⟨S2x4096x2048, .f32⟩
  | .hbm, ⟨51, _⟩ => ⟨S2x4096x2048, .f32⟩
  | .hbm, ⟨52, _⟩ => ⟨S_, .f32⟩
  | .hbm, ⟨53, _⟩ => ⟨S2x4096x2048, .f32⟩
  | .hbm, ⟨54, _⟩ => ⟨S2x4096x2048, .f32⟩
  | .hbm, ⟨55, _⟩ => ⟨S2x4096x2048, .f32⟩
  | .hbm, ⟨56, _⟩ => ⟨S8192x2048, .f32⟩
  | .hbm, ⟨57, _⟩ => ⟨S128x8x2048, .f32⟩
  | .hbm, ⟨58, _⟩ => ⟨S_, .f32⟩
  | .hbm, ⟨59, _⟩ => ⟨S128x8, .f32⟩
  | .hbm, ⟨60, _⟩ => ⟨S128x8x1, .f32⟩
  | .hbm, ⟨61, _⟩ => ⟨S_, .f32⟩
  | .hbm, ⟨62, _⟩ => ⟨S128x8x1, .f32⟩
  | .hbm, ⟨63, _⟩ => ⟨S128x8x1, .f32⟩
  | .hbm, ⟨64, _⟩ => ⟨S_, .f32⟩
  | .hbm, ⟨65, _⟩ => ⟨S128x8x1, .f32⟩
  | .hbm, ⟨66, _⟩ => ⟨S128x8x1, .f32⟩
  | .hbm, ⟨67, _⟩ => ⟨S128x8x1, .f32⟩
  | .hbm, ⟨68, _⟩ => ⟨S128x8x2048, .f32⟩
  | .hbm, ⟨69, _⟩ => ⟨S128x8x2048, .f32⟩
  | .hbm, ⟨70, _⟩ => ⟨S1x1x2048, .f32⟩
  | .hbm, ⟨71, _⟩ => ⟨S128x8x2048, .f32⟩
  | .hbm, ⟨72, _⟩ => ⟨S128x8x2048, .f32⟩
  | .hbm, ⟨73, _⟩ => ⟨S128x8x11264, .f32⟩
  | .hbm, ⟨74, _⟩ => ⟨S128x8x5632, .f32⟩
  | .hbm, ⟨75, _⟩ => ⟨S128x8x5632, .f32⟩
  | .hbm, ⟨76, _⟩ => ⟨S128x8x5632, .f32⟩
  | .hbm, ⟨77, _⟩ => ⟨S128x8x5632, .f32⟩
  | .hbm, ⟨78, _⟩ => ⟨S_, .f32⟩
  | .hbm, ⟨79, _⟩ => ⟨S128x8x5632, .f32⟩
  | .hbm, ⟨80, _⟩ => ⟨S128x8x5632, .f32⟩
  | .hbm, ⟨81, _⟩ => ⟨S_, .f32⟩
  | .hbm, ⟨82, _⟩ => ⟨S128x8x5632, .f32⟩
  | .hbm, ⟨83, _⟩ => ⟨S128x8x5632, .f32⟩
  | .hbm, ⟨84, _⟩ => ⟨S128x8x5632, .f32⟩
  | .hbm, ⟨85, _⟩ => ⟨S128x8x5632, .f32⟩
  | .hbm, ⟨86, _⟩ => ⟨S128x8x2048, .f32⟩
  | .hbm, ⟨87, _⟩ => ⟨S128x8x2048, .f32⟩
  | .hbm, ⟨88, _⟩ => ⟨S_, .f32⟩
  | .hbm, ⟨89, _⟩ => ⟨S128x8, .f32⟩
  | .hbm, ⟨90, _⟩ => ⟨S128x8x1, .f32⟩
  | .hbm, ⟨91, _⟩ => ⟨S_, .f32⟩
  | .hbm, ⟨92, _⟩ => ⟨S128x8x1, .f32⟩
  | .hbm, ⟨93, _⟩ => ⟨S128x8x1, .f32⟩
  | .hbm, ⟨94, _⟩ => ⟨S_, .f32⟩
  | .hbm, ⟨95, _⟩ => ⟨S128x8x1, .f32⟩
  | .hbm, ⟨96, _⟩ => ⟨S128x8x1, .f32⟩
  | .hbm, ⟨97, _⟩ => ⟨S128x8x1, .f32⟩
  | .hbm, ⟨98, _⟩ => ⟨S128x8x2048, .f32⟩
  | .hbm, ⟨99, _⟩ => ⟨S128x8x2048, .f32⟩
  | .hbm, ⟨100, _⟩ => ⟨S1x1x2048, .f32⟩
  | .hbm, ⟨101, _⟩ => ⟨S128x8x2048, .f32⟩
  | .hbm, ⟨102, _⟩ => ⟨S128x8x2048, .f32⟩
  | .hbm, ⟨103, _⟩ => ⟨S_, .f32⟩
  | .hbm, ⟨104, _⟩ => ⟨S128x8x2048, .f32⟩
  | .hbm, ⟨105, _⟩ => ⟨S128x8x2048, .f32⟩
  | .hbm, ⟨106, _⟩ => ⟨S128x8x2048, .f32⟩
  | .hbm, ⟨107, _⟩ => ⟨S1024x2048, .f32⟩
  | .hbm, ⟨108, _⟩ => ⟨S9216x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_v57 : Ref sig .tc := ⟨.hbm, 90, rfl⟩
abbrev main_cst_10 : Ref sig .tc := ⟨.hbm, 91, rfl⟩
abbrev main_v58 : Ref sig .tc := ⟨.hbm, 92, rfl⟩
abbrev main_v59 : Ref sig .tc := ⟨.hbm, 93, rfl⟩
abbrev main_cst_11 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩

abbrev nD : Nat := 1
abbrev τ : Topo := Topo.v7x

variable {F : FTy → Type} [FloatOps F]
-- ==== Kernel3.lean ====
abbrev S2x4096x2048 : Shape := ⟨3, ![2, 4096, 2048]⟩
abbrev S128x8x2048 : Shape := ⟨3, ![128, 8, 2048]⟩
abbrev S2048 : Shape := ⟨1, ![2048]⟩
abbrev S2048x12352 : Shape := ⟨2, ![2048, 12352]⟩
abbrev S8192x2048 : Shape := ⟨2, ![8192, 2048]⟩
abbrev S1024x2048 : Shape := ⟨2, ![1024, 2048]⟩
abbrev S9216x2048 : Shape := ⟨2, ![9216, 2048]⟩
abbrev S2048x12288 : Shape := ⟨2, ![2048, 12288]⟩
abbrev S1x2048 : Shape := ⟨2, ![1, 2048]⟩
abbrev S9216x12288 : Shape := ⟨2, ![9216, 12288]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S128x8x2048, .f32⟩
  | .hbm, ⟨2, _⟩ => ⟨S2048, .f32⟩
  | .hbm, ⟨3, _⟩ => ⟨S2048x12352, .f32⟩
  | .hbm, ⟨4, _⟩ => ⟨S8192x2048, .f32⟩
  | .hbm, ⟨5, _⟩ => ⟨S1024x2048, .f32⟩
  | .hbm, ⟨6, _⟩ => ⟨S9216x2048, .f32⟩
  | .hbm, ⟨7, _⟩ => ⟨S2048x12288, .f32⟩
  | .hbm, ⟨8, _⟩ => ⟨S2048x12288, .bf16⟩
  | .hbm, ⟨9, _⟩ => ⟨S1x2048, .f32⟩
  | .hbm, ⟨10, _⟩ => ⟨S9216x12288, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![18, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x4096x2048 : Shape := ⟨3, ![2, 4096, 2048]⟩
abbrev S128x8x2048 : Shape := ⟨3, ![128, 8, 2048]⟩
abbrev S2048 : Shape := ⟨1, ![2048]⟩
abbrev S2048x12352 : Shape := ⟨2, ![2048, 12352]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x12352 : Shape := ⟨3, ![2, 4096, 12352]⟩
abbrev S2x4096x12288 : Shape := ⟨3, ![2, 4096, 12288]⟩
abbrev S8192x12288 : Shape := ⟨2, ![8192, 12288]⟩
abbrev S128x8 : Shape := ⟨2, ![128, 8]⟩
abbrev S128x8x1 : Shape := ⟨3, ![128, 8, 1]⟩
abbrev S128x8x12352 : Shape := ⟨3, ![128, 8, 12352]⟩
abbrev S128x8x12288 : Shape := ⟨3, ![128, 8, 12288]⟩
abbrev S1024x12288 : Shape := ⟨2, ![1024, 12288]⟩
abbrev S9216x12288 : Shape := ⟨2, ![9216, 12288]⟩

abbrev nBuf : Space → Nat
  | .hbm => 43
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S128x8x2048, .f32⟩
  | .hbm, ⟨2, _⟩ => ⟨S2048, .f32⟩
  | .hbm, ⟨3, _⟩ => ⟨S2048x12352, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2x4096x12352, .f32⟩
  | .hbm, ⟨21, _⟩ => ⟨S2x4096x12288, .f32⟩
  | .hbm, ⟨22, _⟩ => ⟨S8192x12288, .f32⟩
  | .hbm, ⟨23, _⟩ => ⟨S128x8x2048, .f32⟩
  | .hbm, ⟨24, _⟩ => ⟨S_, .f32⟩
  | .hbm, ⟨25, _⟩ => ⟨S128x8, .f32⟩
  | .hbm, ⟨26, _⟩ => ⟨S128x8x1, .f32⟩
  | .hbm, ⟨27, _⟩ => ⟨S_, .f32⟩
  | .hbm, ⟨28, _⟩ => ⟨S128x8x1, .f32⟩
  | .hbm, ⟨29, _⟩ => ⟨S128x8x1, .f32⟩
  | .hbm, ⟨30, _⟩ => ⟨S_, .f32⟩
  | .hbm, ⟨31, _⟩ => ⟨S128x8x1, .f32⟩
  | .hbm, ⟨32, _⟩ => ⟨S128x8x1, .f32⟩
  | .hbm, ⟨33, _⟩ => ⟨S128x8x1, .f32⟩
  | .hbm, ⟨34, _⟩ => ⟨S128x8x2048, .f32⟩
  | .hbm, ⟨35, _⟩ => ⟨S128x8x2048, .f32⟩
  | .hbm, ⟨36, _⟩ => ⟨S1x1x2048, .f32⟩
  | .hbm, ⟨37, _⟩ => ⟨S128x8x2048, .f32⟩
  | .hbm, ⟨38, _⟩ => ⟨S128x8x2048, .f32⟩
  | .hbm, ⟨39, _⟩ => ⟨S128x8x12352, .f32⟩
  | .hbm, ⟨40, _⟩ => ⟨S128x8x12288, .f32⟩
  | .hbm, ⟨41, _⟩ => ⟨S1024x12288, .f32⟩
  | .hbm, ⟨42, _⟩ => ⟨S9216x12288, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel4.lean ====
abbrev S2x4096x2048 : Shape := ⟨3, ![2, 4096, 2048]⟩
abbrev S128x8x2048 : Shape := ⟨3, ![128, 8, 2048]⟩
abbrev S2048 : Shape := ⟨1, ![2048]⟩
abbrev S2048x2672 : Shape := ⟨2, ![2048, 2672]⟩
abbrev S8192x2048 : Shape := ⟨2, ![8192, 2048]⟩
abbrev S1024x2048 : Shape := ⟨2, ![1024, 2048]⟩
abbrev S9216x2048 : Shape := ⟨2, ![9216, 2048]⟩
abbrev S1x2048 : Shape := ⟨2, ![1, 2048]⟩
abbrev S9216x2672 : Shape := ⟨2, ![9216, 2672]⟩
abbrev S256x2048 : Shape := ⟨2, ![256, 2048]⟩
abbrev S256x2672 : Shape := ⟨2, ![256, 2672]⟩
abbrev S256 : Shape := ⟨1, ![256]⟩
abbrev S256x1 : Shape := ⟨2, ![256, 1]⟩

abbrev nBuf : Space → Nat
  | .hbm => 10
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S128x8x2048, .f32⟩
  | .hbm, ⟨2, _⟩ => ⟨S2048, .f32⟩
  | .hbm, ⟨3, _⟩ => ⟨S2048x2672, .f32⟩
  | .hbm, ⟨4, _⟩ => ⟨S8192x2048, .f32⟩
  | .hbm, ⟨5, _⟩ => ⟨S1024x2048, .f32⟩
  | .hbm, ⟨6, _⟩ => ⟨S9216x2048, .f32⟩
  | .hbm, ⟨7, _⟩ => ⟨S2048x2672, .bf16⟩
  | .hbm, ⟨8, _⟩ => ⟨S1x2048, .f32⟩
  | .hbm, ⟨9, _⟩ => ⟨S9216x2672, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2672, .bf16⟩
  | .local _ .vmem, ⟨4, _⟩ => ⟨S256x2672, .f32⟩
  | .local _ .vmem, ⟨5, _⟩ => ⟨S256x2672, .f32⟩
  | .local _ .vmem, ⟨6, _⟩ => ⟨S256x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![36, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2672 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x2672 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2x4096x2048 : Shape := ⟨3, ![2, 4096, 2048]⟩
abbrev S128x8x2048 : Shape := ⟨3, ![128, 8, 2048]⟩
abbrev S2048 : Shape := ⟨1, ![2048]⟩
abbrev S2048x2672 : Shape := ⟨2, ![2048, 2672]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x2672 : Shape := ⟨3, ![2, 4096, 2672]⟩
abbrev S8192x2672 : Shape := ⟨2, ![8192, 2672]⟩
abbrev S128x8 : Shape := ⟨2, ![128, 8]⟩
abbrev S128x8x1 : Shape := ⟨3, ![128, 8, 1]⟩
abbrev S128x8x2672 : Shape := ⟨3, ![128, 8, 2672]⟩
abbrev S1024x2672 : Shape := ⟨2, ![1024, 2672]⟩
abbrev S9216x2672 : Shape := ⟨2, ![9216, 2672]⟩

abbrev nBuf : Space → Nat
  | .hbm => 41
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S128x8x2048, .f32⟩
  | .hbm, ⟨2, _⟩ => ⟨S2048, .f32⟩
  | .hbm, ⟨3, _⟩ => ⟨S2048x2672, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2x4096x2672, .f32⟩
  | .hbm, ⟨21, _⟩ => ⟨S8192x2672, .f32⟩
  | .hbm, ⟨22, _⟩ => ⟨S128x8x2048, .f32⟩
  | .hbm, ⟨23, _⟩ => ⟨S_, .f32⟩
  | .hbm, ⟨24, _⟩ => ⟨S128x8, .f32⟩
  | .hbm, ⟨25, _⟩ => ⟨S128x8x1, .f32⟩
  | .hbm, ⟨26, _⟩ => ⟨S_, .f32⟩
  | .hbm, ⟨27, _⟩ => ⟨S128x8x1, .f32⟩
  | .hbm, ⟨28, _⟩ => ⟨S128x8x1, .f32⟩
  | .hbm, ⟨29, _⟩ => ⟨S_, .f32⟩
  | .hbm, ⟨30, _⟩ => ⟨S128x8x1, .f32⟩
  | .hbm, ⟨31, _⟩ => ⟨S128x8x1, .f32⟩
  | .hbm, ⟨32, _⟩ => ⟨S128x8x1, .f32⟩
  | .hbm, ⟨33, _⟩ => ⟨S128x8x2048, .f32⟩
  | .hbm, ⟨34, _⟩ => ⟨S128x8x2048, .f32⟩
  | .hbm, ⟨35, _⟩ => ⟨S1x1x2048, .f32⟩
  | .hbm, ⟨36, _⟩ => ⟨S128x8x2048, .f32⟩
  | .hbm, ⟨37, _⟩ => ⟨S128x8x2048, .f32⟩
  | .hbm, ⟨38, _⟩ => ⟨S128x8x2672, .f32⟩
  | .hbm, ⟨39, _⟩ => ⟨S1024x2672, .f32⟩
  | .hbm, ⟨40, _⟩ => ⟨S9216x2672, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel5.lean ====
abbrev S2x4096x4096 : Shape := ⟨3, ![2, 4096, 4096]⟩
abbrev S128x8x4096 : Shape := ⟨3, ![128, 8, 4096]⟩
abbrev S4096x2048 : Shape := ⟨2, ![4096, 2048]⟩
abbrev S2x4096x2048 : Shape := ⟨3, ![2, 4096, 2048]⟩
abbrev S128x8x2048 : Shape := ⟨3, ![128, 8, 2048]⟩
abbrev S2048 : Shape := ⟨1, ![2048]⟩
abbrev S8192x4096 : Shape := ⟨2, ![8192, 4096]⟩
abbrev S1024x4096 : Shape := ⟨2, ![1024, 4096]⟩
abbrev S9216x4096 : Shape := ⟨2, ![9216, 4096]⟩
abbrev S8192x2048 : Shape := ⟨2, ![8192, 2048]⟩
abbrev S1024x2048 : Shape := ⟨2, ![1024, 2048]⟩
abbrev S9216x2048 : Shape := ⟨2, ![9216, 2048]⟩
abbrev S1x2048 : Shape := ⟨2, ![1, 2048]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 8
  | .smem => 0
  | _ => 0

abbrev bufTy : (tb : Table) → Fin (tcTables nBuf tb) → BufTy
  | .hbm, ⟨0, _⟩ => ⟨S2x4096x4096, .f32⟩
  | .hbm, ⟨1, _⟩ => ⟨S128x8x4096, .f32⟩
  | .hbm, ⟨2, _⟩ => ⟨S4096x2048, .f32⟩
  | .hbm, ⟨3, _⟩ => ⟨S2x4096x2048, .f32⟩
  | .hbm, ⟨4, _⟩ => ⟨S128x8x2048, .f32⟩
  | .hbm, ⟨5, _⟩ => ⟨S2048, .f32⟩
  | .hbm, ⟨6, _⟩ => ⟨S8192x4096, .f32⟩
  | .hbm, ⟨7, _⟩ => ⟨S1024x4096, .f32⟩
  | .hbm, ⟨8, _⟩ => ⟨S9216x4096, .f32⟩
  | .hbm, ⟨9, _⟩ => ⟨S4096x2048, .bf16⟩
  | .hbm, ⟨10, _⟩ => ⟨S8192x2048, .f32⟩
  | .hbm, ⟨11, _⟩ => ⟨S1024x2048, .f32⟩
  | .hbm, ⟨12, _⟩ => ⟨S9216x2048, .f32⟩
  | .hbm, ⟨13, _⟩ => ⟨S1x2048, .f32⟩
  | .hbm, ⟨14, _⟩ => ⟨S9216x2048, .f32⟩
  | .local _ .vmem, ⟨0, _⟩ => ⟨S256x4096, .f32⟩
  | .local _ .vmem, ⟨1, _⟩ => ⟨S256x4096, .f32⟩
  | .local _ .vmem, ⟨2, _⟩ => ⟨S4096x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S2x4096x4096 : Shape := ⟨3, ![2, 4096, 4096]⟩
abbrev S128x8x4096 : Shape := ⟨3, ![128, 8, 4096]⟩
abbrev S4096x2048 : Shape := ⟨2, ![4096, 2048]⟩
abbrev S2x4096x2048 : Shape := ⟨3, ![2, 4096, 2048]⟩
abbrev S128x8x2048 : Shape := ⟨3, ![128, 8, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩
abbrev S128x8 : Shape := ⟨2, ![128, 8]⟩
abbrev S128x8x1 : Shape := ⟨3, ![128, 8, 1]⟩
abbrev S1024x2048 : Shape := ⟨2, ![1024, 2048]⟩
abbrev S9216x2048 : Shape := ⟨2, ![9216, 2048]⟩

abbrev nBuf : Space → Nat
  | .hbm => 45
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S128x8x4096, .f32⟩
  | .hbm, ⟨2, _⟩ => ⟨S4096x2048, .f32⟩
  | .hbm, ⟨3, _⟩ => ⟨S2x4096x2048, .f32⟩
  | .hbm, ⟨4, _⟩ => ⟨S128x8x2048, .f32⟩
  | .hbm, ⟨5, _⟩ => ⟨S2048, .f32⟩
  | .hbm, ⟨6, _⟩ => ⟨S2x4096x2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S2x4096x2048, .f32⟩
  | .hbm, ⟨24, _⟩ => ⟨S8192x2048, .f32⟩
  | .hbm, ⟨25, _⟩ => ⟨S128x8x2048, .f32⟩
  | .hbm, ⟨26, _⟩ => ⟨S128x8x2048, .f32⟩
  | .hbm, ⟨27, _⟩ => ⟨S_, .f32⟩
  | .hbm, ⟨28, _⟩ => ⟨S128x8, .f32⟩
  | .hbm, ⟨29, _⟩ => ⟨S128x8x1, .f32⟩
  | .hbm, ⟨30, _⟩ => ⟨S_, .f32⟩
  | .hbm, ⟨31, _⟩ => ⟨S128x8x1, .f32⟩
  | .hbm, ⟨32, _⟩ => ⟨S128x8x1, .f32⟩
  | .hbm, ⟨33, _⟩ => ⟨S_, .f32⟩
  | .hbm, ⟨34, _⟩ => ⟨S128x8x1, .f32⟩
  | .hbm, ⟨35, _⟩ => ⟨S128x8x1, .f32⟩
  | .hbm, ⟨36, _⟩ => ⟨S128x8x1, .f32⟩
  | .hbm, ⟨37, _⟩ => ⟨S128x8x2048, .f32⟩
  | .hbm, ⟨38, _⟩ => ⟨S128x8x2048, .f32⟩
  | .hbm, ⟨39, _⟩ => ⟨S1x1x2048, .f32⟩
  | .hbm, ⟨40, _⟩ => ⟨S128x8x2048, .f32⟩
  | .hbm, ⟨41, _⟩ => ⟨S128x8x2048, .f32⟩
  | .hbm, ⟨42, _⟩ => ⟨S128x8x2048, .f32⟩
  | .hbm, ⟨43, _⟩ => ⟨S1024x2048, .f32⟩
  | .hbm, ⟨44, _⟩ => ⟨S9216x2048, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel6.lean ====
abbrev S2x4096x2048 : Shape := ⟨3, ![2, 4096, 2048]⟩
abbrev S128x8x2048 : Shape := ⟨3, ![128, 8, 2048]⟩
abbrev S2048x2048 : Shape := ⟨2, ![2048, 2048]⟩
abbrev S2048 : Shape := ⟨1, ![2048]⟩
abbrev S8192x2048 : Shape := ⟨2, ![8192, 2048]⟩
abbrev S1024x2048 : Shape := ⟨2, ![1024, 2048]⟩
abbrev S9216x2048 : Shape := ⟨2, ![9216, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S128x8x2048, .f32⟩
  | .hbm, ⟨2, _⟩ => ⟨S2048x2048, .f32⟩
  | .hbm, ⟨3, _⟩ => ⟨S2x4096x2048, .f32⟩
  | .hbm, ⟨4, _⟩ => ⟨S128x8x2048, .f32⟩
  | .hbm, ⟨5, _⟩ => ⟨S2048, .f32⟩
  | .hbm, ⟨6, _⟩ => ⟨S8192x2048, .f32⟩
  | .hbm, ⟨7, _⟩ => ⟨S1024x2048, .f32⟩
  | .hbm, ⟨8, _⟩ => ⟨S9216x2048, .f32⟩
  | .hbm, ⟨9, _⟩ => ⟨S2048x2048, .bf16⟩
  | .hbm, ⟨10, _⟩ => ⟨S8192x2048, .f32⟩
  | .hbm, ⟨11, _⟩ => ⟨S1024x2048, .f32⟩
  | .hbm, ⟨12, _⟩ => ⟨S9216x2048, .f32⟩
  | .hbm, ⟨13, _⟩ => ⟨S1x2048, .f32⟩
  | .hbm, ⟨14, _⟩ => ⟨S9216x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S2x4096x2048 : Shape := ⟨3, ![2, 4096, 2048]⟩
abbrev S128x8x2048 : Shape := ⟨3, ![128, 8, 2048]⟩
abbrev S2048x2048 : Shape := ⟨2, ![2048, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩
abbrev S128x8 : Shape := ⟨2, ![128, 8]⟩
abbrev S128x8x1 : Shape := ⟨3, ![128, 8, 1]⟩
abbrev S1024x2048 : Shape := ⟨2, ![1024, 2048]⟩
abbrev S9216x2048 : Shape := ⟨2, ![9216, 2048]⟩

abbrev nBuf : Space → Nat
  | .hbm => 45
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S128x8x2048, .f32⟩
  | .hbm, ⟨2, _⟩ => ⟨S2048x2048, .f32⟩
  | .hbm, ⟨3, _⟩ => ⟨S2x4096x2048, .f32⟩
  | .hbm, ⟨4, _⟩ => ⟨S128x8x2048, .f32⟩
  | .hbm, ⟨5, _⟩ => ⟨S2048, .f32⟩
  | .hbm, ⟨6, _⟩ => ⟨S2x4096x2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S2x4096x2048, .f32⟩
  | .hbm, ⟨24, _⟩ => ⟨S8192x2048, .f32⟩
  | .hbm, ⟨25, _⟩ => ⟨S128x8x2048, .f32⟩
  | .hbm, ⟨26, _⟩ => ⟨S128x8x2048, .f32⟩
  | .hbm, ⟨27, _⟩ => ⟨S_, .f32⟩
  | .hbm, ⟨28, _⟩ => ⟨S128x8, .f32⟩
  | .hbm, ⟨29, _⟩ => ⟨S128x8x1, .f32⟩
  | .hbm, ⟨30, _⟩ => ⟨S_, .f32⟩
  | .hbm, ⟨31, _⟩ => ⟨S128x8x1, .f32⟩
  | .hbm, ⟨32, _⟩ => ⟨S128x8x1, .f32⟩
  | .hbm, ⟨33, _⟩ => ⟨S_, .f32⟩
  | .hbm, ⟨34, _⟩ => ⟨S128x8x1, .f32⟩
  | .hbm, ⟨35, _⟩ => ⟨S128x8x1, .f32⟩
  | .hbm, ⟨36, _⟩ => ⟨S128x8x1, .f32⟩
  | .hbm, ⟨37, _⟩ => ⟨S128x8x2048, .f32⟩
  | .hbm, ⟨38, _⟩ => ⟨S128x8x2048, .f32⟩
  | .hbm, ⟨39, _⟩ => ⟨S1x1x2048, .f32⟩
  | .hbm, ⟨40, _⟩ => ⟨S128x8x2048, .f32⟩
  | .hbm, ⟨41, _⟩ => ⟨S128x8x2048, .f32⟩
  | .hbm, ⟨42, _⟩ => ⟨S128x8x2048, .f32⟩
  | .hbm, ⟨43, _⟩ => ⟨S1024x2048, .f32⟩
  | .hbm, ⟨44, _⟩ => ⟨S9216x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel7.lean ====
abbrev S128x8x8x256 : Shape := ⟨4, ![128, 8, 8, 256]⟩
abbrev S128x8x8x64 : Shape := ⟨4, ![128, 8, 8, 64]⟩
abbrev S128x8x320 : Shape := ⟨3, ![128, 8, 320]⟩
abbrev S128x64 : Shape := ⟨2, ![128, 64]⟩
abbrev S2x10240x128x320 : Shape := ⟨4, ![2, 10240, 128, 320]⟩
abbrev S256x8x256 : Shape := ⟨3, ![256, 8, 256]⟩
abbrev S128x8x8x320 : Shape := ⟨4, ![128, 8, 8, 320]⟩
abbrev S128x64x320 : Shape := ⟨3, ![128, 64, 320]⟩
abbrev S256x8x128 : Shape := ⟨3, ![256, 8, 128]⟩
abbrev S8x256x128 : Shape := ⟨3, ![8, 256, 128]⟩
abbrev S_ : Shape := ⟨0, ![]⟩
abbrev S128x16x320 : Shape := ⟨3, ![128, 16, 320]⟩
abbrev S2x10240x320x128 : Shape := ⟨4, ![2, 10240, 320, 128]⟩
abbrev S128x8x1024 : Shape := ⟨3, ![128, 8, 1024]⟩
abbrev S1x64x320 : Shape := ⟨3, ![1, 64, 320]⟩
abbrev S1x16x320 : Shape := ⟨3, ![1, 16, 320]⟩
abbrev S1x1x320x128 : Shape := ⟨4, ![1, 1, 320, 128]⟩
abbrev S1x1 : Shape := ⟨2, ![1, 1]⟩
abbrev S1x8x1024 : Shape := ⟨3, ![1, 8, 1024]⟩
abbrev S64x8192 : Shape := ⟨2, ![64, 8192]⟩
abbrev S64x320 : Shape := ⟨2, ![64, 320]⟩
abbrev S320x128 : Shape := ⟨2, ![320, 128]⟩
abbrev S64x128 : Shape := ⟨2, ![64, 128]⟩
abbrev S16x320 : Shape := ⟨2, ![16, 320]⟩
abbrev S64x16 : Shape := ⟨2, ![64, 16]⟩
abbrev S64x1 : Shape := ⟨2, ![64, 1]⟩
abbrev S1x16 : Shape := ⟨2, ![1, 16]⟩
abbrev S64 : Shape := ⟨1, ![64]⟩
abbrev S16x256 : Shape := ⟨2, ![16, 256]⟩
abbrev S64x256 : Shape := ⟨2, ![64, 256]⟩
abbrev S1x1x256x128 : Shape := ⟨4, ![1, 1, 256, 128]⟩
abbrev S256x128 : Shape := ⟨2, ![256, 128]⟩
abbrev S8x256 : Shape := ⟨2, ![8, 256]⟩
abbrev S1x256x128 : Shape := ⟨3, ![1, 256, 128]⟩
abbrev S8x128 : Shape := ⟨2, ![8, 128]⟩
abbrev S8x1024 : Shape := ⟨2, ![8, 1024]⟩

abbrev nBuf : Space → Nat
  | .hbm => 18
  | .vmem => 136
  | .smem => 1
  | _ => 0

abbrev vmemTy0_0 (i : Nat) : BufTy := match i % 128 with
  | 0 => ⟨S1x64x320, .bf16⟩
  | 1 => ⟨S1x64x320, .bf16⟩
  | 2 => ⟨S1x16x320, .bf16⟩
  | 3 => ⟨S1x16x320, .bf16⟩
  | 4 => ⟨S8x256x128, .bf16⟩
  | 5 => ⟨S1x1x320x128, .f32⟩
  | 6 => ⟨S1x1x320x128, .f32⟩
  | 7 => ⟨S1x1x320x128, .f32⟩
  | 8 => ⟨S1x1x320x128, .f32⟩
  | 9 => ⟨S1x1x320x128, .f32⟩
  | 10 => ⟨S1x1x320x128, .f32⟩
  | 11 => ⟨S1x1x320x128, .f32⟩
  | 12 => ⟨S1x1x320x128, .f32⟩
  | 13 => ⟨S1x1x320x128, .f32⟩
  | 14 => ⟨S1x1x320x128, .f32⟩
  | 15 => ⟨S1x1x320x128, .f32⟩
  | 16 => ⟨S1x1x320x128, .f32⟩
  | 17 => ⟨S1x1x320x128, .f32⟩
  | 18 => ⟨S1x1x320x128, .f32⟩
  | 19 => ⟨S1x1x320x128, .f32⟩
  | 20 => ⟨S1x1x320x128, .f32⟩
  | 21 => ⟨S1x1x320x128, .f32⟩
  | 22 => ⟨S1x1x320x128, .f32⟩
  | 23 => ⟨S1x1x320x128, .f32⟩
  | 24 => ⟨S1x1x320x128, .f32⟩
  | 25 => ⟨S1x1x320x128, .f32⟩
  | 26 => ⟨S1x1x320x128, .f32⟩
  | 27 => ⟨S1x1x320x128, .f32⟩
  | 28 => ⟨S1x1x320x128, .f32⟩
  | 29 => ⟨S1x1x320x128, .f32⟩
  | 30 => ⟨S1x1x320x128, .f32⟩
  | 31 => ⟨S1x1x320x128, .f32⟩
  | 32 => ⟨S1x1x320x128, .f32⟩
  | 33 => ⟨S1x1x320x128, .f32⟩
  | 34 => ⟨S1x1x320x128, .f32⟩
  | 35 => ⟨S1x1x320x128, .f32⟩
  | 36 => ⟨S1x1x320x128, .f32⟩
  | 37 => ⟨S1x1x320x128, .f32⟩
  | 38 => ⟨S1x1x320x128, .f32⟩
  | 39 => ⟨S1x1x320x128, .f32⟩
  | 40 => ⟨S1x1x320x128, .f32⟩
  | 41 => ⟨S1x1x320x128, .f32⟩
  | 42 => ⟨S1x1x320x128, .f32⟩
  | 43 => ⟨S1x1x320x128, .f32⟩
  | 44 => ⟨S1x1x320x128, .f32⟩
  | 45 => ⟨S1x1x320x128, .f32⟩
  | 46 => ⟨S1x1x320x128, .f32⟩
  | 47 => ⟨S1x1x320x128, .f32⟩
  | 48 => ⟨S1x1x320x128, .f32⟩
  | 49 => ⟨S1x1x320x128, .f32⟩
  | 50 => ⟨S1x1x320x128, .f32⟩
  | 51 => ⟨S1x1x320x128, .f32⟩
  | 52 => ⟨S1x1x320x128, .f32⟩
  | 53 => ⟨S1x1x320x128, .f32⟩
  | 54 => ⟨S1x1x320x128, .f32⟩
  | 55 => ⟨S1x1x320x128, .f32⟩
  | 56 => ⟨S1x1x320x128, .f32⟩
  | 57 => ⟨S1x1x320x128, .f32⟩
  | 58 => ⟨S1x1x320x128, .f32⟩
  | 59 => ⟨S1x1x320x128, .f32⟩
  | 60 => ⟨S1x1x320x128, .f32⟩
  | 61 => ⟨S1x1x320x128, .f32⟩
  | 62 => ⟨S1x1x320x128, .f32⟩
  | 63 => ⟨S1x1x320x128, .f32⟩
  | 64 => ⟨S1x1x320x128, .f32⟩
  | 65 => ⟨S1x1x320x128, .f32⟩
  | 66 => ⟨S1x1x320x128, .f32⟩
  | 67 => ⟨S1x1x320x128, .f32⟩
  | 68 => ⟨S1x1x320x128, .f32⟩
  | 69 => ⟨S1x1x320x128, .f32⟩
  | 70 => ⟨S1x1x320x128, .f32⟩
  | 71 => ⟨S1x1x320x128, .f32⟩
  | 72 => ⟨S1x1x320x128, .f32⟩
  | 73 => ⟨S1x1x320x128, .f32⟩
  | 74 => ⟨S1x1x320x128, .f32⟩
  | 75 => ⟨S1x1x320x128, .f32⟩
  | 76 => ⟨S1x1x320x128, .f32⟩
  | 77 => ⟨S1x1x320x128, .f32⟩
  | 78 => ⟨S1x1x320x128, .f32⟩
  | 79 => ⟨S1x1x320x128, .f32⟩
  | 80 => ⟨S1x1x320x128, .f32⟩
  | 81 => ⟨S1x1x320x128, .f32⟩
  | 82 => ⟨S1x1x320x128, .f32⟩
  | 83 => ⟨S1x1x320x128, .f32⟩
  | 84 => ⟨S1x1x320x128, .f32⟩
  | 85 => ⟨S1x1x320x128, .f32⟩
  | 86 => ⟨S1x1x320x128, .f32⟩
  | 87 => ⟨S1x1x320x128, .f32⟩
  | 88 => ⟨S1x1x320x128, .f32⟩
  | 89 => ⟨S1x1x320x128, .f32⟩
  | 90 => ⟨S1x1x320x128, .f32⟩
  | 91 => ⟨S1x1x320x128, .f32⟩
  | 92 => ⟨S1x1x320x128, .f32⟩
  | 93 => ⟨S1x1x320x128, .f32⟩
  | 94 => ⟨S1x1x320x128, .f32⟩
  | 95 => ⟨S1x1x320x128, .f32⟩
  | 96 => ⟨S1x1x320x128, .f32⟩
  | 97 => ⟨S1x1x320x128, .f32⟩
  | 98 => ⟨S1x1x320x128, .f32⟩
  | 99 => ⟨S1x1x320x128, .f32⟩
  | 100 => ⟨S1x1x320x128, .f32⟩
  | 101 => ⟨S1x1x320x128, .f32⟩
  | 102 => ⟨S1x1x320x128, .f32⟩
  | 103 => ⟨S1x1x320x128, .f32⟩
  | 104 => ⟨S1x1x320x128, .f32⟩
  | 105 => ⟨S1x1x320x128, .f32⟩
  | 106 => ⟨S1x1x320x128, .f32⟩
  | 107 => ⟨S1x1x320x128, .f32⟩
  | 108 => ⟨S1x1x320x128, .f32⟩
  | 109 => ⟨S1x1x320x128, .f32⟩
  | 110 => ⟨S1x1x320x128, .f32⟩
  | 111 => ⟨S1x1x320x128, .f32⟩
  | 112 => ⟨S1x1x320x128, .f32⟩
  | 113 => ⟨S1x1x320x128, .f32⟩
  | 114 => ⟨S1x1x320x128, .f32⟩
  | 115 => ⟨S1x1x320x128, .f32⟩
  | 116 => ⟨S1x1x320x128, .f32⟩
  | 117 => ⟨S1x1x320x128, .f32⟩
  | 118 => ⟨S1x1x320x128, .f32⟩
  | 119 => ⟨S1x1x320x128, .f32⟩
  | 120 => ⟨S1x1x320x128, .f32⟩
  | 121 => ⟨S1x1x320x128, .f32⟩
  | 122 => ⟨S1x1x320x128, .f32⟩
  | 123 => ⟨S1x1x320x128, .f32⟩
  | 124 => ⟨S1x1x320x128, .f32⟩
  | 125 => ⟨S1x1x320x128, .f32⟩
  | 126 => ⟨S1x1x320x128, .f32⟩
  | 127 => ⟨S1x1x320x128, .f32⟩
  | _ => ⟨S128x8x8x256, .f32⟩

abbrev vmemTy0_1 (i : Nat) : BufTy := match i % 128 with
  | 0 => ⟨S1x1x320x128, .f32⟩
  | 1 => ⟨S1x1x320x128, .f32⟩
  | 2 => ⟨S1x1x320x128, .f32⟩
  | 3 => ⟨S1x1x320x128, .f32⟩
  | 4 => ⟨S1x1x320x128, .f32⟩
  | 5 => ⟨S1x8x1024, .f32⟩
  | 6 => ⟨S1x8x1024, .f32⟩
  | 7 => ⟨S64x8192, .f32⟩
  | _ => ⟨S128x8x8x256, .f32⟩

abbrev vmemTy (i : Nat) : BufTy := match i / 128 with
  | 0 => vmemTy0_0 i
  | 1 => vmemTy0_1 i
  | _ => ⟨S128x8x8x256, .f32⟩

abbrev bufTy : (tb : Table) → Fin (tcTables nBuf tb) → BufTy
  | .hbm, ⟨0, _⟩ => ⟨S128x8x8x256, .f32⟩
  | .hbm, ⟨1, _⟩ => ⟨S128x8x8x64, .f32⟩
  | .hbm, ⟨2, _⟩ => ⟨S128x8x320, .f32⟩
  | .hbm, ⟨3, _⟩ => ⟨S2x10240x128x320, .f32⟩
  | .hbm, ⟨4, _⟩ => ⟨S256x8x256, .f32⟩
  | .hbm, ⟨5, _⟩ => ⟨S128x8x8x320, .f32⟩
  | .hbm, ⟨6, _⟩ => ⟨S128x8x8x320, .bf16⟩
  | .hbm, ⟨7, _⟩ => ⟨S128x8x8x320, .bf16⟩
  | .hbm, ⟨8, _⟩ => ⟨S128x64x320, .bf16⟩
  | .hbm, ⟨9, _⟩ => ⟨S256x8x128, .f32⟩
  | .hbm, ⟨10, _⟩ => ⟨S8x256x128, .f32⟩
  | .hbm, ⟨11, _⟩ => ⟨S8x256x128, .bf16⟩
  | .hbm, ⟨12, _⟩ => ⟨S_, .i32⟩
  | .hbm, ⟨13, _⟩ => ⟨S_, .f32⟩
  | .hbm, ⟨14, _⟩ => ⟨S128x16x320, .f32⟩
  | .hbm, ⟨15, _⟩ => ⟨S128x16x320, .bf16⟩
  | .hbm, ⟨16, _⟩ => ⟨S2x10240x320x128, .f32⟩
  | .hbm, ⟨17, _⟩ => ⟨S128x8x1024, .f32⟩
  | .local _ .vmem, ⟨i, _⟩ => vmemTy i
  | .local _ .smem, ⟨0, _⟩ => ⟨S128x64, .i32⟩
  | _, _ => ⟨S128x8x8x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 135 → Bool
  | ⟨i, _⟩ => dmaSemScopedAt i

abbrev sig : RefSig :=
  ofTc nBuf bufTy 0 135 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_stg21_0 : Ref sig .tc := ⟨.vmem, 41, rfl⟩
abbrev cc0_stg21_1 : Ref sig .tc := ⟨.vmem, 42, rfl⟩
abbrev cc0_stg22_0 : Ref sig .tc := ⟨.vmem, 43, rfl⟩
abbrev cc0_stg22_1 : Ref sig .tc := ⟨.vmem, 44, rfl⟩
abbrev cc0_stg23_0 : Ref sig .tc := ⟨.vmem, 45, rfl⟩
abbrev cc0_stg23_1 : Ref sig .tc := ⟨.vmem, 46, rfl⟩
abbrev cc0_stg24_0 : Ref sig .tc := ⟨.vmem, 47, rfl⟩
abbrev cc0_stg24_1 : Ref sig .tc := ⟨.vmem, 48, rfl⟩
abbrev cc0_stg25_0 : Ref sig .tc := ⟨.vmem, 49, rfl⟩
abbrev cc0_stg25_1 : Ref sig .tc := ⟨.vmem, 50, rfl⟩
abbrev cc0_stg26_0 : Ref sig .tc := ⟨.vmem, 51, rfl⟩
abbrev cc0_stg26_1 : Ref sig .tc := ⟨.vmem, 52, rfl⟩
abbrev cc0_stg27_0 : Ref sig .tc := ⟨.vmem, 53, rfl⟩
abbrev cc0_stg27_1 : Ref sig .tc := ⟨.vmem, 54, rfl⟩
abbrev cc0_stg28_0 : Ref sig .tc := ⟨.vmem, 55, rfl⟩
abbrev cc0_stg28_1 : Ref sig .tc := ⟨.vmem, 56, rfl⟩
abbrev cc0_stg29_0 : Ref sig .tc := ⟨.vmem, 57, rfl⟩
abbrev cc0_stg29_1 : Ref sig .tc := ⟨.vmem, 58, rfl⟩
abbrev cc0_stg30_0 : Ref sig .tc := ⟨.vmem, 59, rfl⟩
abbrev cc0_stg30_1 : Ref sig .tc := ⟨.vmem, 60, rfl⟩
abbrev cc0_stg31_0 : Ref sig .tc := ⟨.vmem, 61, rfl⟩
abbrev cc0_stg31_1 : Ref sig .tc := ⟨.vmem, 62, rfl⟩
abbrev cc0_stg32_0 : Ref sig .tc := ⟨.vmem, 63, rfl⟩
abbrev cc0_stg32_1 : Ref sig .tc := ⟨.vmem, 64, rfl⟩
abbrev cc0_stg33_0 : Ref sig .tc := ⟨.vmem, 65, rfl⟩
abbrev cc0_stg33_1 : Ref sig .tc := ⟨.vmem, 66, rfl⟩
abbrev cc0_stg34_0 : Ref sig .tc := ⟨.vmem, 67, rfl⟩
abbrev cc0_stg34_1 : Ref sig .tc := ⟨.vmem, 68, rfl⟩
abbrev cc0_stg35_0 : Ref sig .tc := ⟨.vmem, 69, rfl⟩
abbrev cc0_stg35_1 : Ref sig .tc := ⟨.vmem, 70, rfl⟩
abbrev cc0_stg36_0 : Ref sig .tc := ⟨.vmem, 71, rfl⟩
abbrev cc0_stg36_1 : Ref sig .tc := ⟨.vmem, 72, rfl⟩
abbrev cc0_stg37_0 : Ref sig .tc := ⟨.vmem, 73, rfl⟩
abbrev cc0_stg37_1 : Ref sig .tc := ⟨.vmem, 74, rfl⟩
abbrev cc0_stg38_0 : Ref sig .tc := ⟨.vmem, 75, rfl⟩
abbrev cc0_stg38_1 : Ref sig .tc := ⟨.vmem, 76, rfl⟩
abbrev cc0_stg39_0 : Ref sig .tc := ⟨.vmem, 77, rfl⟩
abbrev cc0_stg39_1 : Ref sig .tc := ⟨.vmem, 78, rfl⟩
abbrev cc0_stg40_0 : Ref sig .tc := ⟨.vmem, 79, rfl⟩
abbrev cc0_stg40_1 : Ref sig .tc := ⟨.vmem, 80, rfl⟩
abbrev cc0_stg41_0 : Ref sig .tc := ⟨.vmem, 81, rfl⟩
abbrev cc0_stg41_1 : Ref sig .tc := ⟨.vmem, 82, rfl⟩
abbrev cc0_stg42_0 : Ref sig .tc := ⟨.vmem, 83, rfl⟩
abbrev cc0_stg42_1 : Ref sig .tc := ⟨.vmem, 84, rfl⟩
abbrev cc0_stg43_0 : Ref sig .tc := ⟨.vmem, 85, rfl⟩
abbrev cc0_stg43_1 : Ref sig .tc := ⟨.vmem, 86, rfl⟩
abbrev cc0_stg44_0 : Ref sig .tc := ⟨.vmem, 87, rfl⟩
abbrev cc0_stg44_1 : Ref sig .tc := ⟨.vmem, 88, rfl⟩
abbrev cc0_stg45_0 : Ref sig .tc := ⟨.vmem, 89, rfl⟩
abbrev cc0_stg45_1 : Ref sig .tc := ⟨.vmem, 90, rfl⟩
abbrev cc0_stg46_0 : Ref sig .tc := ⟨.vmem, 91, rfl⟩
abbrev cc0_stg46_1 : Ref sig .tc := ⟨.vmem, 92, rfl⟩
abbrev cc0_stg47_0 : Ref sig .tc := ⟨.vmem, 93, rfl⟩
abbrev cc0_stg47_1 : Ref sig .tc := ⟨.vmem, 94, rfl⟩
abbrev cc0_stg48_0 : Ref sig .tc := ⟨.vmem, 95, rfl⟩
abbrev cc0_stg48_1 : Ref sig .tc := ⟨.vmem, 96, rfl⟩
abbrev cc0_stg49_0 : Ref sig .tc := ⟨.vmem, 97, rfl⟩
abbrev cc0_stg49_1 : Ref sig .tc := ⟨.vmem, 98, rfl⟩
abbrev cc0_stg50_0 : Ref sig .tc := ⟨.vmem, 99, rfl⟩
abbrev cc0_stg50_1 : Ref sig .tc := ⟨.vmem, 100, rfl⟩
abbrev cc0_stg51_0 : Ref sig .tc := ⟨.vmem, 101, rfl⟩
abbrev cc0_stg51_1 : Ref sig .tc := ⟨.vmem, 102, rfl⟩
abbrev cc0_stg52_0 : Ref sig .tc := ⟨.vmem, 103, rfl⟩
abbrev cc0_stg52_1 : Ref sig .tc := ⟨.vmem, 104, rfl⟩
abbrev cc0_stg53_0 : Ref sig .tc := ⟨.vmem, 105, rfl⟩
abbrev cc0_stg53_1 : Ref sig .tc := ⟨.vmem, 106, rfl⟩
abbrev cc0_stg54_0 : Ref sig .tc := ⟨.vmem, 107, rfl⟩
abbrev cc0_stg54_1 : Ref sig .tc := ⟨.vmem, 108, rfl⟩
abbrev cc0_stg55_0 : Ref sig .tc := ⟨.vmem, 109, rfl⟩
abbrev cc0_stg55_1 : Ref sig .tc := ⟨.vmem, 110, rfl⟩
abbrev cc0_stg56_0 : Ref sig .tc := ⟨.vmem, 111, rfl⟩
abbrev cc0_stg56_1 : Ref sig .tc := ⟨.vmem, 112, rfl⟩
abbrev cc0_stg57_0 : Ref sig .tc := ⟨.vmem, 113, rfl⟩
abbrev cc0_stg57_1 : Ref sig .tc := ⟨.vmem, 114, rfl⟩
abbrev cc0_stg58_0 : Ref sig .tc := ⟨.vmem, 115, rfl⟩
abbrev cc0_stg58_1 : Ref sig .tc := ⟨.vmem, 116, rfl⟩
abbrev cc0_stg59_0 : Ref sig .tc := ⟨.vmem, 117, rfl⟩
abbrev cc0_stg59_1 : Ref sig .tc := ⟨.vmem, 118, rfl⟩
abbrev cc0_stg60_0 : Ref sig .tc := ⟨.vmem, 119, rfl⟩
abbrev cc0_stg60_1 : Ref sig .tc := ⟨.vmem, 120, rfl⟩
abbrev cc0_stg61_0 : Ref sig .tc := ⟨.vmem, 121, rfl⟩
abbrev cc0_stg61_1 : Ref sig .tc := ⟨.vmem, 122, rfl⟩
abbrev cc0_stg62_0 : Ref sig .tc := ⟨.vmem, 123, rfl⟩
abbrev cc0_stg62_1 : Ref sig .tc := ⟨.vmem, 124, rfl⟩
abbrev cc0_stg63_0 : Ref sig .tc := ⟨.vmem, 125, rfl⟩
abbrev cc0_stg63_1 : Ref sig .tc := ⟨.vmem, 126, rfl⟩
abbrev cc0_stg64_0 : Ref sig .tc := ⟨.vmem, 127, rfl⟩
abbrev cc0_stg64_1 : Ref sig .tc := ⟨.vmem, 128, rfl⟩
abbrev cc0_stg65_0 : Ref sig .tc := ⟨.vmem, 129, rfl⟩
abbrev cc0_stg65_1 : Ref sig .tc := ⟨.vmem, 130, rfl⟩
abbrev cc0_stg66_0 : Ref sig .tc := ⟨.vmem, 131, rfl⟩
abbrev cc0_stg66_1 : Ref sig .tc := ⟨.vmem, 132, rfl⟩
abbrev cc0_stg67_0 : Ref sig .tc := ⟨.vmem, 133, rfl⟩
abbrev cc0_stg67_1 : Ref sig .tc := ⟨.vmem, 134, rfl⟩
abbrev cc0_scratch0 : Ref sig .tc := ⟨.vmem, 135, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43
abbrev cc0_sem22_1 : DmaSem sig := 44
abbrev cc0_sem23_0 : DmaSem sig := 45
abbrev cc0_sem23_1 : DmaSem sig := 46
abbrev cc0_sem24_0 : DmaSem sig := 47
abbrev cc0_sem24_1 : DmaSem sig := 48
abbrev cc0_sem25_0 : DmaSem sig := 49
abbrev cc0_sem25_1 : DmaSem sig := 50
abbrev cc0_sem26_0 : DmaSem sig := 51
abbrev cc0_sem26_1 : DmaSem sig := 52
abbrev cc0_sem27_0 : DmaSem sig := 53
abbrev cc0_sem27_1 : DmaSem sig := 54
abbrev cc0_sem28_0 : DmaSem sig := 55
abbrev cc0_sem28_1 : DmaSem sig := 56
abbrev cc0_sem29_0 : DmaSem sig := 57
abbrev cc0_sem29_1 : DmaSem sig := 58
abbrev cc0_sem30_0 : DmaSem sig := 59
abbrev cc0_sem30_1 : DmaSem sig := 60
abbrev cc0_sem31_0 : DmaSem sig := 61
abbrev cc0_sem31_1 : DmaSem sig := 62
abbrev cc0_sem32_0 : DmaSem sig := 63
abbrev cc0_sem32_1 : DmaSem sig := 64
abbrev cc0_sem33_0 : DmaSem sig := 65
abbrev cc0_sem33_1 : DmaSem sig := 66
abbrev cc0_sem34_0 : DmaSem sig := 67
abbrev cc0_sem34_1 : DmaSem sig := 68
abbrev cc0_sem35_0 : DmaSem sig := 69
abbrev cc0_sem35_1 : DmaSem sig := 70
abbrev cc0_sem36_0 : DmaSem sig := 71
abbrev cc0_sem36_1 : DmaSem sig := 72
abbrev cc0_sem37_0 : DmaSem sig := 73
abbrev cc0_sem37_1 : DmaSem sig := 74
abbrev cc0_sem38_0 : DmaSem sig := 75
abbrev cc0_sem38_1 : DmaSem sig := 76
abbrev cc0_sem39_0 : DmaSem sig := 77
abbrev cc0_sem39_1 : DmaSem sig := 78
abbrev cc0_sem40_0 : DmaSem sig := 79
abbrev cc0_sem40_1 : DmaSem sig := 80
abbrev cc0_sem41_0 : DmaSem sig := 81
abbrev cc0_sem41_1 : DmaSem sig := 82
abbrev cc0_sem42_0 : DmaSem sig := 83
abbrev cc0_sem42_1 : DmaSem sig := 84
abbrev cc0_sem43_0 : DmaSem sig := 85
abbrev cc0_sem43_1 : DmaSem sig := 86
abbrev cc0_sem44_0 : DmaSem sig := 87
abbrev cc0_sem44_1 : DmaSem sig := 88
abbrev cc0_sem45_0 : DmaSem sig := 89
abbrev cc0_sem45_1 : DmaSem sig := 90
abbrev cc0_sem46_0 : DmaSem sig := 91
abbrev cc0_sem46_1 : DmaSem sig := 92
abbrev cc0_sem47_0 : DmaSem sig := 93
abbrev cc0_sem47_1 : DmaSem sig := 94
abbrev cc0_sem48_0 : DmaSem sig := 95
abbrev cc0_sem48_1 : DmaSem sig := 96
abbrev cc0_sem49_0 : DmaSem sig := 97
abbrev cc0_sem49_1 : DmaSem sig := 98
abbrev cc0_sem50_0 : DmaSem sig := 99
abbrev cc0_sem50_1 : DmaSem sig := 100
abbrev cc0_sem51_0 : DmaSem sig := 101
abbrev cc0_sem51_1 : DmaSem sig := 102
abbrev cc0_sem52_0 : DmaSem sig := 103
abbrev cc0_sem52_1 : DmaSem sig := 104
abbrev cc0_sem53_0 : DmaSem sig := 105
abbrev cc0_sem53_1 : DmaSem sig := 106
abbrev cc0_sem54_0 : DmaSem sig := 107
abbrev cc0_sem54_1 : DmaSem sig := 108
abbrev cc0_sem55_0 : DmaSem sig := 109
abbrev cc0_sem55_1 : DmaSem sig := 110
abbrev cc0_sem56_0 : DmaSem sig := 111
abbrev cc0_sem56_1 : DmaSem sig := 112
abbrev cc0_sem57_0 : DmaSem sig := 113
abbrev cc0_sem57_1 : DmaSem sig := 114
abbrev cc0_sem58_0 : DmaSem sig := 115
abbrev cc0_sem58_1 : DmaSem sig := 116
abbrev cc0_sem59_0 : DmaSem sig := 117
abbrev cc0_sem59_1 : DmaSem sig := 118
abbrev cc0_sem60_0 : DmaSem sig := 119
abbrev cc0_sem60_1 : DmaSem sig := 120
abbrev cc0_sem61_0 : DmaSem sig := 121
abbrev cc0_sem61_1 : DmaSem sig := 122
abbrev cc0_sem62_0 : DmaSem sig := 123
abbrev cc0_sem62_1 : DmaSem sig := 124
abbrev cc0_sem63_0 : DmaSem sig := 125
abbrev cc0_sem63_1 : DmaSem sig := 126
abbrev cc0_sem64_0 : DmaSem sig := 127
abbrev cc0_sem64_1 : DmaSem sig := 128
abbrev cc0_sem65_0 : DmaSem sig := 129
abbrev cc0_sem65_1 : DmaSem sig := 130
abbrev cc0_sem66_0 : DmaSem sig := 131
abbrev cc0_sem66_1 : DmaSem sig := 132
abbrev cc0_sem67_0 : DmaSem sig := 133
abbrev cc0_sem67_1 : DmaSem sig := 134

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v0 : Index := Scalar.indexCast arg0
  let c3 : Index := 3#32
  ![v0.toNat, 3]
def k0_off5 (i : grid0.Coords) : Fin 2 → Nat :=
  let arg0 : BitVec 32 := BitVec.ofNat 32 (i 0).val
  let v0 : Index := Scalar.indexCast arg0
  let c4 : Index := 4#32
  ![v0.toNat, 4]
def k0_off6 (i : grid0.Coords) : Fin 2 → Nat :=
  let arg0 : BitVec 32 := BitVec.ofNat 32 (i 0).val
  let v0 : Index := Scalar.indexCast arg0
  let c5 : Index := 5#32
  ![v0.toNat, 5]
def k0_off7 (i : grid0.Coords) : Fin 2 → Nat :=
  let arg0 : BitVec 32 := BitVec.ofNat 32 (i 0).val
  let v0 : Index := Scalar.indexCast arg0
  let c6 : Index := 6#32
  ![v0.toNat, 6]
def k0_off8 (i : grid0.Coords) : Fin 2 → Nat :=
  let arg0 : BitVec 32 := BitVec.ofNat 32 (i 0).val
  let v0 : Index := Scalar.indexCast arg0
  let c7 : Index := 7#32
  ![v0.toNat, 7]
def k0_off9 (i : grid0.Coords) : Fin 2 → Nat :=
  let arg0 : BitVec 32 := BitVec.ofNat 32 (i 0).val
  let v0 : Index := Scalar.indexCast arg0
  let c8 : Index := 8#32
  ![v0.toNat, 8]
def k0_off10 (i : grid0.Coords) : Fin 2 → Nat :=
  let arg0 : BitVec 32 := BitVec.ofNat 32 (i 0).val
  let v0 : Index := Scalar.indexCast arg0
  let c9 : Index := 9#32
  ![v0.toNat, 9]
def k0_off11 (i : grid0.Coords) : Fin 2 → Nat :=
  let arg0 : BitVec 32 := BitVec.ofNat 32 (i 0).val
  let v0 : Index := Scalar.indexCast arg0
  let c10 : Index := 10#32
  ![v0.toNat, 10]
def k0_off12 (i : grid0.Coords) : Fin 2 → Nat :=
  let arg0 : BitVec 32 := BitVec.ofNat 32 (i 0).val
  let v0 : Index := Scalar.indexCast arg0
  let c11 : Index := 11#32
  ![v0.toNat, 11]
def k0_off13 (i : grid0.Coords) : Fin 2 → Nat :=
  let arg0 : BitVec 32 := BitVec.ofNat 32 (i 0).val
  let v0 : Index := Scalar.indexCast arg0
  let c12 : Index := 12#32
  ![v0.toNat, 12]
def k0_off14 (i : grid0.Coords) : Fin 2 → Nat :=
  let arg0 : BitVec 32 := BitVec.ofNat 32 (i 0).val
  let v0 : Index := Scalar.indexCast arg0
  let c13 : Index := 13#32
  ![v0.toNat, 13]
def k0_off15 (i : grid0.Coords) : Fin 2 → Nat :=
  let arg0 : BitVec 32 := BitVec.ofNat 32 (i 0).val
  let v0 : Index := Scalar.indexCast arg0
  let c14 : Index := 14#32
  ![v0.toNat, 14]
def k0_off16 (i : grid0.Coords) : Fin 2 → Nat :=
  let arg0 : BitVec 32 := BitVec.ofNat 32 (i 0).val
  let v0 : Index := Scalar.indexCast arg0
  let c15 : Index := 15#32
  ![v0.toNat, 15]
def k0_off17 (i : grid0.Coords) : Fin 2 → Nat :=
  let arg0 : BitVec 32 := BitVec.ofNat 32 (i 0).val
  let v0 : Index := Scalar.indexCast arg0
  let c16 : Index := 16#32
  ![v0.toNat, 16]
def k0_off18 (i : grid0.Coords) : Fin 2 → Nat :=
  let arg0 : BitVec 32 := BitVec.ofNat 32 (i 0).val
  let v0 : Index := Scalar.indexCast arg0
  let c17 : Index := 17#32
  ![v0.toNat, 17]
def k0_off19 (i : grid0.Coords) : Fin 2 → Nat :=
  let arg0 : BitVec 32 := BitVec.ofNat 32 (i 0).val
  let v0 : Index := Scalar.indexCast arg0
  let c18 : Index := 18#32
  ![v0.toNat, 18]
def k0_off20 (i : grid0.Coords) : Fin 2 → Nat :=
  let arg0 : BitVec 32 := BitVec.ofNat 32 (i 0).val
  let v0 : Index := Scalar.indexCast arg0
  let c19 : Index := 19#32
  ![v0.toNat, 19]
def k0_off21 (i : grid0.Coords) : Fin 2 → Nat :=
  let arg0 : BitVec 32 := BitVec.ofNat 32 (i 0).val
  let v0 : Index := Scalar.indexCast arg0
  let c20 : Index := 20#32
  ![v0.toNat, 20]
def k0_off22 (i : grid0.Coords) : Fin 2 → Nat :=
  let arg0 : BitVec 32 := BitVec.ofNat 32 (i 0).val
  let v0 : Index := Scalar.indexCast arg0
  let c21 : Index := 21#32
  ![v0.toNat, 21]
def k0_off23 (i : grid0.Coords) : Fin 2 → Nat :=
  let arg0 : BitVec 32 := BitVec.ofNat 32 (i 0).val
  let v0 : Index := Scalar.indexCast arg0
  let c22 : Index := 22#32
  ![v0.toNat, 22]
def k0_off24 (i : grid0.Coords) : Fin 2 → Nat :=
  let arg0 : BitVec 32 := BitVec.ofNat 32 (i 0).val
  let v0 : Index := Scalar.indexCast arg0
  let c23 : Index := 23#32
  ![v0.toNat, 23]
def k0_off25 (i : grid0.Coords) : Fin 2 → Nat :=
  let arg0 : BitVec 32 := BitVec.ofNat 32 (i 0).val
  let v0 : Index := Scalar.indexCast arg0
  let c24 : Index := 24#32
  ![v0.toNat, 24]
def k0_off26 (i : grid0.Coords) : Fin 2 → Nat :=
  let arg0 : BitVec 32 := BitVec.ofNat 32 (i 0).val
  let v0 : Index := Scalar.indexCast arg0
  let c25 : Index := 25#32
  ![v0.toNat, 25]
def k0_off27 (i : grid0.Coords) : Fin 2 → Nat :=
  let arg0 : BitVec 32 := BitVec.ofNat 32 (i 0).val
  let v0 : Index := Scalar.indexCast arg0
  let c26 : Index := 26#32
  ![v0.toNat, 26]
def k0_off28 (i : grid0.Coords) : Fin 2 → Nat :=
  let arg0 : BitVec 32 := BitVec.ofNat 32 (i 0).val
  let v0 : Index := Scalar.indexCast arg0
  let c27 : Index := 27#32
  ![v0.toNat, 27]
def k0_off29 (i : grid0.Coords) : Fin 2 → Nat :=
  let arg0 : BitVec 32 := BitVec.ofNat 32 (i 0).val
  let v0 : Index := Scalar.indexCast arg0
  let c28 : Index := 28#32
  ![v0.toNat, 28]
def k0_off30 (i : grid0.Coords) : Fin 2 → Nat :=
  let arg0 : BitVec 32 := BitVec.ofNat 32 (i 0).val
  let v0 : Index := Scalar.indexCast arg0
  let c29 : Index := 29#32
  ![v0.toNat, 29]
def k0_off31 (i : grid0.Coords) : Fin 2 → Nat :=
  let arg0 : BitVec 32 := BitVec.ofNat 32 (i 0).val
  let v0 : Index := Scalar.indexCast arg0
  let c30 : Index := 30#32
  ![v0.toNat, 30]
def k0_off32 (i : grid0.Coords) : Fin 2 → Nat :=
  let arg0 : BitVec 32 := BitVec.ofNat 32 (i 0).val
  let v0 : Index := Scalar.indexCast arg0
  let c31 : Index := 31#32
  ![v0.toNat, 31]
def k0_off33 (i : grid0.Coords) : Fin 2 → Nat :=
  let arg0 : BitVec 32 := BitVec.ofNat 32 (i 0).val
  let v0 : Index := Scalar.indexCast arg0
  let c32 : Index := 32#32
  ![v0.toNat, 32]
def k0_off34 (i : grid0.Coords) : Fin 2 → Nat :=
  let arg0 : BitVec 32 := BitVec.ofNat 32 (i 0).val
  let v0 : Index := Scalar.indexCast arg0
  let c33 : Index := 33#32
  ![v0.toNat, 33]
def k0_off35 (i : grid0.Coords) : Fin 2 → Nat :=
  let arg0 : BitVec 32 := BitVec.ofNat 32 (i 0).val
  let v0 : Index := Scalar.indexCast arg0
  let c34 : Index := 34#32
  ![v0.toNat, 34]
def k0_off36 (i : grid0.Coords) : Fin 2 → Nat :=
  let arg0 : BitVec 32 := BitVec.ofNat 32 (i 0).val
  let v0 : Index := Scalar.indexCast arg0
  let c35 : Index := 35#32
  ![v0.toNat, 35]
def k0_off37 (i : grid0.Coords) : Fin 2 → Nat :=
  let arg0 : BitVec 32 := BitVec.ofNat 32 (i 0).val
  let v0 : Index := Scalar.indexCast arg0
  let c36 : Index := 36#32
  ![v0.toNat, 36]
def k0_off38 (i : grid0.Coords) : Fin 2 → Nat :=
  let arg0 : BitVec 32 := BitVec.ofNat 32 (i 0).val
  let v0 : Index := Scalar.indexCast arg0
  let c37 : Index := 37#32
  ![v0.toNat, 37]
def k0_off39 (i : grid0.Coords) : Fin 2 → Nat :=
  let arg0 : BitVec 32 := BitVec.ofNat 32 (i 0).val
  let v0 : Index := Scalar.indexCast arg0
  let c38 : Index := 38#32
  ![v0.toNat, 38]
def k0_off40 (i : grid0.Coords) : Fin 2 → Nat :=
  let arg0 : BitVec 32 := BitVec.ofNat 32 (i 0).val
  let v0 : Index := Scalar.indexCast arg0
  let c39 : Index := 39#32
  ![v0.toNat, 39]
def k0_off41 (i : grid0.Coords) : Fin 2 → Nat :=
  let arg0 : BitVec 32 := BitVec.ofNat 32 (i 0).val
  let v0 : Index := Scalar.indexCast arg0
  let c40 : Index := 40#32
  ![v0.toNat, 40]
def k0_off42 (i : grid0.Coords) : Fin 2 → Nat :=
  let arg0 : BitVec 32 := BitVec.ofNat 32 (i 0).val
  let v0 : Index := Scalar.indexCast arg0
  let c41 : Index := 41#32
  ![v0.toNat, 41]
def k0_off43 (i : grid0.Coords) : Fin 2 → Nat :=
  let arg0 : BitVec 32 := BitVec.ofNat 32 (i 0).val
  let v0 : Index := Scalar.indexCast arg0
  let c42 : Index := 42#32
  ![v0.toNat, 42]
def k0_off44 (i : grid0.Coords) : Fin 2 → Nat :=
  let arg0 : BitVec 32 := BitVec.ofNat 32 (i 0).val
  let v0 : Index := Scalar.indexCast arg0
  let c43 : Index := 43#32
  ![v0.toNat, 43]
def k0_off45 (i : grid0.Coords) : Fin 2 → Nat :=
  let arg0 : BitVec 32 := BitVec.ofNat 32 (i 0).val
  let v0 : Index := Scalar.indexCast arg0
  let c44 : Index := 44#32
  ![v0.toNat, 44]
def k0_off46 (i : grid0.Coords) : Fin 2 → Nat :=
  let arg0 : BitVec 32 := BitVec.ofNat 32 (i 0).val
  let v0 : Index := Scalar.indexCast arg0
  let c45 : Index := 45#32
  ![v0.toNat, 45]
def k0_off47 (i : grid0.Coords) : Fin 2 → Nat :=
  let arg0 : BitVec 32 := BitVec.ofNat 32 (i 0).val
  let v0 : Index := Scalar.indexCast arg0
  let c46 : Index := 46#32
  ![v0.toNat, 46]
def k0_off48 (i : grid0.Coords) : Fin 2 → Nat :=
  let arg0 : BitVec 32 := BitVec.ofNat 32 (i 0).val
  let v0 : Index := Scalar.indexCast arg0
  let c47 : Index := 47#32
  ![v0.toNat, 47]
def k0_off49 (i : grid0.Coords) : Fin 2 → Nat :=
  let arg0 : BitVec 32 := BitVec.ofNat 32 (i 0).val
  let v0 : Index := Scalar.indexCast arg0
  let c48 : Index := 48#32
  ![v0.toNat, 48]
def k0_off50 (i : grid0.Coords) : Fin 2 → Nat :=
  let arg0 : BitVec 32 := BitVec.ofNat 32 (i 0).val
  let v0 : Index := Scalar.indexCast arg0
  let c49 : Index := 49#32
  ![v0.toNat, 49]
def k0_off51 (i : grid0.Coords) : Fin 2 → Nat :=
  let arg0 : BitVec 32 := BitVec.ofNat 32 (i 0).val
  let v0 : Index := Scalar.indexCast arg0
  let c50 : Index := 50#32
  ![v0.toNat, 50]
def k0_off52 (i : grid0.Coords) : Fin 2 → Nat :=
  let arg0 : BitVec 32 := BitVec.ofNat 32 (i 0).val
  let v0 : Index := Scalar.indexCast arg0
  let c51 : Index := 51#32
  ![v0.toNat, 51]
def k0_off53 (i : grid0.Coords) : Fin 2 → Nat :=
  let arg0 : BitVec 32 := BitVec.ofNat 32 (i 0).val
  let v0 : Index := Scalar.indexCast arg0
  let c52 : Index := 52#32
  ![v0.toNat, 52]
def k0_off54 (i : grid0.Coords) : Fin 2 → Nat :=
  let arg0 : BitVec 32 := BitVec.ofNat 32 (i 0).val
  let v0 : Index := Scalar.indexCast arg0
  let c53 : Index := 53#32
  ![v0.toNat, 53]
def k0_off55 (i : grid0.Coords) : Fin 2 → Nat :=
  let arg0 : BitVec 32 := BitVec.ofNat 32 (i 0).val
  let v0 : Index := Scalar.indexCast arg0
  let c54 : Index := 54#32
  ![v0.toNat, 54]
def k0_off56 (i : grid0.Coords) : Fin 2 → Nat :=
  let arg0 : BitVec 32 := BitVec.ofNat 32 (i 0).val
  let v0 : Index := Scalar.indexCast arg0
  let c55 : Index := 55#32
  ![v0.toNat, 55]
def k0_off57 (i : grid0.Coords) : Fin 2 → Nat :=
  let arg0 : BitVec 32 := BitVec.ofNat 32 (i 0).val
  let v0 : Index := Scalar.indexCast arg0
  let c56 : Index := 56#32
  ![v0.toNat, 56]
def k0_off58 (i : grid0.Coords) : Fin 2 → Nat :=
  let arg0 : BitVec 32 := BitVec.ofNat 32 (i 0).val
  let v0 : Index := Scalar.indexCast arg0
  let c57 : Index := 57#32
  ![v0.toNat, 57]
def k0_off59 (i : grid0.Coords) : Fin 2 → Nat :=
  let arg0 : BitVec 32 := BitVec.ofNat 32 (i 0).val
  let v0 : Index := Scalar.indexCast arg0
  let c58 : Index := 58#32
  ![v0.toNat, 58]
def k0_off60 (i : grid0.Coords) : Fin 2 → Nat :=
  let arg0 : BitVec 32 := BitVec.ofNat 32 (i 0).val
  let v0 : Index := Scalar.indexCast arg0
  let c59 : Index := 59#32
  ![v0.toNat, 59]
def k0_off61 (i : grid0.Coords) : Fin 2 → Nat :=
  let arg0 : BitVec 32 := BitVec.ofNat 32 (i 0).val
  let v0 : Index := Scalar.indexCast arg0
  let c60 : Index := 60#32
  ![v0.toNat, 60]
def k0_off62 (i : grid0.Coords) : Fin 2 → Nat :=
  let arg0 : BitVec 32 := BitVec.ofNat 32 (i 0).val
  let v0 : Index := Scalar.indexCast arg0
  let c61 : Index := 61#32
  ![v0.toNat, 61]
def k0_off63 (i : grid0.Coords) : Fin 2 → Nat :=
  let arg0 : BitVec 32 := BitVec.ofNat 32 (i 0).val
  let v0 : Index := Scalar.indexCast arg0
  let c62 : Index := 62#32
  ![v0.toNat, 62]
def k0_off64 (i : grid0.Coords) : Fin 2 → Nat :=
  let arg0 : BitVec 32 := BitVec.ofNat 32 (i 0).val
  let v0 : Index := Scalar.indexCast arg0
  let c63 : Index := 63#32
  ![v0.toNat, 63]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (k0_off1_inb : ∀ i : grid0.Coords, ∀ a, (k0_off1 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c0 : Index := 0#32
  let v1 : BitVec 32 := pf.at 0 (Rect.unit (s := S128x64) ![v0.toNat, 0] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off2_inb : ∀ i : grid0.Coords, ∀ a, (k0_off2 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c1 : Index := 1#32
  let v1 : BitVec 32 := pf.at 0 (Rect.unit (s := S128x64) ![v0.toNat, 1] S1x1.size (k0_off2_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off3_inb : ∀ i : grid0.Coords, ∀ a, (k0_off3 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c2 : Index := 2#32
  let v1 : BitVec 32 := pf.at 0 (Rect.unit (s := S128x64) ![v0.toNat, 2] S1x1.size (k0_off3_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off4_inb : ∀ i : grid0.Coords, ∀ a, (k0_off4 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c3 : Index := 3#32
  let v1 : BitVec 32 := pf.at 0 (Rect.unit (s := S128x64) ![v0.toNat, 3] S1x1.size (k0_off4_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (k0_off5_inb : ∀ i : grid0.Coords, ∀ a, (k0_off5 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c4 : Index := 4#32
  let v1 : BitVec 32 := pf.at 0 (Rect.unit (s := S128x64) ![v0.toNat, 4] S1x1.size (k0_off5_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_8 (k0_off6_inb : ∀ i : grid0.Coords, ∀ a, (k0_off6 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c5 : Index := 5#32
  let v1 : BitVec 32 := pf.at 0 (Rect.unit (s := S128x64) ![v0.toNat, 5] S1x1.size (k0_off6_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_9 (k0_off7_inb : ∀ i : grid0.Coords, ∀ a, (k0_off7 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c6 : Index := 6#32
  let v1 : BitVec 32 := pf.at 0 (Rect.unit (s := S128x64) ![v0.toNat, 6] S1x1.size (k0_off7_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_10 (k0_off8_inb : ∀ i : grid0.Coords, ∀ a, (k0_off8 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c7 : Index := 7#32
  let v1 : BitVec 32 := pf.at 0 (Rect.unit (s := S128x64) ![v0.toNat, 7] S1x1.size (k0_off8_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_11 (k0_off9_inb : ∀ i : grid0.Coords, ∀ a, (k0_off9 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c8 : Index := 8#32
  let v1 : BitVec 32 := pf.at 0 (Rect.unit (s := S128x64) ![v0.toNat, 8] S1x1.size (k0_off9_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_12 (k0_off10_inb : ∀ i : grid0.Coords, ∀ a, (k0_off10 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c9 : Index := 9#32
  let v1 : BitVec 32 := pf.at 0 (Rect.unit (s := S128x64) ![v0.toNat, 9] S1x1.size (k0_off10_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_13 (k0_off11_inb : ∀ i : grid0.Coords, ∀ a, (k0_off11 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c10 : Index := 10#32
  let v1 : BitVec 32 := pf.at 0 (Rect.unit (s := S128x64) ![v0.toNat, 10] S1x1.size (k0_off11_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_14 (k0_off12_inb : ∀ i : grid0.Coords, ∀ a, (k0_off12 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c11 : Index := 11#32
  let v1 : BitVec 32 := pf.at 0 (Rect.unit (s := S128x64) ![v0.toNat, 11] S1x1.size (k0_off12_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_15 (k0_off13_inb : ∀ i : grid0.Coords, ∀ a, (k0_off13 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c12 : Index := 12#32
  let v1 : BitVec 32 := pf.at 0 (Rect.unit (s := S128x64) ![v0.toNat, 12] S1x1.size (k0_off13_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_16 (k0_off14_inb : ∀ i : grid0.Coords, ∀ a, (k0_off14 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c13 : Index := 13#32
  let v1 : BitVec 32 := pf.at 0 (Rect.unit (s := S128x64) ![v0.toNat, 13] S1x1.size (k0_off14_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_17 (k0_off15_inb : ∀ i : grid0.Coords, ∀ a, (k0_off15 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c14 : Index := 14#32
  let v1 : BitVec 32 := pf.at 0 (Rect.unit (s := S128x64) ![v0.toNat, 14] S1x1.size (k0_off15_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_18 (k0_off16_inb : ∀ i : grid0.Coords, ∀ a, (k0_off16 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c15 : Index := 15#32
  let v1 : BitVec 32 := pf.at 0 (Rect.unit (s := S128x64) ![v0.toNat, 15] S1x1.size (k0_off16_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_19 (k0_off17_inb : ∀ i : grid0.Coords, ∀ a, (k0_off17 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c16 : Index := 16#32
  let v1 : BitVec 32 := pf.at 0 (Rect.unit (s := S128x64) ![v0.toNat, 16] S1x1.size (k0_off17_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_20 (k0_off18_inb : ∀ i : grid0.Coords, ∀ a, (k0_off18 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c17 : Index := 17#32
  let v1 : BitVec 32 := pf.at 0 (Rect.unit (s := S128x64) ![v0.toNat, 17] S1x1.size (k0_off18_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_21 (k0_off19_inb : ∀ i : grid0.Coords, ∀ a, (k0_off19 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c18 : Index := 18#32
  let v1 : BitVec 32 := pf.at 0 (Rect.unit (s := S128x64) ![v0.toNat, 18] S1x1.size (k0_off19_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_22 (k0_off20_inb : ∀ i : grid0.Coords, ∀ a, (k0_off20 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c19 : Index := 19#32
  let v1 : BitVec 32 := pf.at 0 (Rect.unit (s := S128x64) ![v0.toNat, 19] S1x1.size (k0_off20_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_23 (k0_off21_inb : ∀ i : grid0.Coords, ∀ a, (k0_off21 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c20 : Index := 20#32
  let v1 : BitVec 32 := pf.at 0 (Rect.unit (s := S128x64) ![v0.toNat, 20] S1x1.size (k0_off21_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_24 (k0_off22_inb : ∀ i : grid0.Coords, ∀ a, (k0_off22 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c21 : Index := 21#32
  let v1 : BitVec 32 := pf.at 0 (Rect.unit (s := S128x64) ![v0.toNat, 21] S1x1.size (k0_off22_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_25 (k0_off23_inb : ∀ i : grid0.Coords, ∀ a, (k0_off23 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c22 : Index := 22#32
  let v1 : BitVec 32 := pf.at 0 (Rect.unit (s := S128x64) ![v0.toNat, 22] S1x1.size (k0_off23_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_26 (k0_off24_inb : ∀ i : grid0.Coords, ∀ a, (k0_off24 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c23 : Index := 23#32
  let v1 : BitVec 32 := pf.at 0 (Rect.unit (s := S128x64) ![v0.toNat, 23] S1x1.size (k0_off24_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_27 (k0_off25_inb : ∀ i : grid0.Coords, ∀ a, (k0_off25 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c24 : Index := 24#32
  let v1 : BitVec 32 := pf.at 0 (Rect.unit (s := S128x64) ![v0.toNat, 24] S1x1.size (k0_off25_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_28 (k0_off26_inb : ∀ i : grid0.Coords, ∀ a, (k0_off26 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c25 : Index := 25#32
  let v1 : BitVec 32 := pf.at 0 (Rect.unit (s := S128x64) ![v0.toNat, 25] S1x1.size (k0_off26_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_29 (k0_off27_inb : ∀ i : grid0.Coords, ∀ a, (k0_off27 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c26 : Index := 26#32
  let v1 : BitVec 32 := pf.at 0 (Rect.unit (s := S128x64) ![v0.toNat, 26] S1x1.size (k0_off27_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_30 (k0_off28_inb : ∀ i : grid0.Coords, ∀ a, (k0_off28 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c27 : Index := 27#32
  let v1 : BitVec 32 := pf.at 0 (Rect.unit (s := S128x64) ![v0.toNat, 27] S1x1.size (k0_off28_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_31 (k0_off29_inb : ∀ i : grid0.Coords, ∀ a, (k0_off29 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c28 : Index := 28#32
  let v1 : BitVec 32 := pf.at 0 (Rect.unit (s := S128x64) ![v0.toNat, 28] S1x1.size (k0_off29_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_32 (k0_off30_inb : ∀ i : grid0.Coords, ∀ a, (k0_off30 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c29 : Index := 29#32
  let v1 : BitVec 32 := pf.at 0 (Rect.unit (s := S128x64) ![v0.toNat, 29] S1x1.size (k0_off30_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_33 (k0_off31_inb : ∀ i : grid0.Coords, ∀ a, (k0_off31 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c30 : Index := 30#32
  let v1 : BitVec 32 := pf.at 0 (Rect.unit (s := S128x64) ![v0.toNat, 30] S1x1.size (k0_off31_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_34 (k0_off32_inb : ∀ i : grid0.Coords, ∀ a, (k0_off32 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c31 : Index := 31#32
  let v1 : BitVec 32 := pf.at 0 (Rect.unit (s := S128x64) ![v0.toNat, 31] S1x1.size (k0_off32_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_35 (k0_off33_inb : ∀ i : grid0.Coords, ∀ a, (k0_off33 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c32 : Index := 32#32
  let v1 : BitVec 32 := pf.at 0 (Rect.unit (s := S128x64) ![v0.toNat, 32] S1x1.size (k0_off33_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_36 (k0_off34_inb : ∀ i : grid0.Coords, ∀ a, (k0_off34 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c33 : Index := 33#32
  let v1 : BitVec 32 := pf.at 0 (Rect.unit (s := S128x64) ![v0.toNat, 33] S1x1.size (k0_off34_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_37 (k0_off35_inb : ∀ i : grid0.Coords, ∀ a, (k0_off35 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c34 : Index := 34#32
  let v1 : BitVec 32 := pf.at 0 (Rect.unit (s := S128x64) ![v0.toNat, 34] S1x1.size (k0_off35_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_38 (k0_off36_inb : ∀ i : grid0.Coords, ∀ a, (k0_off36 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c35 : Index := 35#32
  let v1 : BitVec 32 := pf.at 0 (Rect.unit (s := S128x64) ![v0.toNat, 35] S1x1.size (k0_off36_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_39 (k0_off37_inb : ∀ i : grid0.Coords, ∀ a, (k0_off37 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c36 : Index := 36#32
  let v1 : BitVec 32 := pf.at 0 (Rect.unit (s := S128x64) ![v0.toNat, 36] S1x1.size (k0_off37_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_40 (k0_off38_inb : ∀ i : grid0.Coords, ∀ a, (k0_off38 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c37 : Index := 37#32
  let v1 : BitVec 32 := pf.at 0 (Rect.unit (s := S128x64) ![v0.toNat, 37] S1x1.size (k0_off38_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_41 (k0_off39_inb : ∀ i : grid0.Coords, ∀ a, (k0_off39 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c38 : Index := 38#32
  let v1 : BitVec 32 := pf.at 0 (Rect.unit (s := S128x64) ![v0.toNat, 38] S1x1.size (k0_off39_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_42 (k0_off40_inb : ∀ i : grid0.Coords, ∀ a, (k0_off40 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c39 : Index := 39#32
  let v1 : BitVec 32 := pf.at 0 (Rect.unit (s := S128x64) ![v0.toNat, 39] S1x1.size (k0_off40_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_43 (k0_off41_inb : ∀ i : grid0.Coords, ∀ a, (k0_off41 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c40 : Index := 40#32
  let v1 : BitVec 32 := pf.at 0 (Rect.unit (s := S128x64) ![v0.toNat, 40] S1x1.size (k0_off41_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_44 (k0_off42_inb : ∀ i : grid0.Coords, ∀ a, (k0_off42 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c41 : Index := 41#32
  let v1 : BitVec 32 := pf.at 0 (Rect.unit (s := S128x64) ![v0.toNat, 41] S1x1.size (k0_off42_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_45 (k0_off43_inb : ∀ i : grid0.Coords, ∀ a, (k0_off43 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c42 : Index := 42#32
  let v1 : BitVec 32 := pf.at 0 (Rect.unit (s := S128x64) ![v0.toNat, 42] S1x1.size (k0_off43_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_46 (k0_off44_inb : ∀ i : grid0.Coords, ∀ a, (k0_off44 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c43 : Index := 43#32
  let v1 : BitVec 32 := pf.at 0 (Rect.unit (s := S128x64) ![v0.toNat, 43] S1x1.size (k0_off44_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_47 (k0_off45_inb : ∀ i : grid0.Coords, ∀ a, (k0_off45 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c44 : Index := 44#32
  let v1 : BitVec 32 := pf.at 0 (Rect.unit (s := S128x64) ![v0.toNat, 44] S1x1.size (k0_off45_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_48 (k0_off46_inb : ∀ i : grid0.Coords, ∀ a, (k0_off46 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c45 : Index := 45#32
  let v1 : BitVec 32 := pf.at 0 (Rect.unit (s := S128x64) ![v0.toNat, 45] S1x1.size (k0_off46_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_49 (k0_off47_inb : ∀ i : grid0.Coords, ∀ a, (k0_off47 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c46 : Index := 46#32
  let v1 : BitVec 32 := pf.at 0 (Rect.unit (s := S128x64) ![v0.toNat, 46] S1x1.size (k0_off47_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_50 (k0_off48_inb : ∀ i : grid0.Coords, ∀ a, (k0_off48 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c47 : Index := 47#32
  let v1 : BitVec 32 := pf.at 0 (Rect.unit (s := S128x64) ![v0.toNat, 47] S1x1.size (k0_off48_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_51 (k0_off49_inb : ∀ i : grid0.Coords, ∀ a, (k0_off49 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c48 : Index := 48#32
  let v1 : BitVec 32 := pf.at 0 (Rect.unit (s := S128x64) ![v0.toNat, 48] S1x1.size (k0_off49_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_52 (k0_off50_inb : ∀ i : grid0.Coords, ∀ a, (k0_off50 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c49 : Index := 49#32
  let v1 : BitVec 32 := pf.at 0 (Rect.unit (s := S128x64) ![v0.toNat, 49] S1x1.size (k0_off50_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_53 (k0_off51_inb : ∀ i : grid0.Coords, ∀ a, (k0_off51 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c50 : Index := 50#32
  let v1 : BitVec 32 := pf.at 0 (Rect.unit (s := S128x64) ![v0.toNat, 50] S1x1.size (k0_off51_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_54 (k0_off52_inb : ∀ i : grid0.Coords, ∀ a, (k0_off52 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c51 : Index := 51#32
  let v1 : BitVec 32 := pf.at 0 (Rect.unit (s := S128x64) ![v0.toNat, 51] S1x1.size (k0_off52_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_55 (k0_off53_inb : ∀ i : grid0.Coords, ∀ a, (k0_off53 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c52 : Index := 52#32
  let v1 : BitVec 32 := pf.at 0 (Rect.unit (s := S128x64) ![v0.toNat, 52] S1x1.size (k0_off53_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_56 (k0_off54_inb : ∀ i : grid0.Coords, ∀ a, (k0_off54 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c53 : Index := 53#32
  let v1 : BitVec 32 := pf.at 0 (Rect.unit (s := S128x64) ![v0.toNat, 53] S1x1.size (k0_off54_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_57 (k0_off55_inb : ∀ i : grid0.Coords, ∀ a, (k0_off55 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c54 : Index := 54#32
  let v1 : BitVec 32 := pf.at 0 (Rect.unit (s := S128x64) ![v0.toNat, 54] S1x1.size (k0_off55_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_58 (k0_off56_inb : ∀ i : grid0.Coords, ∀ a, (k0_off56 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c55 : Index := 55#32
  let v1 : BitVec 32 := pf.at 0 (Rect.unit (s := S128x64) ![v0.toNat, 55] S1x1.size (k0_off56_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_59 (k0_off57_inb : ∀ i : grid0.Coords, ∀ a, (k0_off57 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c56 : Index := 56#32
  let v1 : BitVec 32 := pf.at 0 (Rect.unit (s := S128x64) ![v0.toNat, 56] S1x1.size (k0_off57_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_60 (k0_off58_inb : ∀ i : grid0.Coords, ∀ a, (k0_off58 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c57 : Index := 57#32
  let v1 : BitVec 32 := pf.at 0 (Rect.unit (s := S128x64) ![v0.toNat, 57] S1x1.size (k0_off58_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_61 (k0_off59_inb : ∀ i : grid0.Coords, ∀ a, (k0_off59 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c58 : Index := 58#32
  let v1 : BitVec 32 := pf.at 0 (Rect.unit (s := S128x64) ![v0.toNat, 58] S1x1.size (k0_off59_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_62 (k0_off60_inb : ∀ i : grid0.Coords, ∀ a, (k0_off60 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c59 : Index := 59#32
  let v1 : BitVec 32 := pf.at 0 (Rect.unit (s := S128x64) ![v0.toNat, 59] S1x1.size (k0_off60_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_63 (k0_off61_inb : ∀ i : grid0.Coords, ∀ a, (k0_off61 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c60 : Index := 60#32
  let v1 : BitVec 32 := pf.at 0 (Rect.unit (s := S128x64) ![v0.toNat, 60] S1x1.size (k0_off61_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_64 (k0_off62_inb : ∀ i : grid0.Coords, ∀ a, (k0_off62 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c61 : Index := 61#32
  let v1 : BitVec 32 := pf.at 0 (Rect.unit (s := S128x64) ![v0.toNat, 61] S1x1.size (k0_off62_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_65 (k0_off63_inb : ∀ i : grid0.Coords, ∀ a, (k0_off63 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c62 : Index := 62#32
  let v1 : BitVec 32 := pf.at 0 (Rect.unit (s := S128x64) ![v0.toNat, 62] S1x1.size (k0_off63_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_66 (k0_off64_inb : ∀ i : grid0.Coords, ∀ a, (k0_off64 i) a + S1x1.size a ≤ S128x64.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c63 : Index := 63#32
  let v1 : BitVec 32 := pf.at 0 (Rect.unit (s := S128x64) ![v0.toNat, 63] S1x1.size (k0_off64_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_67 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x320 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x320 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x320x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x320x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x320x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x320x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x320x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x320x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x320x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x320x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x320x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x320x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x320x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x320x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x320x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x320x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x320x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x320x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x320x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x320x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x320x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x320x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x320x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1x320x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x320x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x1x320x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x1x320x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x1x320x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x1x320x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x1x320x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x1x320x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x1x320x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x1x320x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x1x320x128 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x1x320x128 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x1x320x128 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x1x320x128 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1x1x320x128 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S1x1x320x128 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S1x1x320x128 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S1x1x320x128 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S1x1x320x128 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S1x1x320x128 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S1x1x320x128 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S1x1x320x128 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S1x1x320x128 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S1x1x320x128 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S1x1x320x128 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S1x1x320x128 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S1x1x320x128 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

abbrev stage0_51 : Fin 2 → Memref sig .tc .vmem S1x1x320x128 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true]

abbrev stage0_52 : Fin 2 → Memref sig .tc .vmem S1x1x320x128 .f32 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true]

abbrev stage0_53 : Fin 2 → Memref sig .tc .vmem S1x1x320x128 .f32 := fun | 0 => Memref.whole cc0_stg53_0 | 1 => Memref.whole cc0_stg53_1 | ⟨_ + 2, h⟩ => absurd h (Nat.not_lt.2 (Nat.le_add_left _ _))
abbrev sem0_53 : Fin 2 → DmaSem sig := fun | 0 => cc0_sem53_0 | 1 => cc0_sem53_1 | ⟨_ + 2, h⟩ => absurd h (Nat.not_lt.2 (Nat.le_add_left _ _))
abbrev reads0_53 : Fin grid0.rank → Bool := ![true]

abbrev stage0_54 : Fin 2 → Memref sig .tc .vmem S1x1x320x128 .f32 := fun | 0 => Memref.whole cc0_stg54_0 | 1 => Memref.whole cc0_stg54_1 | ⟨_ + 2, h⟩ => absurd h (Nat.not_lt.2 (Nat.le_add_left _ _))
abbrev sem0_54 : Fin 2 → DmaSem sig := fun | 0 => cc0_sem54_0 | 1 => cc0_sem54_1 | ⟨_ + 2, h⟩ => absurd h (Nat.not_lt.2 (Nat.le_add_left _ _))
abbrev reads0_54 : Fin grid0.rank → Bool := ![true]

abbrev stage0_55 : Fin 2 → Memref sig .tc .vmem S1x1x320x128 .f32 := fun | 0 => Memref.whole cc0_stg55_0 | 1 => Memref.whole cc0_stg55_1 | ⟨_ + 2, h⟩ => absurd h (Nat.not_lt.2 (Nat.le_add_left _ _))
abbrev sem0_55 : Fin 2 → DmaSem sig := fun | 0 => cc0_sem55_0 | 1 => cc0_sem55_1 | ⟨_ + 2, h⟩ => absurd h (Nat.not_lt.2 (Nat.le_add_left _ _))
abbrev reads0_55 : Fin grid0.rank → Bool := ![true]

abbrev stage0_56 : Fin 2 → Memref sig .tc .vmem S1x1x320x128 .f32 := fun | 0 => Memref.whole cc0_stg56_0 | 1 => Memref.whole cc0_stg56_1 | ⟨_ + 2, h⟩ => absurd h (Nat.not_lt.2 (Nat.le_add_left _ _))
abbrev sem0_56 : Fin 2 → DmaSem sig := fun | 0 => cc0_sem56_0 | 1 => cc0_sem56_1 | ⟨_ + 2, h⟩ => absurd h (Nat.not_lt.2 (Nat.le_add_left _ _))
abbrev reads0_56 : Fin grid0.rank → Bool := ![true]

abbrev stage0_57 : Fin 2 → Memref sig .tc .vmem S1x1x320x128 .f32 := fun | 0 => Memref.whole cc0_stg57_0 | 1 => Memref.whole cc0_stg57_1 | ⟨_ + 2, h⟩ => absurd h (Nat.not_lt.2 (Nat.le_add_left _ _))
abbrev sem0_57 : Fin 2 → DmaSem sig := fun | 0 => cc0_sem57_0 | 1 => cc0_sem57_1 | ⟨_ + 2, h⟩ => absurd h (Nat.not_lt.2 (Nat.le_add_left _ _))
abbrev reads0_57 : Fin grid0.rank → Bool := ![true]

abbrev stage0_58 : Fin 2 → Memref sig .tc .vmem S1x1x320x128 .f32 := fun | 0 => Memref.whole cc0_stg58_0 | 1 => Memref.whole cc0_stg58_1 | ⟨_ + 2, h⟩ => absurd h (Nat.not_lt.2 (Nat.le_add_left _ _))
abbrev sem0_58 : Fin 2 → DmaSem sig := fun | 0 => cc0_sem58_0 | 1 => cc0_sem58_1 | ⟨_ + 2, h⟩ => absurd h (Nat.not_lt.2 (Nat.le_add_left _ _))
abbrev reads0_58 : Fin grid0.rank → Bool := ![true]

abbrev stage0_59 : Fin 2 → Memref sig .tc .vmem S1x1x320x128 .f32 := fun | 0 => Memref.whole cc0_stg59_0 | 1 => Memref.whole cc0_stg59_1 | ⟨_ + 2, h⟩ => absurd h (Nat.not_lt.2 (Nat.le_add_left _ _))
abbrev sem0_59 : Fin 2 → DmaSem sig := fun | 0 => cc0_sem59_0 | 1 => cc0_sem59_1 | ⟨_ + 2, h⟩ => absurd h (Nat.not_lt.2 (Nat.le_add_left _ _))
abbrev reads0_59 : Fin grid0.rank → Bool := ![true]

abbrev stage0_60 : Fin 2 → Memref sig .tc .vmem S1x1x320x128 .f32 := fun | 0 => Memref.whole cc0_stg60_0 | 1 => Memref.whole cc0_stg60_1 | ⟨_ + 2, h⟩ => absurd h (Nat.not_lt.2 (Nat.le_add_left _ _))
abbrev sem0_60 : Fin 2 → DmaSem sig := fun | 0 => cc0_sem60_0 | 1 => cc0_sem60_1 | ⟨_ + 2, h⟩ => absurd h (Nat.not_lt.2 (Nat.le_add_left _ _))
abbrev reads0_60 : Fin grid0.rank → Bool := ![true]

abbrev stage0_61 : Fin 2 → Memref sig .tc .vmem S1x1x320x128 .f32 := fun | 0 => Memref.whole cc0_stg61_0 | 1 => Memref.whole cc0_stg61_1 | ⟨_ + 2, h⟩ => absurd h (Nat.not_lt.2 (Nat.le_add_left _ _))
abbrev sem0_61 : Fin 2 → DmaSem sig := fun | 0 => cc0_sem61_0 | 1 => cc0_sem61_1 | ⟨_ + 2, h⟩ => absurd h (Nat.not_lt.2 (Nat.le_add_left _ _))
abbrev reads0_61 : Fin grid0.rank → Bool := ![true]

abbrev stage0_62 : Fin 2 → Memref sig .tc .vmem S1x1x320x128 .f32 := fun | 0 => Memref.whole cc0_stg62_0 | 1 => Memref.whole cc0_stg62_1 | ⟨_ + 2, h⟩ => absurd h (Nat.not_lt.2 (Nat.le_add_left _ _))
abbrev sem0_62 : Fin 2 → DmaSem sig := fun | 0 => cc0_sem62_0 | 1 => cc0_sem62_1 | ⟨_ + 2, h⟩ => absurd h (Nat.not_lt.2 (Nat.le_add_left _ _))
abbrev reads0_62 : Fin grid0.rank → Bool := ![true]

abbrev stage0_63 : Fin 2 → Memref sig .tc .vmem S1x1x320x128 .f32 := fun | 0 => Memref.whole cc0_stg63_0 | 1 => Memref.whole cc0_stg63_1 | ⟨_ + 2, h⟩ => absurd h (Nat.not_lt.2 (Nat.le_add_left _ _))
abbrev sem0_63 : Fin 2 → DmaSem sig := fun | 0 => cc0_sem63_0 | 1 => cc0_sem63_1 | ⟨_ + 2, h⟩ => absurd h (Nat.not_lt.2 (Nat.le_add_left _ _))
abbrev reads0_63 : Fin grid0.rank → Bool := ![true]

abbrev stage0_64 : Fin 2 → Memref sig .tc .vmem S1x1x320x128 .f32 := fun | 0 => Memref.whole cc0_stg64_0 | 1 => Memref.whole cc0_stg64_1 | ⟨_ + 2, h⟩ => absurd h (Nat.not_lt.2 (Nat.le_add_left _ _))
abbrev sem0_64 : Fin 2 → DmaSem sig := fun | 0 => cc0_sem64_0 | 1 => cc0_sem64_1 | ⟨_ + 2, h⟩ => absurd h (Nat.not_lt.2 (Nat.le_add_left _ _))
abbrev reads0_64 : Fin grid0.rank → Bool := ![true]

abbrev stage0_65 : Fin 2 → Memref sig .tc .vmem S1x1x320x128 .f32 := fun | 0 => Memref.whole cc0_stg65_0 | 1 => Memref.whole cc0_stg65_1 | ⟨_ + 2, h⟩ => absurd h (Nat.not_lt.2 (Nat.le_add_left _ _))
abbrev sem0_65 : Fin 2 → DmaSem sig := fun | 0 => cc0_sem65_0 | 1 => cc0_sem65_1 | ⟨_ + 2, h⟩ => absurd h (Nat.not_lt.2 (Nat.le_add_left _ _))
abbrev reads0_65 : Fin grid0.rank → Bool := ![true]

abbrev stage0_66 : Fin 2 → Memref sig .tc .vmem S1x1x320x128 .f32 := fun | 0 => Memref.whole cc0_stg66_0 | 1 => Memref.whole cc0_stg66_1 | ⟨_ + 2, h⟩ => absurd h (Nat.not_lt.2 (Nat.le_add_left _ _))
abbrev sem0_66 : Fin 2 → DmaSem sig := fun | 0 => cc0_sem66_0 | 1 => cc0_sem66_1 | ⟨_ + 2, h⟩ => absurd h (Nat.not_lt.2 (Nat.le_add_left _ _))
abbrev reads0_66 : Fin grid0.rank → Bool := ![true]

abbrev stage0_67 : Fin 2 → Memref sig .tc .vmem S1x8x1024 .f32 := fun | 0 => Memref.whole cc0_stg67_0 | 1 => Memref.whole cc0_stg67_1 | ⟨_ + 2, h⟩ => absurd h (Nat.not_lt.2 (Nat.le_add_left _ _))
abbrev sem0_67 : Fin 2 → DmaSem sig := fun | 0 => cc0_sem67_0 | 1 => cc0_sem67_1 | ⟨_ + 2, h⟩ => absurd h (Nat.not_lt.2 (Nat.le_add_left _ _))
abbrev reads0_67 : Fin grid0.rank → Bool := ![true]
-- ==== Kernel7Ideal.lean ====
variable {F : FTy → Type} [FloatOps F] [Named F]
def κ : String → Option EReal := fun
  | "neg_big" => some ⊥
  | _ => none
-- ==== Reference7Ideal.lean ====
abbrev S128x8x8x256 : Shape := ⟨4, ![128, 8, 8, 256]⟩
abbrev S128x8x8x64 : Shape := ⟨4, ![128, 8, 8, 64]⟩
abbrev S128x8x320 : Shape := ⟨3, ![128, 8, 320]⟩
abbrev S128x64 : Shape := ⟨2, ![128, 64]⟩
abbrev S2x10240x128x320 : Shape := ⟨4, ![2, 10240, 128, 320]⟩
abbrev S256x8x256 : Shape := ⟨3, ![256, 8, 256]⟩
abbrev S8192 : Shape := ⟨1, ![8192]⟩
abbrev S8 : Shape := ⟨1, ![8]⟩
abbrev S_ : Shape := ⟨0, ![]⟩
abbrev S1x10240x128x320 : Shape := ⟨4, ![1, 10240, 128, 320]⟩
abbrev S10240x128x320 : Shape := ⟨3, ![10240, 128, 320]⟩
abbrev S128x64x1 : Shape := ⟨3, ![128, 64, 1]⟩
abbrev S128x64x128x320 : Shape := ⟨4, ![128, 64, 128, 320]⟩
abbrev S128x8192x320 : Shape := ⟨3, ![128, 8192, 320]⟩
abbrev S128x8192x256 : Shape := ⟨3, ![128, 8192, 256]⟩
abbrev S128x8192x8x8 : Shape := ⟨4, ![128, 8192, 8, 8]⟩
abbrev S128x8x8x8192 : Shape := ⟨4, ![128, 8, 8, 8192]⟩
abbrev S128x8192x64 : Shape := ⟨3, ![128, 8192, 64]⟩
abbrev S1x8192 : Shape := ⟨2, ![1, 8192]⟩
abbrev S8x1 : Shape := ⟨2, ![8, 1]⟩
abbrev S8x8192 : Shape := ⟨2, ![8, 8192]⟩
abbrev S128x8x256 : Shape := ⟨3, ![128, 8, 256]⟩
abbrev S128x8x8x8 : Shape := ⟨4, ![128, 8, 8, 8]⟩
abbrev S128x8x64 : Shape := ⟨3, ![128, 8, 64]⟩
abbrev S1x8 : Shape := ⟨2, ![1, 8]⟩
abbrev S8x8 : Shape := ⟨2, ![8, 8]⟩
abbrev S128x8x8x8200 : Shape := ⟨4, ![128, 8, 8, 8200]⟩
abbrev S8x8200 : Shape := ⟨2, ![8, 8200]⟩
abbrev S128x8x8 : Shape := ⟨3, ![128, 8, 8]⟩
abbrev S128x8x8x1 : Shape := ⟨4, ![128, 8, 8, 1]⟩
abbrev S1x1x8x8200 : Shape := ⟨4, ![1, 1, 8, 8200]⟩
abbrev S128x256x8x8 : Shape := ⟨4, ![128, 256, 8, 8]⟩
abbrev S256x8x128 : Shape := ⟨3, ![256, 8, 128]⟩
abbrev S8x128x128x8 : Shape := ⟨4, ![8, 128, 128, 8]⟩
abbrev S128x8x8x128 : Shape := ⟨4, ![128, 8, 8, 128]⟩
abbrev S128x8x1024 : Shape := ⟨3, ![128, 8, 1024]⟩

abbrev nBuf : Space → Nat
  | .hbm => 85
  | .vmem => 0
  | .smem => 0
  | _ => 0

abbrev bufTy : (tb : Table) → Fin (tcTables nBuf tb) → BufTy
  | .hbm, ⟨0, _⟩ => ⟨S128x8x8x256, .f32⟩
  | .hbm, ⟨1, _⟩ => ⟨S128x8x8x64, .f32⟩
  | .hbm, ⟨2, _⟩ => ⟨S128x8x320, .f32⟩
  | .hbm, ⟨3, _⟩ => ⟨S128x64, .i32⟩
  | .hbm, ⟨4, _⟩ => ⟨S2x10240x128x320, .f32⟩
  | .hbm, ⟨5, _⟩ => ⟨S256x8x256, .f32⟩
  | .hbm, ⟨6, _⟩ => ⟨S8192, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S1x10240x128x320, .f32⟩
  | .hbm, ⟨12, _⟩ => ⟨S10240x128x320, .f32⟩
  | .hbm, ⟨13, _⟩ => ⟨S_, .i32⟩
  | .hbm, ⟨14, _⟩ => ⟨S128x64, .i32⟩
  | .hbm, ⟨15, _⟩ => ⟨S128x64, .i1⟩
  | .hbm, ⟨16, _⟩ => ⟨S_, .i32⟩
  | .hbm, ⟨17, _⟩ => ⟨S128x64, .i32⟩
  | .hbm, ⟨18, _⟩ => ⟨S128x64, .i32⟩
  | .hbm, ⟨19, _⟩ => ⟨S128x64, .i32⟩
  | .hbm, ⟨20, _⟩ => ⟨S128x64x1, .i32⟩
  | .hbm, ⟨21, _⟩ => ⟨S128x64x128x320, .f32⟩
  | .hbm, ⟨22, _⟩ => ⟨S128x8192x320, .f32⟩
  | .hbm, ⟨23, _⟩ => ⟨S128x8192x256, .f32⟩
  | .hbm, ⟨24, _⟩ => ⟨S128x8192x8x8, .f32⟩
  | .hbm, ⟨25, _⟩ => ⟨S128x8x8x8192, .f32⟩
  | .hbm, ⟨26, _⟩ => ⟨S128x8192x64, .f32⟩
  | .hbm, ⟨27, _⟩ => ⟨S128x8192x8x8, .f32⟩
  | .hbm, ⟨28, _⟩ => ⟨S128x8x8x8192, .f32⟩
  | .hbm, ⟨29, _⟩ => ⟨S128x8x8x8192, .f32⟩
  | .hbm, ⟨30, _⟩ => ⟨S1x8192, .i32⟩
  | .hbm, ⟨31, _⟩ => ⟨S8x1, .i32⟩
  | .hbm, ⟨32, _⟩ => ⟨S8x8192, .i32⟩
  | .hbm, ⟨33, _⟩ => ⟨S8x8192, .i32⟩
  | .hbm, ⟨34, _⟩ => ⟨S8x8192, .i1⟩
  | .hbm, ⟨35, _⟩ => ⟨S128x8x256, .f32⟩
  | .hbm, ⟨36, _⟩ => ⟨S128x8x8x8, .f32⟩
  | .hbm, ⟨37, _⟩ => ⟨S128x8x8x8, .f32⟩
  | .hbm, ⟨38, _⟩ => ⟨S128x8x64, .f32⟩
  | .hbm, ⟨39, _⟩ => ⟨S128x8x8x8, .f32⟩
  | .hbm, ⟨40, _⟩ => ⟨S128x8x8x8, .f32⟩
  | .hbm, ⟨41, _⟩ => ⟨S128x8x8x8, .f32⟩
  | .hbm, ⟨42, _⟩ => ⟨S1x8, .i32⟩
  | .hbm, ⟨43, _⟩ => ⟨S8x1, .i32⟩
  | .hbm, ⟨44, _⟩ => ⟨S8x8, .i32⟩
  | .hbm, ⟨45, _⟩ => ⟨S8x8, .i32⟩
  | .hbm, ⟨46, _⟩ => ⟨S8x8, .i1⟩
  | .hbm, ⟨47, _⟩ => ⟨S128x8x8x8200, .f32⟩
  | .hbm, ⟨48, _⟩ => ⟨S8x8200, .i1⟩
  | .hbm, ⟨49, _⟩ => ⟨S_, .f32⟩
  | .hbm, ⟨50, _⟩ => ⟨S_, .f32⟩
  | .hbm, ⟨51, _⟩ => ⟨S128x8x8x8200, .i1⟩
  | .hbm, ⟨52, _⟩ => ⟨S128x8x8x8200, .f32⟩
  | .hbm, ⟨53, _⟩ => ⟨S128x8x8x8200, .f32⟩
  | .hbm, ⟨54, _⟩ => ⟨S_, .f32⟩
  | .hbm, ⟨55, _⟩ => ⟨S128x8x8, .f32⟩
  | .hbm, ⟨56, _⟩ => ⟨S128x8x8x1, .f32⟩
  | .hbm, ⟨57, _⟩ => ⟨S128x8x8x8200, .f32⟩
  | .hbm, ⟨58, _⟩ => ⟨S128x8x8x8200, .f32⟩
  | .hbm, ⟨59, _⟩ => ⟨S128x8x8x8200, .f32⟩
  | .hbm, ⟨60, _⟩ => ⟨S8x8200, .f32⟩
  | .hbm, ⟨61, _⟩ => ⟨S1x1x8x8200, .f32⟩
  | .hbm, ⟨62, _⟩ => ⟨S128x8x8x8200, .f32⟩
  | .hbm, ⟨63, _⟩ => ⟨S128x8x8x8200, .f32⟩
  | .hbm, ⟨64, _⟩ => ⟨S_, .f32⟩
  | .hbm, ⟨65, _⟩ => ⟨S128x8x8, .f32⟩
  | .hbm, ⟨66, _⟩ => ⟨S128x8x8x1, .f32⟩
  | .hbm, ⟨67, _⟩ => ⟨S_, .f32⟩
  | .hbm, ⟨68, _⟩ => ⟨S128x8x8x1, .f32⟩
  | .hbm, ⟨69, _⟩ => ⟨S128x8x8x1, .f32⟩
  | .hbm, ⟨70, _⟩ => ⟨S128x8x8x8200, .f32⟩
  | .hbm, ⟨71, _⟩ => ⟨S128x8x8x8200, .f32⟩
  | .hbm, ⟨72, _⟩ => ⟨S128x8x8x8192, .f32⟩
  | .hbm, ⟨73, _⟩ => ⟨S128x8192x256, .f32⟩
  | .hbm, ⟨74, _⟩ => ⟨S128x256x8x8, .f32⟩
  | .hbm, ⟨75, _⟩ => ⟨S128x8x8x256, .f32⟩
  | .hbm, ⟨76, _⟩ => ⟨S128x8x8x8, .f32⟩
  | .hbm, ⟨77, _⟩ => ⟨S128x8x256, .f32⟩
  | .hbm, ⟨78, _⟩ => ⟨S128x256x8x8, .f32⟩
  | .hbm, ⟨79, _⟩ => ⟨S128x8x8x256, .f32⟩
  | .hbm, ⟨80, _⟩ => ⟨S128x8x8x256, .f32⟩
  | .hbm, ⟨81, _⟩ => ⟨S256x8x128, .f32⟩
  | .hbm, ⟨82, _⟩ => ⟨S8x128x128x8, .f32⟩
  | .hbm, ⟨83, _⟩ => ⟨S128x8x8x128, .f32⟩
  | .hbm, ⟨84, _⟩ => ⟨S128x8x1024, .f32⟩
  | _, _ => ⟨S128x8x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v40 : Ref sig .tc := ⟨.hbm, 53, rfl⟩
abbrev main_cst_2 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_3 : Ref sig .tc := ⟨.hbm, 64, rfl⟩
abbrev main_v50 : Ref sig .tc := ⟨.hbm, 65, rfl⟩
abbrev main_v51 : Ref sig .tc := ⟨.hbm, 66, rfl⟩
abbrev main_cst_4 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩

abbrev nD : Nat := 1
abbrev τ : Topo := Topo.v7x

variable {F : FTy → Type} [FloatOps F]
-- ==== Proof.MlaSample.Out.lean ====
/-
  Hand-written. What the decoding attention's body computes: its output block as a function of the staged
  queries, new rows, up-projection weights and the 64 staged pages.
-/
module

public import proofs.«01_k».proof.Proof.Gen.Kernel7Ideal.Frame.Runs
public import Idealize.ShloMosaic.Lib.VecWindow
public import Idealize.ShloMosaic.Lib.Pointwise
public import Idealize.ShloMosaic.Lib.Pipeline.TableIdle

@[expose] public section

set_option maxRecDepth 16384

noncomputable section

namespace Cert.Kernel7Ideal.Sample

open Cert.Kernel7Ideal Cert.Kernel7Ideal.Gen Cert.Kernel7Ideal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F] [Named F]

/-! ## What the body computes -/

/-- The queries of one sequence against one page: a score per query row and place of the page. -/
def pageScore (q : Vec F S1x64x320 .bf16) (x : Vec F S1x1x320x128 .f32) : FVec F S64x128 .f32 := k0_pay9 (k0_pay2 q) x

/-- All the past scores, page after page. -/
def scores (q : Vec F S1x64x320 .bf16) (xs : Fin 64 → Vec F S1x1x320x128 .f32) : Vec F S64x8192 .f32 := fun y =>
  pageScore q (xs ⟨(y 1).val / 128, by have h : (y 1).val < 8192 := (y 1).isLt; omega⟩)
    (ix2 (y 0) ⟨(y 1).val % 128, Nat.mod_lt _ (by decide)⟩)

/-- A page's value rows: its first 256. -/
abbrev valRows (x : Vec F S1x1x320x128 .f32) : Vec F S1x1x256x128 .f32 :=
  VecWindow.window (s := S1x1x320x128) x ![0, 0, 0, 0] S1x1x256x128.size (by intro a; fin_cases a <;> decide)

theorem inCols (p : Fin 64) : S64x8192.Slices ![0, 128 * p.val] S64x128 := by
  refine ⟨rfl, fun a => ?_⟩
  fin_cases a
  · show 0 + 64 ≤ 64
    decide
  · have h := p.isLt
    show 128 * p.val + 128 ≤ 8192
    omega

/-- One page's values, weighted, added to what has been gathered. -/
def addPage (e : FVec F S64x8192 .bf16) (p : Fin 64) (x : Vec F S1x1x256x128 .f32) (a : FVec F S64x256 .f32) : FVec F S64x256 .f32 :=
  addf a (matmul dot_S64x128_S256x128_S64x256_1_1_0_0_n_n none (extractStridedSlice S64x128 ![0, 128 * p.val] e (inCols p))
    (truncf .bf16 (shapeCast S256x128 x shapeCasts_S1x1x256x128_S256x128) bitsLt_bf16_f32) (constant S64x256 .f32 0x00000000#32))

/-- The values gathered from the new rows and the first `n` pages. -/
def gathered (e : FVec F S64x8192 .bf16) (vs : Fin 64 → Vec F S1x1x256x128 .f32) (a : FVec F S64x256 .f32) : (n : ℕ) → n ≤ 64 → FVec F S64x256 .f32
  | 0, _ => a
  | n + 1, h => addPage e ⟨n, h⟩ (vs ⟨n, h⟩) (gathered e vs a n (Nat.le_of_succ_le h))

/-- Normalised by the sum of the weights. -/
def latent (l : FVec F S64x1 .f32) (a : FVec F S64x256 .f32) : FVec F S64x256 .bf16 :=
  truncf .bf16 (divf a (broadcastTo S64x256 (maximumf l (broadcast S64x1 (Scalar.ofBits .f32 0x0DA24260#32))) broadcasts_S64x1_S64x256)) bitsLt_bf16_f32

/-- Head `h`'s up-projection weights. -/
abbrev upHead (u : Vec F S8x256x128 .bf16) (h : Fin 8) : Vec F S1x256x128 .bf16 :=
  VecWindow.window (s := S8x256x128) u ![h.val, 0, 0] S1x256x128.size (by intro a; fin_cases a <;> simp <;> omega)

/-- The output block from the normalised values: every head up-projected, side by side. -/
def project (o : FVec F S64x256 .bf16) (us : Fin 8 → Vec F S1x256x128 .bf16) : FVec F S1x8x1024 .f32 :=
  k0_pay1 o
    (k0_pay113 (extractStridedSlice S8x256 ![0, 0] o slices_S64x256_o0_0_S8x256) (k0_pay112 (us 0)))
    (k0_pay113 (extractStridedSlice S8x256 ![8, 0] o slices_S64x256_o8_0_S8x256) (k0_pay112 (us 1)))
    (k0_pay114 o (us 2)) (k0_pay115 o (us 3)) (k0_pay116 o (us 4)) (k0_pay117 o) (us 5) (us 6) (us 7)

/-- The output block from the queries, the new rows, the past scores, the pages' value rows and the heads' weights. -/
def outOf (q : FVec F S64x320 .bf16) (nw : Vec F S1x16x320 .bf16) (S : Vec F S64x8192 .f32) (vs : Fin 64 → Vec F S1x1x256x128 .f32)
    (us : Fin 8 → Vec F S1x256x128 .bf16) : FVec F S1x8x1024 .f32 :=
  project (latent (k0_pay89 q nw S) (gathered (k0_pay87 q nw S) vs (k0_pay90 q nw S) 64 le_rfl)) us

/-- The output block. -/
def out (q : Vec F S1x64x320 .bf16) (nw : Vec F S1x16x320 .bf16) (u : Vec F S8x256x128 .bf16) (xs : Fin 64 → Vec F S1x1x320x128 .f32) :
    FVec F S1x8x1024 .f32 :=
  outOf (k0_pay2 q) nw (scores q xs) (fun p => valRows (xs p)) (upHead u)

end Cert.Kernel7Ideal.Sample

end
-- ==== Proof.MlaSample.Step.lean ====
/-
  Hand-written. The decoding attention's body, run once: what its scratch of scores and its output block hold afterwards,
  as functions of the staged queries, new rows, up-projection weights and the 64 staged pages.
-/
module

public import proofs.«01_k».proof.Proof.MlaSample.Out
public import Idealize.ShloMosaic.Lib.VecWindow
public import Idealize.ShloMosaic.Lib.Pointwise
public import Idealize.ShloMosaic.Lib.Pipeline.TableIdle

@[expose] public section

set_option maxRecDepth 16384

noncomputable section

namespace Cert.Kernel7Ideal.Sample

open Cert.Kernel7Ideal Cert.Kernel7Ideal.Gen Cert.Kernel7Ideal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F] [Named F]

/-! ## The run -/

theorem inPiece (n : ℕ) (h : n + 1 ≤ 64) : ∀ a, (![0, 128 * n] : Fin 2 → ℕ) a + S64x128.size a ≤ S64x8192.size a := fun a => by
  fin_cases a
  · show 0 + 64 ≤ 64
    decide
  · show 128 * n + 128 ≤ 8192
    omega

/-- The first `n` stores of scores, the last first. -/
def pieces (P : Fin 64 → Vec F S64x128 .f32) : (n : ℕ) → n ≤ 64 → List (View.Piece (Elt F) S64x8192 .f32)
  | 0, _ => []
  | n + 1, h => ⟨Rect.unit (s := S64x8192) ![0, 128 * n] S64x128.size (inPiece n h), P ⟨n, h⟩⟩ :: pieces P n (Nat.le_of_succ_le h)

/-- What `n` stores of scores leave at a place they reach. -/
theorem canon_pieces (P : Fin 64 → Vec F S64x128 .f32) (n : ℕ) (h : n ≤ 64) (y : S64x8192.Idx) (hy : (y 1).val < 128 * n) :
    View.canon (pieces P n h) y
      = P ⟨(y 1).val / 128, by omega⟩ (ix2 (y 0) ⟨(y 1).val % 128, Nat.mod_lt _ (by decide)⟩) := by
  induction n with
  | zero => omega
  | succ n ih =>
    by_cases hm : 128 * n ≤ (y 1).val
    · have e : (Rect.unit (s := S64x8192) ![0, 128 * n] S64x128.size (inPiece n h)).emb
          (ix2 (y 0) ⟨(y 1).val % 128, Nat.mod_lt _ (by decide)⟩) = y := by
        funext a
        fin_cases a
        · exact Fin.ext (by show 0 + 1 * (y 0).val = (y 0).val; omega)
        · exact Fin.ext (by show 128 * n + 1 * ((y 1).val % 128) = (y 1).val; omega)
      have hk : (⟨(y 1).val / 128, by omega⟩ : Fin 64) = ⟨n, h⟩ := Fin.ext (by show (y 1).val / 128 = n; omega)
      rw [hk]
      conv_lhs => rw [← e]
      exact View.canon_cons_emb _ _ _ _
    · refine (View.canon_cons_of_not_mem _ _ ?_).trans (ih _ (by omega))
      intro hc
      have := ((Rect.mem_set_unit (inb := inPiece n h)).mp hc) 1
      exact hm this.1

/-- The scratch read whole after its 64 stores. -/
theorem read_scores (w : View sig .tc .vmem S64x8192 .f32) (P : Fin 64 → Vec F S64x128 .f32)
    (inb : ∀ a, (![0, 0] : Fin 2 → ℕ) a + S64x8192.size a ≤ S64x8192.size a) :
    w.readCov (pieces P 64 le_rfl) (Rect.unit (s := S64x8192) ![0, 0] S64x8192.size inb).toLoadRect
      = fun y => P ⟨(y 1).val / 128, by have h : (y 1).val < 8192 := (y 1).isLt; omega⟩
          (ix2 (y 0) ⟨(y 1).val % 128, Nat.mod_lt _ (by decide)⟩) := by
  rw [View.readCov_eq_canon']
  funext y
  have e : (Rect.unit (s := S64x8192) ![0, 0] S64x8192.size inb).toLoadRect.idx y = y := by
    funext a
    fin_cases a
    · exact Fin.ext (by show 0 + 1 * (y 0).val = (y 0).val; omega)
    · exact Fin.ext (by show 0 + 1 * (y 1).val = (y 1).val; omega)
  show View.canon (pieces P 64 le_rfl) ((Rect.unit (s := S64x8192) ![0, 0] S64x8192.size inb).toLoadRect.idx y) = _
  rw [e]
  exact canon_pieces P 64 le_rfl y (y 1).isLt

theorem inPage : ∀ a, (![0, 0, 0, 0] : Fin 4 → ℕ) a + S1x1x320x128.size a ≤ S1x1x320x128.size a := fun a => by fin_cases a <;> decide
theorem inRows : ∀ a, (![0, 0, 0, 0] : Fin 4 → ℕ) a + S1x1x256x128.size a ≤ S1x1x320x128.size a := fun a => by fin_cases a <;> decide
theorem inHead (h : Fin 8) : ∀ a, (![h.val, 0, 0] : Fin 3 → ℕ) a + S1x256x128.size a ≤ S8x256x128.size a := fun a => by
  fin_cases a <;> simp <;> omega

/-- The output block, from what is read of the memrefs, is `out` of what they hold. -/
theorem outOf_reads (pg : Fin 64 → Memref sig .tc .vmem S1x1x320x128 .f32) (w : View sig .tc .vmem S64x8192 .f32)
    (m2 : Memref sig .tc .vmem S1x64x320 .bf16) (m3 : Memref sig .tc .vmem S1x16x320 .bf16) (m4 : Memref sig .tc .vmem S8x256x128 .bf16)
    (q : Vec F S1x64x320 .bf16) (nw : Vec F S1x16x320 .bf16) (u : Vec F S8x256x128 .bf16) (xs : Fin 64 → Vec F S1x1x320x128 .f32)
    (inb2 inb3 inb) :
    outOf (k0_pay2 (m2.view.readAt (Elt F) (Rect.unit (s := S1x64x320) ![0, 0, 0] S1x64x320.size inb2).toLoadRect (m2.view.rep q)))
      (m3.view.readAt (Elt F) (Rect.unit (s := S1x16x320) ![0, 0, 0] S1x16x320.size inb3).toLoadRect (m3.view.rep nw))
      (w.readCov (pieces (fun p => pageScore
          (m2.view.readAt (Elt F) (Rect.unit (s := S1x64x320) ![0, 0, 0] S1x64x320.size inb2).toLoadRect (m2.view.rep q))
          ((pg p).view.readAt (Elt F) (Rect.unit (s := S1x1x320x128) ![0, 0, 0, 0] S1x1x320x128.size inPage).toLoadRect ((pg p).view.rep (xs p)))) 64 le_rfl)
        (Rect.unit (s := S64x8192) ![0, 0] S64x8192.size inb).toLoadRect)
      (fun p => (pg p).view.readAt (Elt F) (Rect.unit (s := S1x1x320x128) ![0, 0, 0, 0] S1x1x256x128.size inRows).toLoadRect ((pg p).view.rep (xs p)))
      (fun h => m4.view.readAt (Elt F) (Rect.unit (s := S8x256x128) ![h.val, 0, 0] S1x256x128.size (inHead h)).toLoadRect (m4.view.rep u))
      = out q nw u xs := by
  rw [read_scores]
  have e2 := View.readAt_rep_full m2.view q inb2
  have e3 := View.readAt_rep_full m3.view nw inb3
  have ep := fun p : Fin 64 => View.readAt_rep_full (pg p).view (xs p) inPage
  have ev := fun p : Fin 64 => View.readAt_rep_unit (pg p).view (xs p) inRows rfl inRows
  have eu := fun h : Fin 8 => View.readAt_rep_unit m4.view u (inHead h) rfl (inHead h)
  rw [e2, e3, funext ev, funext eu]
  simp only [ep]
  rfl

section Body

variable (c : Dev nD) (i : grid0.Coords) (arg1 : Memref sig .tc .smem S128x64 .i32) (harg1 : arg1.IsWhole)
  (arg2 : Memref sig .tc .vmem S1x64x320 .bf16) (harg2 : arg2.IsWhole)
  (arg3 : Memref sig .tc .vmem S1x16x320 .bf16) (harg3 : arg3.IsWhole)
  (arg4 : Memref sig .tc .vmem S8x256x128 .bf16) (harg4 : arg4.IsWhole)
  (arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36
   arg37 arg38 arg39 arg40 arg41 arg42 arg43 arg44 arg45 arg46 arg47 arg48 arg49 arg50 arg51 arg52 arg53 arg54 arg55 arg56 arg57 arg58 arg59 arg60 arg61 arg62 arg63 arg64 arg65 arg66 arg67
   arg68 : Memref sig .tc .vmem S1x1x320x128 .f32)
  (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole)
  (harg13 : arg13.IsWhole) (harg14 : arg14.IsWhole) (harg15 : arg15.IsWhole) (harg16 : arg16.IsWhole) (harg17 : arg17.IsWhole) (harg18 : arg18.IsWhole) (harg19 : arg19.IsWhole)
  (harg20 : arg20.IsWhole) (harg21 : arg21.IsWhole) (harg22 : arg22.IsWhole) (harg23 : arg23.IsWhole) (harg24 : arg24.IsWhole) (harg25 : arg25.IsWhole) (harg26 : arg26.IsWhole)
  (harg27 : arg27.IsWhole) (harg28 : arg28.IsWhole) (harg29 : arg29.IsWhole) (harg30 : arg30.IsWhole) (harg31 : arg31.IsWhole) (harg32 : arg32.IsWhole) (harg33 : arg33.IsWhole)
  (harg34 : arg34.IsWhole) (harg35 : arg35.IsWhole) (harg36 : arg36.IsWhole) (harg37 : arg37.IsWhole) (harg38 : arg38.IsWhole) (harg39 : arg39.IsWhole) (harg40 : arg40.IsWhole)
  (harg41 : arg41.IsWhole) (harg42 : arg42.IsWhole) (harg43 : arg43.IsWhole) (harg44 : arg44.IsWhole) (harg45 : arg45.IsWhole) (harg46 : arg46.IsWhole) (harg47 : arg47.IsWhole)
  (harg48 : arg48.IsWhole) (harg49 : arg49.IsWhole) (harg50 : arg50.IsWhole) (harg51 : arg51.IsWhole) (harg52 : arg52.IsWhole) (harg53 : arg53.IsWhole) (harg54 : arg54.IsWhole)
  (harg55 : arg55.IsWhole) (harg56 : arg56.IsWhole) (harg57 : arg57.IsWhole) (harg58 : arg58.IsWhole) (harg59 : arg59.IsWhole) (harg60 : arg60.IsWhole) (harg61 : arg61.IsWhole)
  (harg62 : arg62.IsWhole) (harg63 : arg63.IsWhole) (harg64 : arg64.IsWhole) (harg65 : arg65.IsWhole) (harg66 : arg66.IsWhole) (harg67 : arg67.IsWhole) (harg68 : arg68.IsWhole)
  (arg69 : Memref sig .tc .vmem S1x8x1024 .f32) (harg69 : arg69.IsWhole)
  (arg70 : Memref sig .tc .vmem S64x8192 .f32) (harg70 : arg70.IsWhole)
  (q : Vec F S1x64x320 .bf16) (nw : Vec F S1x16x320 .bf16) (u : Vec F S8x256x128 .bf16) (xs : Fin 64 → Vec F S1x1x320x128 .f32)

/-- The staged blocks held at their contents: queries, new rows, weights and the 64 pages. -/
abbrev held : sProp (MT nD τ sig Unit (Elt F) ℕ (UR sig nD τ) ℕ) :=
  iprop(owns (c : Thread nD τ) arg2 fullShare q ∗ owns (c : Thread nD τ) arg3 fullShare nw ∗ owns (c : Thread nD τ) arg4 fullShare u
    ∗ owns (c : Thread nD τ) arg5 fullShare (xs 0) ∗ owns (c : Thread nD τ) arg6 fullShare (xs 1) ∗ owns (c : Thread nD τ) arg7 fullShare (xs 2) ∗ owns (c : Thread nD τ) arg8 fullShare (xs 3)
    ∗ owns (c : Thread nD τ) arg9 fullShare (xs 4) ∗ owns (c : Thread nD τ) arg10 fullShare (xs 5) ∗ owns (c : Thread nD τ) arg11 fullShare (xs 6) ∗ owns (c : Thread nD τ) arg12 fullShare (xs 7)
    ∗ owns (c : Thread nD τ) arg13 fullShare (xs 8) ∗ owns (c : Thread nD τ) arg14 fullShare (xs 9) ∗ owns (c : Thread nD τ) arg15 fullShare (xs 10)
    ∗ owns (c : Thread nD τ) arg16 fullShare (xs 11) ∗ owns (c : Thread nD τ) arg17 fullShare (xs 12) ∗ owns (c : Thread nD τ) arg18 fullShare (xs 13)
    ∗ owns (c : Thread nD τ) arg19 fullShare (xs 14) ∗ owns (c : Thread nD τ) arg20 fullShare (xs 15) ∗ owns (c : Thread nD τ) arg21 fullShare (xs 16)
    ∗ owns (c : Thread nD τ) arg22 fullShare (xs 17) ∗ owns (c : Thread nD τ) arg23 fullShare (xs 18) ∗ owns (c : Thread nD τ) arg24 fullShare (xs 19)
    ∗ owns (c : Thread nD τ) arg25 fullShare (xs 20) ∗ owns (c : Thread nD τ) arg26 fullShare (xs 21) ∗ owns (c : Thread nD τ) arg27 fullShare (xs 22)
    ∗ owns (c : Thread nD τ) arg28 fullShare (xs 23) ∗ owns (c : Thread nD τ) arg29 fullShare (xs 24) ∗ owns (c : Thread nD τ) arg30 fullShare (xs 25)
    ∗ owns (c : Thread nD τ) arg31 fullShare (xs 26) ∗ owns (c : Thread nD τ) arg32 fullShare (xs 27) ∗ owns (c : Thread nD τ) arg33 fullShare (xs 28)
    ∗ owns (c : Thread nD τ) arg34 fullShare (xs 29) ∗ owns (c : Thread nD τ) arg35 fullShare (xs 30) ∗ owns (c : Thread nD τ) arg36 fullShare (xs 31)
    ∗ owns (c : Thread nD τ) arg37 fullShare (xs 32) ∗ owns (c : Thread nD τ) arg38 fullShare (xs 33) ∗ owns (c : Thread nD τ) arg39 fullShare (xs 34)
    ∗ owns (c : Thread nD τ) arg40 fullShare (xs 35) ∗ owns (c : Thread nD τ) arg41 fullShare (xs 36) ∗ owns (c : Thread nD τ) arg42 fullShare (xs 37)
    ∗ owns (c : Thread nD τ) arg43 fullShare (xs 38) ∗ owns (c : Thread nD τ) arg44 fullShare (xs 39) ∗ owns (c : Thread nD τ) arg45 fullShare (xs 40)
    ∗ owns (c : Thread nD τ) arg46 fullShare (xs 41) ∗ owns (c : Thread nD τ) arg47 fullShare (xs 42) ∗ owns (c : Thread nD τ) arg48 fullShare (xs 43)
    ∗ owns (c : Thread nD τ) arg49 fullShare (xs 44) ∗ owns (c : Thread nD τ) arg50 fullShare (xs 45) ∗ owns (c : Thread nD τ) arg51 fullShare (xs 46)
    ∗ owns (c : Thread nD τ) arg52 fullShare (xs 47) ∗ owns (c : Thread nD τ) arg53 fullShare (xs 48) ∗ owns (c : Thread nD τ) arg54 fullShare (xs 49)
    ∗ owns (c : Thread nD τ) arg55 fullShare (xs 50) ∗ owns (c : Thread nD τ) arg56 fullShare (xs 51) ∗ owns (c : Thread nD τ) arg57 fullShare (xs 52)
    ∗ owns (c : Thread nD τ) arg58 fullShare (xs 53) ∗ owns (c : Thread nD τ) arg59 fullShare (xs 54) ∗ owns (c : Thread nD τ) arg60 fullShare (xs 55)
    ∗ owns (c : Thread nD τ) arg61 fullShare (xs 56) ∗ owns (c : Thread nD τ) arg62 fullShare (xs 57) ∗ owns (c : Thread nD τ) arg63 fullShare (xs 58)
    ∗ owns (c : Thread nD τ) arg64 fullShare (xs 59) ∗ owns (c : Thread nD τ) arg65 fullShare (xs 60) ∗ owns (c : Thread nD τ) arg66 fullShare (xs 61)
    ∗ owns (c : Thread nD τ) arg67 fullShare (xs 62) ∗ owns (c : Thread nD τ) arg68 fullShare (xs 63))

set_option maxHeartbeats 0 in
/-- The body's run: the staged blocks are kept, the output block is `out` of them, the scratch holds something. -/
theorem body_run (K : PUnit → sProp (MT nD τ sig Unit (Elt F) ℕ (UR sig nD τ) ℕ)) :
    iprop(held c arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34
      arg35 arg36 arg37 arg38 arg39 arg40 arg41 arg42 arg43 arg44 arg45 arg46 arg47 arg48 arg49 arg50 arg51 arg52 arg53 arg54 arg55 arg56 arg57 arg58 arg59 arg60 arg61 arg62 arg63 arg64 arg65
      arg66 arg67 arg68 q nw u xs
        ∗ (∃ d, owns (c : Thread nD τ) arg69 fullShare d) ∗ (∃ d, owns (c : Thread nD τ) arg70 fullShare d)
        ∗ (iprop(held c arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34
      arg35 arg36 arg37 arg38 arg39 arg40 arg41 arg42 arg43 arg44 arg45 arg46 arg47 arg48 arg49 arg50 arg51 arg52 arg53 arg54 arg55 arg56 arg57 arg58 arg59 arg60 arg61 arg62 arg63 arg64 arg65
      arg66 arg67 arg68 q nw u xs
            ∗ owns (c : Thread nD τ) arg69 fullShare (out q nw u xs) ∗ (∃ d, owns (c : Thread nD τ) arg70 fullShare d)) -∗ K ⟨⟩))
      ⊢ wp frame (wpE (defs₀ (F := F)) Variants.none c none) Set.univ
          (cc0_mla_sample i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
            arg17 harg17 arg18 harg18 arg19 harg19 arg20 harg20 arg21 harg21 arg22 harg22 arg23 harg23 arg24 harg24 arg25 harg25 arg26 harg26 arg27 harg27 arg28 harg28 arg29 harg29 arg30 harg30
            arg31 harg31 arg32 harg32 arg33 harg33 arg34 harg34 arg35 harg35 arg36 harg36 arg37 harg37 arg38 harg38 arg39 harg39 arg40 harg40 arg41 harg41 arg42 harg42 arg43 harg43 arg44 harg44
            arg45 harg45 arg46 harg46 arg47 harg47 arg48 harg48 arg49 harg49 arg50 harg50 arg51 harg51 arg52 harg52 arg53 harg53 arg54 harg54 arg55 harg55 arg56 harg56 arg57 harg57 arg58 harg58
            arg59 harg59 arg60 harg60 arg61 harg61 arg62 harg62 arg63 harg63 arg64 harg64 arg65 harg65 arg66 harg66 arg67 harg67 arg68 harg68 arg69 harg69 arg70 harg70) K := by
  simp only [cc0_mla_sample_eq_skeleton]; unfold cc0_mla_sample_skel
  simp only [k0_part1_eq_skeleton, k0_part2_eq_skeleton, k0_part3_eq_skeleton, k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton]
  unfold held
  simp only [owns_eq_rep]
  iintro ⟨⟨H2, H3, H4, H5, H6, H7, H8, H9, H10, H11, H12, H13, H14, H15, H16, H17, H18, H19, H20, H21, H22, H23, H24, H25, H26, H27, H28, H29, H30, H31, H32, H33, H34, H35, H36, H37, H38, H39, H40,
    H41, H42, H43, H44, H45, H46, H47, H48, H49, H50, H51, H52, H53, H54, H55, H56, H57, H58, H59, H60, H61, H62, H63, H64, H65, H66, H67, H68⟩, ⟨%d69, H69⟩, ⟨%d70, H70⟩, Hk⟩
  sl_exec
  sl_step
  iapply Hk
  isplitl [H2 H3 H4 H5 H6 H7 H8 H9 H10 H11 H12 H13 H14 H15 H16 H17 H18 H19 H20 H21 H22 H23 H24 H25 H26 H27 H28 H29 H30 H31 H32 H33 H34 H35 H36 H37 H38 H39 H40 H41 H42 H43 H44 H45 H46 H47 H48 H49 H50
    H51 H52 H53 H54 H55 H56 H57 H58 H59 H60 H61 H62 H63 H64 H65 H66 H67 H68]
  · iframe
  isplitl [H69]
  · iapply (rep_of_owns (c : Thread nD τ) arg69 fullShare _)
    unfold owns
    iexists _; isplitr; swap; · iexact H69
    ipureintro
    refine (View.read_writes_full _ _ _ _ _).trans ?_
    exact (outOf_reads ![arg5, arg6, arg7, arg8, arg9, arg10, arg11, arg12, arg13, arg14, arg15, arg16, arg17, arg18, arg19, arg20, arg21, arg22, arg23, arg24, arg25, arg26,
      arg27, arg28, arg29, arg30, arg31, arg32, arg33, arg34, arg35, arg36, arg37, arg38, arg39, arg40, arg41, arg42, arg43, arg44, arg45, arg46, arg47,
      arg48, arg49, arg50, arg51, arg52, arg53, arg54, arg55, arg56, arg57, arg58, arg59, arg60, arg61, arg62, arg63, arg64, arg65, arg66, arg67, arg68] arg70.view arg2 arg3 arg4 q nw u xs inb_S1x64x320_S1x64x320_0_0_0 inb_S1x16x320_S1x16x320_0_0_0
      inb_S64x8192_S64x8192_0_0)
  iexists (arg70.view.read (Elt F) _)
  iapply (rep_of_owns (c : Thread nD τ) arg70 fullShare _)
  unfold owns
  iexists _; isplitr; swap; · iexact H70
  ipureintro; rfl

end Body

end Cert.Kernel7Ideal.Sample

end
-- ==== Proof.MlaSample.Run.lean ====
/-
  Hand-written. The decoding attention's launch: what each staged block holds at a grid point, the body's obligation from
  the body's run, and the whole launch with the counters at zero, for any page table that stays inside the pool.
-/
module

public import proofs.«01_k».proof.Proof.MlaSample.Step
public import Idealize.ShloMosaic.Lib.Claim

@[expose] public section

set_option maxRecDepth 16384

noncomputable section

namespace Cert.Kernel7Ideal.Sample

open Cert.Kernel7Ideal Cert.Kernel7Ideal.Gen Cert.Kernel7Ideal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]
variable (m : (ℓ : Loc nD τ sig) → Buf (Elt F) ℓ) (ρ : Dev nD → PrngReg)

/-- The 64 pages staged at a grid point. -/
def pages (hO : Ok m) (c : Dev nD) (t : Fin (cfgM m hO).N) : Fin 64 → Vec F S1x1x320x128 .f32 :=
  ![iblk m hO c 3 t, iblk m hO c 4 t, iblk m hO c 5 t, iblk m hO c 6 t, iblk m hO c 7 t, iblk m hO c 8 t, iblk m hO c 9 t, iblk m hO c 10 t, iblk m hO c
    11 t, iblk m hO c 12 t, iblk m hO c 13 t, iblk m hO c 14 t, iblk m hO c 15 t, iblk m hO c 16 t, iblk m hO c 17 t, iblk m hO c 18 t, iblk m hO c 19 t,
    iblk m hO c 20 t, iblk m hO c 21 t, iblk m hO c 22 t, iblk m hO c 23 t, iblk m hO c 24 t, iblk m hO c 25 t, iblk m hO c 26 t, iblk m hO c 27 t, iblk m
    hO c 28 t, iblk m hO c 29 t, iblk m hO c 30 t, iblk m hO c 31 t, iblk m hO c 32 t, iblk m hO c 33 t, iblk m hO c 34 t, iblk m hO c 35 t, iblk m hO c
    36 t, iblk m hO c 37 t, iblk m hO c 38 t, iblk m hO c 39 t, iblk m hO c 40 t, iblk m hO c 41 t, iblk m hO c 42 t, iblk m hO c 43 t, iblk m hO c 44 t,
    iblk m hO c 45 t, iblk m hO c 46 t, iblk m hO c 47 t, iblk m hO c 48 t, iblk m hO c 49 t, iblk m hO c 50 t, iblk m hO c 51 t, iblk m hO c 52 t, iblk m
    hO c 53 t, iblk m hO c 54 t, iblk m hO c 55 t, iblk m hO c 56 t, iblk m hO c 57 t, iblk m hO c 58 t, iblk m hO c 59 t, iblk m hO c 60 t, iblk m hO c
    61 t, iblk m hO c 62 t, iblk m hO c 63 t, iblk m hO c 64 t, iblk m hO c 65 t, iblk m hO c 66 t]

/-- The output block of a grid point. -/
def outAt (hO : Ok m) (c : Dev nD) (t : Fin (cfgM m hO).N) : Vec F S1x8x1024 .f32 :=
  out (iblk m hO c 0 t) (iblk m hO c 1 t) (iblk m hO c 2 t) (pages m hO c t)

/-- The proof data: every input block stays in place, the output block is `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => pages m hO c t 0
    | ⟨4, _⟩ => pages m hO c t 1
    | ⟨5, _⟩ => pages m hO c t 2
    | ⟨6, _⟩ => pages m hO c t 3
    | ⟨7, _⟩ => pages m hO c t 4
    | ⟨8, _⟩ => pages m hO c t 5
    | ⟨9, _⟩ => pages m hO c t 6
    | ⟨10, _⟩ => pages m hO c t 7
    | ⟨11, _⟩ => pages m hO c t 8
    | ⟨12, _⟩ => pages m hO c t 9
    | ⟨13, _⟩ => pages m hO c t 10
    | ⟨14, _⟩ => pages m hO c t 11
    | ⟨15, _⟩ => pages m hO c t 12
    | ⟨16, _⟩ => pages m hO c t 13
    | ⟨17, _⟩ => pages m hO c t 14
    | ⟨18, _⟩ => pages m hO c t 15
    | ⟨19, _⟩ => pages m hO c t 16
    | ⟨20, _⟩ => pages m hO c t 17
    | ⟨21, _⟩ => pages m hO c t 18
    | ⟨22, _⟩ => pages m hO c t 19
    | ⟨23, _⟩ => pages m hO c t 20
    | ⟨24, _⟩ => pages m hO c t 21
    | ⟨25, _⟩ => pages m hO c t 22
    | ⟨26, _⟩ => pages m hO c t 23
    | ⟨27, _⟩ => pages m hO c t 24
    | ⟨28, _⟩ => pages m hO c t 25
    | ⟨29, _⟩ => pages m hO c t 26
    | ⟨30, _⟩ => pages m hO c t 27
    | ⟨31, _⟩ => pages m hO c t 28
    | ⟨32, _⟩ => pages m hO c t 29
    | ⟨33, _⟩ => pages m hO c t 30
    | ⟨34, _⟩ => pages m hO c t 31
    | ⟨35, _⟩ => pages m hO c t 32
    | ⟨36, _⟩ => pages m hO c t 33
    | ⟨37, _⟩ => pages m hO c t 34
    | ⟨38, _⟩ => pages m hO c t 35
    | ⟨39, _⟩ => pages m hO c t 36
    | ⟨40, _⟩ => pages m hO c t 37
    | ⟨41, _⟩ => pages m hO c t 38
    | ⟨42, _⟩ => pages m hO c t 39
    | ⟨43, _⟩ => pages m hO c t 40
    | ⟨44, _⟩ => pages m hO c t 41
    | ⟨45, _⟩ => pages m hO c t 42
    | ⟨46, _⟩ => pages m hO c t 43
    | ⟨47, _⟩ => pages m hO c t 44
    | ⟨48, _⟩ => pages m hO c t 45
    | ⟨49, _⟩ => pages m hO c t 46
    | ⟨50, _⟩ => pages m hO c t 47
    | ⟨51, _⟩ => pages m hO c t 48
    | ⟨52, _⟩ => pages m hO c t 49
    | ⟨53, _⟩ => pages m hO c t 50
    | ⟨54, _⟩ => pages m hO c t 51
    | ⟨55, _⟩ => pages m hO c t 52
    | ⟨56, _⟩ => pages m hO c t 53
    | ⟨57, _⟩ => pages m hO c t 54
    | ⟨58, _⟩ => pages m hO c t 55
    | ⟨59, _⟩ => pages m hO c t 56
    | ⟨60, _⟩ => pages m hO c t 57
    | ⟨61, _⟩ => pages m hO c t 58
    | ⟨62, _⟩ => pages m hO c t 59
    | ⟨63, _⟩ => pages m hO c t 60
    | ⟨64, _⟩ => pages m hO c t 61
    | ⟨65, _⟩ => pages m hO c t 62
    | ⟨66, _⟩ => pages m hO c t 63
    | ⟨67, _⟩ => outAt m hO c t
    | ⟨_ + 68, h⟩ => absurd h (Nat.not_lt.2 (Nat.le_add_left _ _))
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

section Found

variable (hO : Ok m) (c : Dev nD) (t : Fin (cfgM m hO).N) (d)

theorem found0 (d) : (dats m hO 0 c).before 0 t d = iblk m hO c 0 t :=
  before0_0_of m hO (dats m hO 0 c) (A_eq m hO c 0) (fun _ => rfl) t d
theorem found1 (d) : (dats m hO 0 c).before 1 t d = iblk m hO c 1 t :=
  before0_1_of m hO (dats m hO 0 c) (A_eq m hO c 1) (fun _ => rfl) t d
theorem found2 (d) : (dats m hO 0 c).before 2 t d = iblk m hO c 2 t :=
  before0_2_of m hO (dats m hO 0 c) (A_eq m hO c 2) (fun _ => rfl) t d
theorem found3 (d) : (dats m hO 0 c).before 3 t d = pages m hO c t 0 :=
  before0_3_of m hO (dats m hO 0 c) (A_eq m hO c 3) (fun _ => rfl) t d
theorem found4 (d) : (dats m hO 0 c).before 4 t d = pages m hO c t 1 :=
  before0_4_of m hO (dats m hO 0 c) (A_eq m hO c 4) (fun _ => rfl) t d
theorem found5 (d) : (dats m hO 0 c).before 5 t d = pages m hO c t 2 :=
  before0_5_of m hO (dats m hO 0 c) (A_eq m hO c 5) (fun _ => rfl) t d
theorem found6 (d) : (dats m hO 0 c).before 6 t d = pages m hO c t 3 :=
  before0_6_of m hO (dats m hO 0 c) (A_eq m hO c 6) (fun _ => rfl) t d
theorem found7 (d) : (dats m hO 0 c).before 7 t d = pages m hO c t 4 :=
  before0_7_of m hO (dats m hO 0 c) (A_eq m hO c 7) (fun _ => rfl) t d
theorem found8 (d) : (dats m hO 0 c).before 8 t d = pages m hO c t 5 :=
  before0_8_of m hO (dats m hO 0 c) (A_eq m hO c 8) (fun _ => rfl) t d
theorem found9 (d) : (dats m hO 0 c).before 9 t d = pages m hO c t 6 :=
  before0_9_of m hO (dats m hO 0 c) (A_eq m hO c 9) (fun _ => rfl) t d
theorem found10 (d) : (dats m hO 0 c).before 10 t d = pages m hO c t 7 :=
  before0_10_of m hO (dats m hO 0 c) (A_eq m hO c 10) (fun _ => rfl) t d
theorem found11 (d) : (dats m hO 0 c).before 11 t d = pages m hO c t 8 :=
  before0_11_of m hO (dats m hO 0 c) (A_eq m hO c 11) (fun _ => rfl) t d
theorem found12 (d) : (dats m hO 0 c).before 12 t d = pages m hO c t 9 :=
  before0_12_of m hO (dats m hO 0 c) (A_eq m hO c 12) (fun _ => rfl) t d
theorem found13 (d) : (dats m hO 0 c).before 13 t d = pages m hO c t 10 :=
  before0_13_of m hO (dats m hO 0 c) (A_eq m hO c 13) (fun _ => rfl) t d
theorem found14 (d) : (dats m hO 0 c).before 14 t d = pages m hO c t 11 :=
  before0_14_of m hO (dats m hO 0 c) (A_eq m hO c 14) (fun _ => rfl) t d
theorem found15 (d) : (dats m hO 0 c).before 15 t d = pages m hO c t 12 :=
  before0_15_of m hO (dats m hO 0 c) (A_eq m hO c 15) (fun _ => rfl) t d
theorem found16 (d) : (dats m hO 0 c).before 16 t d = pages m hO c t 13 :=
  before0_16_of m hO (dats m hO 0 c) (A_eq m hO c 16) (fun _ => rfl) t d
theorem found17 (d) : (dats m hO 0 c).before 17 t d = pages m hO c t 14 :=
  before0_17_of m hO (dats m hO 0 c) (A_eq m hO c 17) (fun _ => rfl) t d
theorem found18 (d) : (dats m hO 0 c).before 18 t d = pages m hO c t 15 :=
  before0_18_of m hO (dats m hO 0 c) (A_eq m hO c 18) (fun _ => rfl) t d
theorem found19 (d) : (dats m hO 0 c).before 19 t d = pages m hO c t 16 :=
  before0_19_of m hO (dats m hO 0 c) (A_eq m hO c 19) (fun _ => rfl) t d
theorem found20 (d) : (dats m hO 0 c).before 20 t d = pages m hO c t 17 :=
  before0_20_of m hO (dats m hO 0 c) (A_eq m hO c 20) (fun _ => rfl) t d
theorem found21 (d) : (dats m hO 0 c).before 21 t d = pages m hO c t 18 :=
  before0_21_of m hO (dats m hO 0 c) (A_eq m hO c 21) (fun _ => rfl) t d
theorem found22 (d) : (dats m hO 0 c).before 22 t d = pages m hO c t 19 :=
  before0_22_of m hO (dats m hO 0 c) (A_eq m hO c 22) (fun _ => rfl) t d
theorem found23 (d) : (dats m hO 0 c).before 23 t d = pages m hO c t 20 :=
  before0_23_of m hO (dats m hO 0 c) (A_eq m hO c 23) (fun _ => rfl) t d
theorem found24 (d) : (dats m hO 0 c).before 24 t d = pages m hO c t 21 :=
  before0_24_of m hO (dats m hO 0 c) (A_eq m hO c 24) (fun _ => rfl) t d
theorem found25 (d) : (dats m hO 0 c).before 25 t d = pages m hO c t 22 :=
  before0_25_of m hO (dats m hO 0 c) (A_eq m hO c 25) (fun _ => rfl) t d
theorem found26 (d) : (dats m hO 0 c).before 26 t d = pages m hO c t 23 :=
  before0_26_of m hO (dats m hO 0 c) (A_eq m hO c 26) (fun _ => rfl) t d
theorem found27 (d) : (dats m hO 0 c).before 27 t d = pages m hO c t 24 :=
  before0_27_of m hO (dats m hO 0 c) (A_eq m hO c 27) (fun _ => rfl) t d
theorem found28 (d) : (dats m hO 0 c).before 28 t d = pages m hO c t 25 :=
  before0_28_of m hO (dats m hO 0 c) (A_eq m hO c 28) (fun _ => rfl) t d
theorem found29 (d) : (dats m hO 0 c).before 29 t d = pages m hO c t 26 :=
  before0_29_of m hO (dats m hO 0 c) (A_eq m hO c 29) (fun _ => rfl) t d
theorem found30 (d) : (dats m hO 0 c).before 30 t d = pages m hO c t 27 :=
  before0_30_of m hO (dats m hO 0 c) (A_eq m hO c 30) (fun _ => rfl) t d
theorem found31 (d) : (dats m hO 0 c).before 31 t d = pages m hO c t 28 :=
  before0_31_of m hO (dats m hO 0 c) (A_eq m hO c 31) (fun _ => rfl) t d
theorem found32 (d) : (dats m hO 0 c).before 32 t d = pages m hO c t 29 :=
  before0_32_of m hO (dats m hO 0 c) (A_eq m hO c 32) (fun _ => rfl) t d
theorem found33 (d) : (dats m hO 0 c).before 33 t d = pages m hO c t 30 :=
  before0_33_of m hO (dats m hO 0 c) (A_eq m hO c 33) (fun _ => rfl) t d
theorem found34 (d) : (dats m hO 0 c).before 34 t d = pages m hO c t 31 :=
  before0_34_of m hO (dats m hO 0 c) (A_eq m hO c 34) (fun _ => rfl) t d
theorem found35 (d) : (dats m hO 0 c).before 35 t d = pages m hO c t 32 :=
  before0_35_of m hO (dats m hO 0 c) (A_eq m hO c 35) (fun _ => rfl) t d
theorem found36 (d) : (dats m hO 0 c).before 36 t d = pages m hO c t 33 :=
  before0_36_of m hO (dats m hO 0 c) (A_eq m hO c 36) (fun _ => rfl) t d
theorem found37 (d) : (dats m hO 0 c).before 37 t d = pages m hO c t 34 :=
  before0_37_of m hO (dats m hO 0 c) (A_eq m hO c 37) (fun _ => rfl) t d
theorem found38 (d) : (dats m hO 0 c).before 38 t d = pages m hO c t 35 :=
  before0_38_of m hO (dats m hO 0 c) (A_eq m hO c 38) (fun _ => rfl) t d
theorem found39 (d) : (dats m hO 0 c).before 39 t d = pages m hO c t 36 :=
  before0_39_of m hO (dats m hO 0 c) (A_eq m hO c 39) (fun _ => rfl) t d
theorem found40 (d) : (dats m hO 0 c).before 40 t d = pages m hO c t 37 :=
  before0_40_of m hO (dats m hO 0 c) (A_eq m hO c 40) (fun _ => rfl) t d
theorem found41 (d) : (dats m hO 0 c).before 41 t d = pages m hO c t 38 :=
  before0_41_of m hO (dats m hO 0 c) (A_eq m hO c 41) (fun _ => rfl) t d
theorem found42 (d) : (dats m hO 0 c).before 42 t d = pages m hO c t 39 :=
  before0_42_of m hO (dats m hO 0 c) (A_eq m hO c 42) (fun _ => rfl) t d
theorem found43 (d) : (dats m hO 0 c).before 43 t d = pages m hO c t 40 :=
  before0_43_of m hO (dats m hO 0 c) (A_eq m hO c 43) (fun _ => rfl) t d
theorem found44 (d) : (dats m hO 0 c).before 44 t d = pages m hO c t 41 :=
  before0_44_of m hO (dats m hO 0 c) (A_eq m hO c 44) (fun _ => rfl) t d
theorem found45 (d) : (dats m hO 0 c).before 45 t d = pages m hO c t 42 :=
  before0_45_of m hO (dats m hO 0 c) (A_eq m hO c 45) (fun _ => rfl) t d
theorem found46 (d) : (dats m hO 0 c).before 46 t d = pages m hO c t 43 :=
  before0_46_of m hO (dats m hO 0 c) (A_eq m hO c 46) (fun _ => rfl) t d
theorem found47 (d) : (dats m hO 0 c).before 47 t d = pages m hO c t 44 :=
  before0_47_of m hO (dats m hO 0 c) (A_eq m hO c 47) (fun _ => rfl) t d
theorem found48 (d) : (dats m hO 0 c).before 48 t d = pages m hO c t 45 :=
  before0_48_of m hO (dats m hO 0 c) (A_eq m hO c 48) (fun _ => rfl) t d
theorem found49 (d) : (dats m hO 0 c).before 49 t d = pages m hO c t 46 :=
  before0_49_of m hO (dats m hO 0 c) (A_eq m hO c 49) (fun _ => rfl) t d
theorem found50 (d) : (dats m hO 0 c).before 50 t d = pages m hO c t 47 :=
  before0_50_of m hO (dats m hO 0 c) (A_eq m hO c 50) (fun _ => rfl) t d
theorem found51 (d) : (dats m hO 0 c).before 51 t d = pages m hO c t 48 :=
  before0_51_of m hO (dats m hO 0 c) (A_eq m hO c 51) (fun _ => rfl) t d
theorem found52 (d) : (dats m hO 0 c).before 52 t d = pages m hO c t 49 :=
  before0_52_of m hO (dats m hO 0 c) (A_eq m hO c 52) (fun _ => rfl) t d
theorem found53 (d) : (dats m hO 0 c).before 53 t d = pages m hO c t 50 :=
  before0_53_of m hO (dats m hO 0 c) (A_eq m hO c 53) (fun _ => rfl) t d
theorem found54 (d) : (dats m hO 0 c).before 54 t d = pages m hO c t 51 :=
  before0_54_of m hO (dats m hO 0 c) (A_eq m hO c 54) (fun _ => rfl) t d
theorem found55 (d) : (dats m hO 0 c).before 55 t d = pages m hO c t 52 :=
  before0_55_of m hO (dats m hO 0 c) (A_eq m hO c 55) (fun _ => rfl) t d
theorem found56 (d) : (dats m hO 0 c).before 56 t d = pages m hO c t 53 :=
  before0_56_of m hO (dats m hO 0 c) (A_eq m hO c 56) (fun _ => rfl) t d
theorem found57 (d) : (dats m hO 0 c).before 57 t d = pages m hO c t 54 :=
  before0_57_of m hO (dats m hO 0 c) (A_eq m hO c 57) (fun _ => rfl) t d
theorem found58 (d) : (dats m hO 0 c).before 58 t d = pages m hO c t 55 :=
  before0_58_of m hO (dats m hO 0 c) (A_eq m hO c 58) (fun _ => rfl) t d
theorem found59 (d) : (dats m hO 0 c).before 59 t d = pages m hO c t 56 :=
  before0_59_of m hO (dats m hO 0 c) (A_eq m hO c 59) (fun _ => rfl) t d
theorem found60 (d) : (dats m hO 0 c).before 60 t d = pages m hO c t 57 :=
  before0_60_of m hO (dats m hO 0 c) (A_eq m hO c 60) (fun _ => rfl) t d
theorem found61 (d) : (dats m hO 0 c).before 61 t d = pages m hO c t 58 :=
  before0_61_of m hO (dats m hO 0 c) (A_eq m hO c 61) (fun _ => rfl) t d
theorem found62 (d) : (dats m hO 0 c).before 62 t d = pages m hO c t 59 :=
  before0_62_of m hO (dats m hO 0 c) (A_eq m hO c 62) (fun _ => rfl) t d
theorem found63 (d) : (dats m hO 0 c).before 63 t d = pages m hO c t 60 :=
  before0_63_of m hO (dats m hO 0 c) (A_eq m hO c 63) (fun _ => rfl) t d
theorem found64 (d) : (dats m hO 0 c).before 64 t d = pages m hO c t 61 :=
  before0_64_of m hO (dats m hO 0 c) (A_eq m hO c 64) (fun _ => rfl) t d
theorem found65 (d) : (dats m hO 0 c).before 65 t d = pages m hO c t 62 :=
  before0_65_of m hO (dats m hO 0 c) (A_eq m hO c 65) (fun _ => rfl) t d
theorem found66 (d) : (dats m hO 0 c).before 66 t d = pages m hO c t 63 :=
  before0_66_of m hO (dats m hO 0 c) (A_eq m hO c 66) (fun _ => rfl) t d

end Found

/-! ## The body's obligation -/

set_option maxHeartbeats 0 in
/-- The body's obligation at every point. -/
theorem body_obligation (hO : Ok m) (c : Dev nD) : BodyObligation (dats (F := F) m hO 0 c) (defs₀ (F := F)) Variants.none () Set.univ := fun t => by
  rw [bigSep_W0, bigSep_W0]
  unfold defs₀; rw [Defs.onTc_tc]
  refine triple_restated (P := iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare ((dats m hO 0 c).before 34 t d))
    ∗ (∃ d, owns (c : Thread nD τ) (ms0_35 m hO t) fullShare ((dats m hO 0 c).before 35 t d))
    ∗ (∃ d, owns (c : Thread nD τ) (ms0_36 m hO t) fullShare ((dats m hO 0 c).before 36 t d))
    ∗ (∃ d, owns (c : Thread nD τ) (ms0_37 m hO t) fullShare ((dats m hO 0 c).before 37 t d))
    ∗ (∃ d, owns (c : Thread nD τ) (ms0_38 m hO t) fullShare ((dats m hO 0 c).before 38 t d))
    ∗ (∃ d, owns (c : Thread nD τ) (ms0_39 m hO t) fullShare ((dats m hO 0 c).before 39 t d))
    ∗ (∃ d, owns (c : Thread nD τ) (ms0_40 m hO t) fullShare ((dats m hO 0 c).before 40 t d))
    ∗ (∃ d, owns (c : Thread nD τ) (ms0_41 m hO t) fullShare ((dats m hO 0 c).before 41 t d))
    ∗ (∃ d, owns (c : Thread nD τ) (ms0_42 m hO t) fullShare ((dats m hO 0 c).before 42 t d))
    ∗ (∃ d, owns (c : Thread nD τ) (ms0_43 m hO t) fullShare ((dats m hO 0 c).before 43 t d))
    ∗ (∃ d, owns (c : Thread nD τ) (ms0_44 m hO t) fullShare ((dats m hO 0 c).before 44 t d))
    ∗ (∃ d, owns (c : Thread nD τ) (ms0_45 m hO t) fullShare ((dats m hO 0 c).before 45 t d))
    ∗ (∃ d, owns (c : Thread nD τ) (ms0_46 m hO t) fullShare ((dats m hO 0 c).before 46 t d))
    ∗ (∃ d, owns (c : Thread nD τ) (ms0_47 m hO t) fullShare ((dats m hO 0 c).before 47 t d))
    ∗ (∃ d, owns (c : Thread nD τ) (ms0_48 m hO t) fullShare ((dats m hO 0 c).before 48 t d))
    ∗ (∃ d, owns (c : Thread nD τ) (ms0_49 m hO t) fullShare ((dats m hO 0 c).before 49 t d))
    ∗ (∃ d, owns (c : Thread nD τ) (ms0_50 m hO t) fullShare ((dats m hO 0 c).before 50 t d))
    ∗ (∃ d, owns (c : Thread nD τ) (ms0_51 m hO t) fullShare ((dats m hO 0 c).before 51 t d))
    ∗ (∃ d, owns (c : Thread nD τ) (ms0_52 m hO t) fullShare ((dats m hO 0 c).before 52 t d))
    ∗ (∃ d, owns (c : Thread nD τ) (ms0_53 m hO t) fullShare ((dats m hO 0 c).before 53 t d))
    ∗ (∃ d, owns (c : Thread nD τ) (ms0_54 m hO t) fullShare ((dats m hO 0 c).before 54 t d))
    ∗ (∃ d, owns (c : Thread nD τ) (ms0_55 m hO t) fullShare ((dats m hO 0 c).before 55 t d))
    ∗ (∃ d, owns (c : Thread nD τ) (ms0_56 m hO t) fullShare ((dats m hO 0 c).before 56 t d))
    ∗ (∃ d, owns (c : Thread nD τ) (ms0_57 m hO t) fullShare ((dats m hO 0 c).before 57 t d))
    ∗ (∃ d, owns (c : Thread nD τ) (ms0_58 m hO t) fullShare ((dats m hO 0 c).before 58 t d))
    ∗ (∃ d, owns (c : Thread nD τ) (ms0_59 m hO t) fullShare ((dats m hO 0 c).before 59 t d))
    ∗ (∃ d, owns (c : Thread nD τ) (ms0_60 m hO t) fullShare ((dats m hO 0 c).before 60 t d))
    ∗ (∃ d, owns (c : Thread nD τ) (ms0_61 m hO t) fullShare ((dats m hO 0 c).before 61 t d))
    ∗ (∃ d, owns (c : Thread nD τ) (ms0_62 m hO t) fullShare ((dats m hO 0 c).before 62 t d))
    ∗ (∃ d, owns (c : Thread nD τ) (ms0_63 m hO t) fullShare ((dats m hO 0 c).before 63 t d))
    ∗ (∃ d, owns (c : Thread nD τ) (ms0_64 m hO t) fullShare ((dats m hO 0 c).before 64 t d))
    ∗ (∃ d, owns (c : Thread nD τ) (ms0_65 m hO t) fullShare ((dats m hO 0 c).before 65 t d))
    ∗ (∃ d, owns (c : Thread nD τ) (ms0_66 m hO t) fullShare ((dats m hO 0 c).before 66 t d))
    ∗ (∃ d, owns (c : Thread nD τ) (ms0_67 m hO t) fullShare ((dats m hO 0 c).before 67 t d))))
    (W := wp frame (wpE (defs₀ (F := F)) Variants.none c none) Set.univ (bodyAt0 (adm m hO) t))
    (Q := fun _ => iprop((dats m hO 0 c).Φ t.succ ∗ (dats m hO 0 c).owesAt () t.succ
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare (pages m hO c t 0)
    ∗ owns (c : Thread nD τ) (ms0_4 m hO t) fullShare (pages m hO c t 1)
    ∗ owns (c : Thread nD τ) (ms0_5 m hO t) fullShare (pages m hO c t 2)
    ∗ owns (c : Thread nD τ) (ms0_6 m hO t) fullShare (pages m hO c t 3)
    ∗ owns (c : Thread nD τ) (ms0_7 m hO t) fullShare (pages m hO c t 4)
    ∗ owns (c : Thread nD τ) (ms0_8 m hO t) fullShare (pages m hO c t 5)
    ∗ owns (c : Thread nD τ) (ms0_9 m hO t) fullShare (pages m hO c t 6)
    ∗ owns (c : Thread nD τ) (ms0_10 m hO t) fullShare (pages m hO c t 7)
    ∗ owns (c : Thread nD τ) (ms0_11 m hO t) fullShare (pages m hO c t 8)
    ∗ owns (c : Thread nD τ) (ms0_12 m hO t) fullShare (pages m hO c t 9)
    ∗ owns (c : Thread nD τ) (ms0_13 m hO t) fullShare (pages m hO c t 10)
    ∗ owns (c : Thread nD τ) (ms0_14 m hO t) fullShare (pages m hO c t 11)
    ∗ owns (c : Thread nD τ) (ms0_15 m hO t) fullShare (pages m hO c t 12)
    ∗ owns (c : Thread nD τ) (ms0_16 m hO t) fullShare (pages m hO c t 13)
    ∗ owns (c : Thread nD τ) (ms0_17 m hO t) fullShare (pages m hO c t 14)
    ∗ owns (c : Thread nD τ) (ms0_18 m hO t) fullShare (pages m hO c t 15)
    ∗ owns (c : Thread nD τ) (ms0_19 m hO t) fullShare (pages m hO c t 16)
    ∗ owns (c : Thread nD τ) (ms0_20 m hO t) fullShare (pages m hO c t 17)
    ∗ owns (c : Thread nD τ) (ms0_21 m hO t) fullShare (pages m hO c t 18)
    ∗ owns (c : Thread nD τ) (ms0_22 m hO t) fullShare (pages m hO c t 19)
    ∗ owns (c : Thread nD τ) (ms0_23 m hO t) fullShare (pages m hO c t 20)
    ∗ owns (c : Thread nD τ) (ms0_24 m hO t) fullShare (pages m hO c t 21)
    ∗ owns (c : Thread nD τ) (ms0_25 m hO t) fullShare (pages m hO c t 22)
    ∗ owns (c : Thread nD τ) (ms0_26 m hO t) fullShare (pages m hO c t 23)
    ∗ owns (c : Thread nD τ) (ms0_27 m hO t) fullShare (pages m hO c t 24)
    ∗ owns (c : Thread nD τ) (ms0_28 m hO t) fullShare (pages m hO c t 25)
    ∗ owns (c : Thread nD τ) (ms0_29 m hO t) fullShare (pages m hO c t 26)
    ∗ owns (c : Thread nD τ) (ms0_30 m hO t) fullShare (pages m hO c t 27)
    ∗ owns (c : Thread nD τ) (ms0_31 m hO t) fullShare (pages m hO c t 28)
    ∗ owns (c : Thread nD τ) (ms0_32 m hO t) fullShare (pages m hO c t 29)
    ∗ owns (c : Thread nD τ) (ms0_33 m hO t) fullShare (pages m hO c t 30)
    ∗ owns (c : Thread nD τ) (ms0_34 m hO t) fullShare (pages m hO c t 31)
    ∗ owns (c : Thread nD τ) (ms0_35 m hO t) fullShare (pages m hO c t 32)
    ∗ owns (c : Thread nD τ) (ms0_36 m hO t) fullShare (pages m hO c t 33)
    ∗ owns (c : Thread nD τ) (ms0_37 m hO t) fullShare (pages m hO c t 34)
    ∗ owns (c : Thread nD τ) (ms0_38 m hO t) fullShare (pages m hO c t 35)
    ∗ owns (c : Thread nD τ) (ms0_39 m hO t) fullShare (pages m hO c t 36)
    ∗ owns (c : Thread nD τ) (ms0_40 m hO t) fullShare (pages m hO c t 37)
    ∗ owns (c : Thread nD τ) (ms0_41 m hO t) fullShare (pages m hO c t 38)
    ∗ owns (c : Thread nD τ) (ms0_42 m hO t) fullShare (pages m hO c t 39)
    ∗ owns (c : Thread nD τ) (ms0_43 m hO t) fullShare (pages m hO c t 40)
    ∗ owns (c : Thread nD τ) (ms0_44 m hO t) fullShare (pages m hO c t 41)
    ∗ owns (c : Thread nD τ) (ms0_45 m hO t) fullShare (pages m hO c t 42)
    ∗ owns (c : Thread nD τ) (ms0_46 m hO t) fullShare (pages m hO c t 43)
    ∗ owns (c : Thread nD τ) (ms0_47 m hO t) fullShare (pages m hO c t 44)
    ∗ owns (c : Thread nD τ) (ms0_48 m hO t) fullShare (pages m hO c t 45)
    ∗ owns (c : Thread nD τ) (ms0_49 m hO t) fullShare (pages m hO c t 46)
    ∗ owns (c : Thread nD τ) (ms0_50 m hO t) fullShare (pages m hO c t 47)
    ∗ owns (c : Thread nD τ) (ms0_51 m hO t) fullShare (pages m hO c t 48)
    ∗ owns (c : Thread nD τ) (ms0_52 m hO t) fullShare (pages m hO c t 49)
    ∗ owns (c : Thread nD τ) (ms0_53 m hO t) fullShare (pages m hO c t 50)
    ∗ owns (c : Thread nD τ) (ms0_54 m hO t) fullShare (pages m hO c t 51)
    ∗ owns (c : Thread nD τ) (ms0_55 m hO t) fullShare (pages m hO c t 52)
    ∗ owns (c : Thread nD τ) (ms0_56 m hO t) fullShare (pages m hO c t 53)
    ∗ owns (c : Thread nD τ) (ms0_57 m hO t) fullShare (pages m hO c t 54)
    ∗ owns (c : Thread nD τ) (ms0_58 m hO t) fullShare (pages m hO c t 55)
    ∗ owns (c : Thread nD τ) (ms0_59 m hO t) fullShare (pages m hO c t 56)
    ∗ owns (c : Thread nD τ) (ms0_60 m hO t) fullShare (pages m hO c t 57)
    ∗ owns (c : Thread nD τ) (ms0_61 m hO t) fullShare (pages m hO c t 58)
    ∗ owns (c : Thread nD τ) (ms0_62 m hO t) fullShare (pages m hO c t 59)
    ∗ owns (c : Thread nD τ) (ms0_63 m hO t) fullShare (pages m hO c t 60)
    ∗ owns (c : Thread nD τ) (ms0_64 m hO t) fullShare (pages m hO c t 61)
    ∗ owns (c : Thread nD τ) (ms0_65 m hO t) fullShare (pages m hO c t 62)
    ∗ owns (c : Thread nD τ) (ms0_66 m hO t) fullShare (pages m hO c t 63)
    ∗ owns (c : Thread nD τ) (ms0_67 m hO t) fullShare (outAt m hO c t)))
    ?_ rfl .rfl fun _ => .rfl
  simp only [found0, found1, found2, found3, found4, found5, found6, found7, found8, found9, found10, found11, found12, found13, found14, found15, found16,
    found17, found18, found19, found20, found21, found22, found23, found24, found25, found26, found27, found28, found29, found30, found31, found32,
    found33, found34, found35, found36, found37, found38, found39, found40, found41, found42, found43, found44, found45, found46, found47, found48,
    found49, found50, found51, found52, found53, found54, found55, found56, found57, found58, found59, found60, found61, found62, found63, found64,
    found65, found66]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl,
    show (dats m hO 0 c).owesAt () t.succ = (dats m hO 0 c).owesAt () t.castSucc from rfl, PhiA0_eq]
  iintro ⟨⟨⟨HS, Hg⟩, HT⟩, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, ⟨%_, H12⟩, ⟨%_, H13⟩, ⟨%_,
    H14⟩, ⟨%_, H15⟩, ⟨%_, H16⟩, ⟨%_, H17⟩, ⟨%_, H18⟩, ⟨%_, H19⟩, ⟨%_, H20⟩, ⟨%_, H21⟩, ⟨%_, H22⟩, ⟨%_, H23⟩, ⟨%_, H24⟩, ⟨%_, H25⟩, ⟨%_, H26⟩, ⟨%_, H27⟩,
    ⟨%_, H28⟩, ⟨%_, H29⟩, ⟨%_, H30⟩, ⟨%_, H31⟩, ⟨%_, H32⟩, ⟨%_, H33⟩, ⟨%_, H34⟩, ⟨%_, H35⟩, ⟨%_, H36⟩, ⟨%_, H37⟩, ⟨%_, H38⟩, ⟨%_, H39⟩, ⟨%_, H40⟩, ⟨%_,
    H41⟩, ⟨%_, H42⟩, ⟨%_, H43⟩, ⟨%_, H44⟩, ⟨%_, H45⟩, ⟨%_, H46⟩, ⟨%_, H47⟩, ⟨%_, H48⟩, ⟨%_, H49⟩, ⟨%_, H50⟩, ⟨%_, H51⟩, ⟨%_, H52⟩, ⟨%_, H53⟩, ⟨%_, H54⟩,
    ⟨%_, H55⟩, ⟨%_, H56⟩, ⟨%_, H57⟩, ⟨%_, H58⟩, ⟨%_, H59⟩, ⟨%_, H60⟩, ⟨%_, H61⟩, ⟨%_, H62⟩, ⟨%_, H63⟩, ⟨%_, H64⟩, ⟨%_, H65⟩, ⟨%_, H66⟩, ⟨%d67, H67⟩⟩
  unfold bodyAt0
  iapply (body_run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (iblk m hO c 0 t) (iblk m hO c 1 t) (iblk m hO c 2 t) (pages m hO c t) _)
  isplitl [H0 H1 H2 H3 H4 H5 H6 H7 H8 H9 H10 H11 H12 H13 H14 H15 H16 H17 H18 H19 H20 H21 H22 H23 H24 H25 H26 H27 H28 H29 H30 H31 H32 H33 H34 H35 H36 H37 H38 H39
    H40 H41 H42 H43 H44 H45 H46 H47 H48 H49 H50 H51 H52 H53 H54 H55 H56 H57 H58 H59 H60 H61 H62 H63 H64 H65 H66]
  · unfold held
    simp only [owns_eq_rep]
    iframe
  isplitl [H67]; · iexists _; iexact H67
  isplitl [HS]; · iexact HS
  unfold held
  iintro ⟨⟨H0, H1, H2, H3, H4, H5, H6, H7, H8, H9, H10, H11, H12, H13, H14, H15, H16, H17, H18, H19, H20, H21, H22, H23, H24, H25, H26, H27, H28, H29, H30, H31,
    H32, H33, H34, H35, H36, H37, H38, H39, H40, H41, H42, H43, H44, H45, H46, H47, H48, H49, H50, H51, H52, H53, H54, H55, H56, H57, H58, H59, H60, H61,
    H62, H63, H64, H65, H66⟩, H67, HS⟩
  isplitl [HS Hg HT]
  · isplitl [HS Hg]
    · isplitl [HS]; · iexact HS
      iexact Hg
    iexact HT
  isplitl [Ho]; · iexact Ho
  unfold outAt
  simp only [owns_eq_rep]
  iframe

/-! ## The launch -/

set_option backward.isDefEq.respectTransparency.types false in
/-- The launch: every array as the proof data computes it, every other buffer as it was, every counter at zero. -/
theorem run_main (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- The arguments end as they began, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ hO (dats m hO) (A_eq m hO) ((θ_run defs _ _).mono (fun _ h => h.1) (run_main m ρ hO)))
    ((θ_run defs _ _).mono (fun _ h => h.2) (run_main m ρ hO))

end Cert.Kernel7Ideal.Sample

end
-- ==== Proof.Mla.Online.lean ====
/-
  Hand-written. The softmax of a list of scores, taken key by key with a running maximum: the mathematics over the
  extended reals, of one query's scores `s` and one value column `v`, both indexed by the key's number.
-/
module

public import Idealize.ShloMosaic.PureOps.Ideal

@[expose] public section

noncomputable section

namespace Cert.Online

open Idealize.ShloMosaic

theorem exp_bot : Ideal.exp ⊥ = 0 := rfl

/-- The exponential of a difference `s − m`, for `s ≤ m`: not negative, and finite. -/
theorem exp_nonneg (x : EReal) : 0 ≤ Ideal.exp x := by
  induction x with
  | bot => exact le_refl _
  | top => exact le_top
  | coe r => exact EReal.coe_nonneg.mpr (Real.exp_pos r).le

theorem exp_sub_ne_top {s m : EReal} (h : s ≤ m) : Ideal.exp (s - m) ≠ ⊤ := by
  induction m with
  | bot => have : s = ⊥ := le_bot_iff.mp h
           subst this; simp [exp_bot]
  | top => rw [show s - ⊤ = (⊥ : EReal) from by simp [sub_eq_add_neg]]; simp [exp_bot]
  | coe r =>
    induction s with
    | bot => simp [exp_bot]
    | top => exact absurd h (by simp)
    | coe q => rw [← EReal.coe_sub]; exact EReal.coe_ne_top _

theorem exp_bot_sub (m : EReal) : Ideal.exp (⊥ - m) = 0 := by
  induction m with
  | bot => simp [exp_bot]
  | top => simp [exp_bot]
  | coe r => simp [exp_bot]

/-- Moving from the maximum `m` to a larger one `n`. -/
theorem exp_move {s m n : EReal} (h : s ≤ m) (h' : m ≤ n) :
    Ideal.exp (m - n) * Ideal.exp (s - m) = Ideal.exp (s - n) := by
  induction n with
  | bot =>
    obtain rfl : m = ⊥ := le_bot_iff.mp h'
    obtain rfl : s = ⊥ := le_bot_iff.mp h
    simp [exp_bot]
  | top =>
    have e : ∀ x : EReal, x - ⊤ = (⊥ : EReal) := fun x => by simp [sub_eq_add_neg]
    rw [e, e]; simp [exp_bot]
  | coe c =>
    induction m with
    | bot =>
      obtain rfl : s = ⊥ := le_bot_iff.mp h
      rw [exp_bot_sub, exp_bot_sub, zero_mul]
    | top => exact absurd h' (by simp)
    | coe b =>
      induction s with
      | bot => rw [exp_bot_sub, exp_bot_sub, mul_zero]
      | top => exact absurd h (by simp)
      | coe a =>
        rw [← EReal.coe_sub, ← EReal.coe_sub, ← EReal.coe_sub]
        show ((Real.exp (b - c) : ℝ) : EReal) * ((Real.exp (a - b) : ℝ) : EReal) = ((Real.exp (a - c) : ℝ) : EReal)
        rw [← EReal.coe_mul, ← Real.exp_add]
        congr 2; ring

/-- A finite nonnegative factor moves into a sum. -/
theorem mul_sum_of {ι : Type} (S : Finset ι) (f : ι → EReal) {a : EReal} (h0 : 0 ≤ a) (h1 : a ≠ ⊤) :
    a * ∑ k ∈ S, f k = ∑ k ∈ S, a * f k := by
  classical
  induction S using Finset.induction_on with
  | empty => simp
  | insert x S hx ih =>
    rw [Finset.sum_insert hx, Finset.sum_insert hx, EReal.left_distrib_of_nonneg_of_ne_top h0 h1, ih]

/-! ## The running maximum, sum and weighted sum -/

/-- The largest of the first `n` scores. -/
def mx (s : ℕ → EReal) (n : ℕ) : EReal := (Finset.range n).sup s
/-- The sum of the first `n` weights, relative to their maximum. -/
def sm (s : ℕ → EReal) (n : ℕ) : EReal := ∑ k ∈ Finset.range n, Ideal.exp (s k - mx s n)
/-- The weighted sum of the first `n` values, relative to the same maximum. -/
def ac (s v : ℕ → EReal) (n : ℕ) : EReal := ∑ k ∈ Finset.range n, v k * Ideal.exp (s k - mx s n)

theorem le_mx (s : ℕ → EReal) {k n : ℕ} (h : k < n) : s k ≤ mx s n := Finset.le_sup (f := s) (Finset.mem_range.mpr h)
theorem mx_mono (s : ℕ → EReal) {n n' : ℕ} (h : n ≤ n') : mx s n ≤ mx s n' :=
  Finset.sup_mono (Finset.range_mono h)

theorem mx_zero (s : ℕ → EReal) : mx s 0 = ⊥ := by simp [mx]
theorem sm_zero (s : ℕ → EReal) : sm s 0 = 0 := by simp [sm]
theorem ac_zero (s v : ℕ → EReal) : ac s v 0 = 0 := by simp [ac]

theorem range_cut (f : ℕ → EReal) (n w : ℕ) :
    ∑ k ∈ Finset.range (n + w), f k = ∑ k ∈ Finset.range n, f k + ∑ r : Fin w, f (n + r.val) := by
  rw [Finset.sum_range_add, Finset.sum_range (fun x => f (n + x))]

/-- `w` more scores: the maximum. -/
theorem mx_step (s : ℕ → EReal) (n w : ℕ) : mx s (n + w) = max (mx s n) (Finset.univ.sup fun r : Fin w => s (n + r.val)) := by
  apply le_antisymm
  · refine Finset.sup_le fun k hk => ?_
    by_cases h : k < n
    · exact le_max_of_le_left (le_mx s h)
    · have hk' := Finset.mem_range.mp hk
      refine le_max_of_le_right ?_
      have := Finset.le_sup (f := fun r : Fin w => s (n + r.val)) (Finset.mem_univ ⟨k - n, by omega⟩)
      simpa only [show n + (k - n) = k from by omega] using this
  · refine max_le (mx_mono s (Nat.le_add_right n w)) (Finset.sup_le fun r _ => le_mx s (by omega))

/-- `w` more scores: the sum. -/
theorem sm_step (s : ℕ → EReal) (n w : ℕ) :
    sm s (n + w) = Ideal.exp (mx s n - mx s (n + w)) * sm s n + ∑ r : Fin w, Ideal.exp (s (n + r.val) - mx s (n + w)) := by
  have hm := mx_mono s (Nat.le_add_right n w)
  unfold sm
  rw [range_cut, mul_sum_of _ _ (exp_nonneg _) (exp_sub_ne_top hm)]
  congr 1
  exact Finset.sum_congr rfl fun k hk => (exp_move (le_mx s (Finset.mem_range.mp hk)) hm).symm

/-- `w` more scores: the weighted sum. -/
theorem ac_step (s v : ℕ → EReal) (n w : ℕ) :
    ac s v (n + w) = Ideal.exp (mx s n - mx s (n + w)) * ac s v n
      + ∑ r : Fin w, v (n + r.val) * Ideal.exp (s (n + r.val) - mx s (n + w)) := by
  have hm := mx_mono s (Nat.le_add_right n w)
  unfold ac
  rw [range_cut, mul_sum_of _ _ (exp_nonneg _) (exp_sub_ne_top hm)]
  congr 1
  refine Finset.sum_congr rfl fun k hk => ?_
  rw [← exp_move (le_mx s (Finset.mem_range.mp hk)) hm, mul_left_comm]

/-- Keys whose score is `⊥` add nothing: to the maximum, -/
theorem mx_stable (s : ℕ → EReal) (n w : ℕ) (h : ∀ k, n ≤ k → k < n + w → s k = ⊥) : mx s (n + w) = mx s n := by
  rw [mx_step]
  refine max_eq_left (Finset.sup_le fun r _ => ?_)
  rw [h _ (by omega) (by omega)]; exact bot_le
/-- to the sum, -/
theorem sm_stable (s : ℕ → EReal) (n w : ℕ) (h : ∀ k, n ≤ k → k < n + w → s k = ⊥) : sm s (n + w) = sm s n := by
  unfold sm
  rw [range_cut, mx_stable s n w h, Finset.sum_eq_zero (s := Finset.univ) fun r _ => by rw [h _ (by omega) (by omega), exp_bot_sub], add_zero]
/-- and to the weighted sum. -/
theorem ac_stable (s v : ℕ → EReal) (n w : ℕ) (h : ∀ k, n ≤ k → k < n + w → s k = ⊥) : ac s v (n + w) = ac s v n := by
  unfold ac
  rw [range_cut, mx_stable s n w h,
    Finset.sum_eq_zero (s := Finset.univ) fun r _ => by rw [h _ (by omega) (by omega), exp_bot_sub, mul_zero], add_zero]

theorem sm_ne_top (s : ℕ → EReal) (n : ℕ) : sm s n ≠ ⊤ := by
  unfold sm
  have : ∀ S : Finset ℕ, S ⊆ Finset.range n → ∑ k ∈ S, Ideal.exp (s k - mx s n) ≠ ⊤ := by
    intro S
    classical
    induction S using Finset.induction_on with
    | empty => intro _; simp
    | insert x S hx ih =>
      intro hS
      rw [Finset.sum_insert hx]
      have hx' := Finset.mem_range.mp (hS (Finset.mem_insert_self x S))
      exact EReal.add_ne_top (exp_sub_ne_top (le_mx s hx')) (ih fun y hy => hS (Finset.mem_insert_of_mem hy))
  exact this _ (Finset.Subset.refl _)

/-- Dividing the weighted sum is weighing by the divided weights. -/
theorem div_ac (s v : ℕ → EReal) (n : ℕ) {T : ℝ} (hT : 0 < T) :
    Ideal.div (ac s v n) (max (sm s n) (T : EReal))
      = ∑ k ∈ Finset.range n, v k * Ideal.div (Ideal.exp (s k - mx s n)) (max (sm s n) (T : EReal)) := by
  have hpos : (0 : EReal) < max (sm s n) (T : EReal) := lt_max_of_lt_right (EReal.coe_pos.mpr hT)
  have hne : max (sm s n) (T : EReal) ≠ 0 := ne_of_gt hpos
  simp only [Ideal.div, if_neg hne]
  unfold ac
  have hi : 0 ≤ (max (sm s n) (T : EReal))⁻¹ := EReal.inv_nonneg_of_nonneg hpos.le
  have ht : (max (sm s n) (T : EReal))⁻¹ ≠ ⊤ := by
    have h2 : max (sm s n) (T : EReal) ≠ ⊤ := by
      rcases max_choice (sm s n) (T : EReal) with h | h <;> rw [h]
      · exact sm_ne_top s n
      · exact EReal.coe_ne_top T
    have h3 : max (sm s n) (T : EReal) ≠ ⊥ := ne_of_gt (lt_trans EReal.bot_lt_zero hpos)
    lift max (sm s n) (T : EReal) to ℝ using ⟨h2, h3⟩ with x
    rw [← EReal.coe_inv]; exact EReal.coe_ne_top _
  rw [mul_comm, mul_sum_of _ _ hi ht]
  exact Finset.sum_congr rfl fun k _ => by rw [mul_comm, mul_assoc]

end Cert.Online

end
-- ==== Proof.MlaSample.Pay.lean ====
/-
  Hand-written. What the decoding attention's vector expressions are at an index, over the extended reals: a query row's
  maximum, sum of weights and weighted sum of the value rows, over the past keys and the new ones.
-/
module

public import Idealize.ShloMosaic.Lib.WordArith
public import proofs.«01_k».proof.Proof.MlaSample.Out
public import proofs.«01_k».proof.Proof.Mla.Online

@[expose] public section

set_option maxRecDepth 16384

noncomputable section

namespace Cert.Kernel7Ideal.Sample

open Cert.Kernel7Ideal Cert.Kernel7Ideal.Gen
open Idealize.ShloMosaic Idealize.ShloMosaic.TcCoe

theorem negInf_word : Ideal.ofBits .f32 0xFF800000#32 = ⊥ := by
  simp [Ideal.ofBits, Ideal.ieee]

/-! ## The pieces -/

theorem pageScore_apply (q : Vec Ideal S1x64x320 .bf16) (x : Vec Ideal S1x1x320x128 .f32) (l : Fin 64) (r : Fin 128) :
    (pageScore q x) (ix2 l r) = ∑ d : Fin 320, q (ix3 0 l d) * x (ix4 0 0 d r) := by
  pointwise [pageScore, k0_pay9, k0_pay2]

theorem scores_apply (q : Vec Ideal S1x64x320 .bf16) (xs : Fin 64 → Vec Ideal S1x1x320x128 .f32) (l : Fin 64) (k : Fin 8192) :
    (scores q xs) (ix2 l k)
      = ∑ d : Fin 320, q (ix3 0 l d) * xs ⟨k.val / 128, by omega⟩ (ix4 0 0 d ⟨k.val % 128, by omega⟩) :=
  pageScore_apply _ _ _ _

variable (q : FVec Ideal S64x320 .bf16) (nw : Vec Ideal S1x16x320 .bf16) (S : Vec Ideal S64x8192 .f32)

theorem low_bits (l : Fin 64) : IntOp.andi (BitVec.ofNat 32 l.val) 7#32 = BitVec.ofNat 32 (l.val % 8) := by
  revert l; decide +kernel

theorem mask_word (l : Fin 64) (j : Fin 16) :
    IntOp.cmpi CmpIPredicate.sle (BitVec.ofNat 32 j.val) (IntOp.andi (BitVec.ofNat 32 l.val) 7#32) = 1#1 ↔ j.val ≤ l.val % 8 := by
  rw [low_bits]
  show BitVec.ofBool (BitVec.sle _ _) = 1#1 ↔ _
  rw [Idealize.ShloMosaic.WordArith.ofBool_eq_one_iff, BitVec.sle_iff_toInt_le, Idealize.ShloMosaic.WordArith.toInt_ofNat_small _ (by omega), Idealize.ShloMosaic.WordArith.toInt_ofNat_small _ (by omega)]
  omega

theorem pay84_apply (l : Fin 64) (j : Fin 16) : k0_pay84 (ix2 l j) = 1#1 ↔ j.val ≤ l.val % 8 := by
  rw [show k0_pay84 (ix2 l j) = IntOp.cmpi CmpIPredicate.sle (BitVec.ofNat 32 j.val) (IntOp.andi (BitVec.ofNat 32 l.val) 7#32) by
    pointwise [k0_pay84]]
  exact mask_word l j

theorem pay85_apply (l : Fin 64) (j : Fin 16) :
    (k0_pay85 q nw) (ix2 l j) = if j.val ≤ l.val % 8 then ∑ d : Fin 320, q (ix2 l d) * nw (ix3 0 j d) else ⊥ := by
  pointwise [k0_pay85, k0_pay83]
  rw [show Named.named κ "neg_big" 0xF149F2CA#32 = (⊥ : Ideal .f32) from rfl]
  unfold Scalar.select
  exact if_congr (pay84_apply l j) rfl rfl

theorem pay86_apply (l : Fin 64) :
    (k0_pay86 q nw S) (ix2 l 0) = max (Finset.univ.sup fun k => S (ix2 l k)) (Finset.univ.sup fun j => k0_pay85 q nw (ix2 l j)) := by
  pointwise [k0_pay86]; rw [negInf_word]; rfl

theorem pay87_apply (l : Fin 64) (k : Fin 8192) :
    (k0_pay87 q nw S) (ix2 l k) = Ideal.exp (S (ix2 l k) - k0_pay86 q nw S (ix2 l 0)) := by
  pointwise [k0_pay87]

theorem pay88_apply (l : Fin 64) (j : Fin 16) :
    (k0_pay88 q nw S) (ix2 l j) = Ideal.exp (k0_pay85 q nw (ix2 l j) - k0_pay86 q nw S (ix2 l 0)) := by
  have e : (k0_pay88 q nw S) (ix2 l j) = Scalar.select (k0_pay84 (ix2 l j))
      (Ideal.exp (k0_pay85 q nw (ix2 l j) - k0_pay86 q nw S (ix2 l 0))) (0 : EReal) := by
    pointwise [k0_pay88]
  rw [e]
  unfold Scalar.select
  by_cases h : j.val ≤ l.val % 8
  · exact if_pos ((pay84_apply l j).mpr h)
  · refine (if_neg fun h' => h ((pay84_apply l j).mp h')).trans ?_
    rw [pay85_apply, if_neg h, Cert.Online.exp_bot_sub]

theorem pay89_apply (l : Fin 64) :
    (k0_pay89 q nw S) (ix2 l 0) = (∑ k, k0_pay87 q nw S (ix2 l k)) + ∑ j, k0_pay88 q nw S (ix2 l j) := by
  pointwise [k0_pay89]

theorem pay90_apply (l : Fin 64) (x : Fin 256) :
    (k0_pay90 q nw S) (ix2 l x) = ∑ j : Fin 16, k0_pay88 q nw S (ix2 l j) * nw (ix3 0 j ⟨x.val, by omega⟩) := by
  pointwise [k0_pay90, k0_pay83]

theorem addPage_apply (e : FVec Ideal S64x8192 .bf16) (p : Fin 64) (x : Vec Ideal S1x1x256x128 .f32) (a : FVec Ideal S64x256 .f32)
    (l : Fin 64) (z : Fin 256) :
    (addPage e p x a) (ix2 l z) = a (ix2 l z) + ∑ r : Fin 128, e (ix2 l ⟨p.val * 128 + r.val, by omega⟩) * x (ix4 0 0 z r) := by
  pointwise [addPage]
  refine congrArg (_ + ·) (Finset.sum_congr rfl fun r _ => congrArg (· * _) (congrArg e ?_))
  have h : 128 * p.val + r.val = p.val * 128 + r.val := by omega
  simp only [h]

theorem latent_apply (L : FVec Ideal S64x1 .f32) (A : FVec Ideal S64x256 .f32) (l : Fin 64) (z : Fin 256) :
    (latent L A) (ix2 l z) = Ideal.div (A (ix2 l z)) (max (L (ix2 l 0)) (Ideal.ofBits .f32 0x0DA24260#32)) := by
  pointwise [latent]

set_option maxHeartbeats 1000000 in
theorem project_apply (o : FVec Ideal S64x256 .bf16) (us : Fin 8 → Vec Ideal S1x256x128 .bf16) (t h : Fin 8) (y : Fin 128) :
    (project o us) (ix3 0 t ⟨h.val * 128 + y.val, by omega⟩)
      = ∑ z : Fin 256, o (ix2 ⟨h.val * 8 + t.val, by omega⟩ z) * us h (ix3 0 z y) := by
  fin_cases h <;>
  · pointwise [project, k0_pay1, k0_pay112, k0_pay113, k0_pay114, k0_pay115, k0_pay116, k0_pay117]
    repeat (first
      | (rewrite [dif_neg]; swap; (· omega))
      | (rewrite [dif_pos]; swap; (· omega)))
    all_goals first
      | rfl
      | exact Finset.sum_congr rfl fun x _ => congrArg (_ * ·) (congrArg (us _) (by idx_ext))

/-! ## One query row -/

/-- The values gathered from the new rows and the first `n` pages, key by key. -/
theorem gathered_apply (e : FVec Ideal S64x8192 .bf16) (vs : Fin 64 → Vec Ideal S1x1x256x128 .f32) (a : FVec Ideal S64x256 .f32)
    (l : Fin 64) (z : Fin 256) (f : ℕ → EReal)
    (hf : ∀ (p : Fin 64) (r : Fin 128), e (ix2 l ⟨p.val * 128 + r.val, by omega⟩) * vs p (ix4 0 0 z r) = f (p.val * 128 + r.val)) :
    ∀ (n : ℕ) (h : n ≤ 64), (gathered e vs a n h) (ix2 l z) = a (ix2 l z) + ∑ k ∈ Finset.range (n * 128), f k
  | 0, _ => by
    rw [Nat.zero_mul, Finset.range_zero, Finset.sum_empty]
    exact (add_zero _).symm
  | n + 1, h => by
    have ih := gathered_apply e vs a l z f hf n (Nat.le_of_succ_le h)
    have hp := fun r => hf ⟨n, h⟩ r
    rw [gathered, addPage_apply, ih, show (n + 1) * 128 = n * 128 + 128 by omega, Cert.Online.range_cut, add_assoc]
    refine congrArg (_ + ·) (congrArg (_ + ·) (Finset.sum_congr rfl fun r _ => hp r))

section
variable {q nw S}
variable {s v : ℕ → EReal} {l : Fin 64} {z : Fin 256} (hS : ∀ k : Fin 8192, S (ix2 l k) = s k.val)
  (hN : ∀ j : Fin 16, (if j.val ≤ l.val % 8 then ∑ d : Fin 320, q (ix2 l d) * nw (ix3 0 j d) else (⊥ : EReal)) = s (8192 + j.val))

include hS hN

theorem max_eq : (k0_pay86 q nw S) (ix2 l 0) = Cert.Online.mx s 8208 := by
  have h := Cert.Online.mx_step s 0 8192
  rw [Nat.zero_add, Cert.Online.mx_zero, max_eq_right bot_le] at h
  rw [pay86_apply]
  refine Eq.trans ?_ (Cert.Online.mx_step s 8192 16).symm
  rw [h]
  simp only [pay85_apply, hS, hN, Nat.zero_add]

theorem sum_eq : (k0_pay89 q nw S) (ix2 l 0) = Cert.Online.sm s 8208 := by
  rw [pay89_apply]
  refine Eq.trans ?_ (Cert.Online.range_cut _ 8192 16).symm
  rw [Finset.sum_range]
  simp only [pay87_apply, pay88_apply, pay85_apply, max_eq hS hN, hS, hN]

theorem gathered_eq {vs : Fin 64 → Vec Ideal S1x1x256x128 .f32}
    (hv : ∀ (p : Fin 64) (r : Fin 128), vs p (ix4 0 0 z r) = v (p.val * 128 + r.val))
    (hw : ∀ j : Fin 16, nw (ix3 0 j ⟨z.val, by omega⟩) = v (8192 + j.val)) :
    (gathered (k0_pay87 q nw S) vs (k0_pay90 q nw S) 64 le_rfl) (ix2 l z) = Cert.Online.ac s v 8208 := by
  rw [gathered_apply _ _ _ _ _ (fun k => v k * Ideal.exp (s k - Cert.Online.mx s 8208)) (fun p r => ?_) 64 le_rfl, add_comm]
  · refine Eq.trans ?_ (Cert.Online.range_cut _ 8192 16).symm
    refine congrArg (_ + ·) ?_
    rw [pay90_apply]
    refine Finset.sum_congr rfl fun j _ => ?_
    rw [pay88_apply, pay85_apply, max_eq hS hN, hN, hw, mul_comm]
  · rw [pay87_apply, max_eq hS hN, hS, hv, mul_comm]

end

end Cert.Kernel7Ideal.Sample

end
-- ==== Proof.MlaSample.Host.lean ====
/-
  Hand-written. The arrays the decoding attention's host code prepares, and the blocks the kernel reads of them, at an
  index of the arguments.
-/
module

public import Idealize.ShloMosaic.Lib.Pipeline.ValueKit
public import proofs.«01_k».proof.Proof.MlaSample.Run
public import proofs.«01_k».proof.Proof.MlaSample.Pay

@[expose] public section

set_option maxRecDepth 16384

noncomputable section

namespace Cert.Kernel7Ideal.Sample

open Cert.Kernel7Ideal Cert.Kernel7Ideal.Gen
open Idealize.ShloMosaic Idealize.ShloMosaic.TcCoe

variable (m : (ℓ : Loc nD τ sig) → Buf (Elt Ideal) ℓ) (c : Dev nD)

abbrev qAbs : Vec Ideal S128x8x8x256 .f32 := m ((c.tc : Thread nD τ).loc main_arg0)
abbrev qRope : Vec Ideal S128x8x8x64 .f32 := m ((c.tc : Thread nD τ).loc main_arg1)
abbrev ckv : Vec Ideal S128x8x320 .f32 := m ((c.tc : Thread nD τ).loc main_arg2)
abbrev tab : IVec S128x64 32 := m ((c.tc : Thread nD τ).loc main_arg3)
abbrev pool : Vec Ideal S2x10240x128x320 .f32 := m ((c.tc : Thread nD τ).loc main_arg4)
abbrev wUp : Vec Ideal S256x8x256 .f32 := m ((c.tc : Thread nD τ).loc main_arg5)

/-! ## Arrays -/

theorem host_queries (b : Fin 128) (l : Fin 64) (d : Fin 320) :
    (V m c main_v3 : Vec Ideal S128x64x320 .bf16) (ix3 b l d)
      = if hd : d.val < 256 then qAbs m c (ix4 b ⟨l.val % 8, by omega⟩ ⟨l.val / 8, by omega⟩ ⟨d.val, hd⟩)
        else qRope m c (ix4 b ⟨l.val % 8, by omega⟩ ⟨l.val / 8, by omega⟩ ⟨d.val - 256, by omega⟩) := by
  unfold V
  simp only [hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  entry_read
  pointwise

theorem host_new (b : Fin 128) (j : Fin 16) (d : Fin 320) :
    (V m c main_v8 : Vec Ideal S128x16x320 .bf16) (ix3 b j d)
      = if hj : j.val < 8 then ckv m c (ix3 b ⟨j.val, hj⟩ d) else (0 : EReal) := by
  unfold V
  simp only [hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  entry_read
  pointwise
  rw [show (FloatOps.sitofp (F := Ideal) .f32 0#32 : EReal) = 0 by simp [FloatOps.sitofp]]

theorem host_up (h : Fin 8) (z : Fin 256) (y : Fin 128) :
    (V m c main_v6 : Vec Ideal S8x256x128 .bf16) (ix3 h z y) = wUp m c (ix3 z h ⟨128 + y.val, by omega⟩) := by
  unfold V
  simp only [hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  entry_read
  pointwise

theorem host_pool (s : Fin 2) (p : Fin 10240) (d : Fin 320) (r : Fin 128) :
    (V m c main_v9 : Vec Ideal S2x10240x320x128 .f32) (ix4 s p d r) = pool m c (ix4 s p r d) := by
  unfold V
  simp only [hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  entry_read
  pointwise

/-! ## Blocks -/

variable (hO : Ok m)

theorem static0 : ∀ i : grid0.Coords, cc0_transform_0 i = ![(i 0).val, 0, 0] := by decide +kernel
theorem static1 : ∀ i : grid0.Coords, cc0_transform_1 i = ![(i 0).val, 0, 0] := by decide +kernel
theorem static2 : ∀ i : grid0.Coords, cc0_transform_2 i = ![0, 0, 0] := by decide +kernel
theorem static67 : ∀ i : grid0.Coords, cc0_transform_67 i = ![(i 0).val, 0, 0] := by decide +kernel

theorem coord : ∀ t : Fin grid0.N, (grid0.coords t 0).val = t.val := by decide +kernel

/-- The sequence of a grid point. -/
def bat (t : Fin (cfgM m hO).N) : Fin 128 := grid0.coords t 0

theorem index0 (t : Fin (cfgM m hO).N) : ((cfgM m hO).win 0).index t = ![(bat m hO t).val, 0, 0] := static0 (grid0.coords t)
theorem index1 (t : Fin (cfgM m hO).N) : ((cfgM m hO).win 1).index t = ![(bat m hO t).val, 0, 0] := static1 (grid0.coords t)
theorem index2 (t : Fin (cfgM m hO).N) : ((cfgM m hO).win 2).index t = ![0, 0, 0] := static2 (grid0.coords t)
theorem index67 (t : Fin (cfgM m hO).N) : ((cfgM m hO).win 67).index t = ![(bat m hO t).val, 0, 0] := static67 (grid0.coords t)

theorem block_queries (t : Fin (cfgM m hO).N) (l : Fin 64) (d : Fin 320) :
    (iblk m hO c 0 t : Vec Ideal S1x64x320 .bf16) (ix3 0 l d) = (V m c main_v3 : Vec Ideal S128x64x320 .bf16) (ix3 (bat m hO t) l d) := by
  blk_ext [iblk, index0 m hO t]
theorem block_new (t : Fin (cfgM m hO).N) (l : Fin 16) (d : Fin 320) :
    (iblk m hO c 1 t : Vec Ideal S1x16x320 .bf16) (ix3 0 l d) = (V m c main_v8 : Vec Ideal S128x16x320 .bf16) (ix3 (bat m hO t) l d) := by
  blk_ext [iblk, index1 m hO t]
theorem block_up (t : Fin (cfgM m hO).N) (h : Fin 8) (z : Fin 256) (y : Fin 128) :
    (iblk m hO c 2 t : Vec Ideal S8x256x128 .bf16) (ix3 h z y) = (V m c main_v6 : Vec Ideal S8x256x128 .bf16) (ix3 h z y) := by
  blk_ext [iblk, index2 m hO t]

end Cert.Kernel7Ideal.Sample

end
-- ==== Proof.MlaSample.Pages.lean ====
/-
  Hand-written. The 64 pages that a grid point stages: each is the page of the pool that the table names.
-/
module

public import proofs.«01_k».proof.Proof.MlaSample.Host

@[expose] public section

set_option maxRecDepth 16384

noncomputable section

namespace Cert.Kernel7Ideal.Sample

open Cert.Kernel7Ideal Cert.Kernel7Ideal.Gen
open Idealize.ShloMosaic Idealize.ShloMosaic.TcCoe

variable (m : (ℓ : Loc nD τ sig) → Buf (Elt Ideal) ℓ) (c : Dev nD) (hO : Ok m)

/-- The table's entry that a one-element window of it reads. -/
theorem unit_idx (off : Fin 2 → ℕ) (hb : ∀ a, off a + S1x1.size a ≤ S128x64.size a) (hn : 0 < S1x1.numel) (b : Fin 128) (p : Fin 64)
    (h0 : off 0 = b.val) (h1 : off 1 = p.val) :
    ((Rect.unit (s := S128x64) off S1x1.size hb).emb (Shape.Idx.first hn) : S128x64.Idx) = ix2 b p := by
  funext a
  refine Fin.ext ?_
  fin_cases a
  · exact h0
  · exact h1

theorem off_toNat (i : grid0.Coords) : (Scalar.indexCast (BitVec.ofNat 32 (i 0).val)).toNat = (i 0).val := by
  revert i; decide +kernel

/-- The page number at place `p` of a grid point's sequence. -/
abbrev entry (t : Fin (cfgM m hO).N) (p : Fin 64) : ℕ := (tbl m 0 (ix2 (bat m hO t) p) : BitVec 32).toNat

/-- A block of one page starts at that page. -/
theorem page_place (e : S1x1x320x128.Idx → S2x10240x320x128.Idx) (f : Fin 4 → ℕ)
    (he : ∀ y a, (e y a).val = f a * S1x1x320x128.size a + (y a).val) (n : ℕ) (hn : n < 10240) (hf : f = ![0, n, 0, 0])
    (d : Fin 320) (r : Fin 128) : e (ix4 0 0 d r) = ix4 0 ⟨n, hn⟩ d r := by
  funext a
  refine Fin.ext ((he _ a).trans ?_)
  rw [hf]
  fin_cases a
  · rfl
  · show n * 1 + 0 = n
    omega
  · show 0 * 320 + d.val = d.val
    omega
  · show 0 * 128 + r.val = r.val
    omega

set_option maxHeartbeats 2000000 in
/-- The page staged at place `p` is the pool's page of that number. -/
theorem page_at (t : Fin (cfgM m hO).N) (p : Fin 64) (hlt : entry m hO t p < 10240) (d : Fin 320) (r : Fin 128) :
    pages m hO c t p (ix4 0 0 d r) = (V m c main_v9 : Vec Ideal S2x10240x320x128 .f32) (ix4 0 ⟨entry m hO t p, hlt⟩ d r) := by
  revert hlt
  fin_cases p <;>
  · intro hlt
    show (V m c main_v9 : Vec Ideal S2x10240x320x128 .f32) _ = _
    refine congrArg (V m c main_v9 : Vec Ideal S2x10240x320x128 .f32) (page_place _ ?_ ?_ _ hlt ?_ d r)
    pick_goal 2
    · intro y a
      refine Pipeline.Window.rect_emb_val ?_ (hk := ?_) t ?_ ?_
      exact rfl
    refine congrArg (fun y : S128x64.Idx => ![0, (tbl m 0 y : BitVec 32).toNat, 0, 0]) (unit_idx _ _ _ _ _ ?_ ?_)
    · exact off_toNat _
    · exact rfl

end Cert.Kernel7Ideal.Sample

end
-- ==== Proof.MlaSample.Frames.lean ====
/-
  Hand-written. The decoding attention's frames: the precondition keeps every entry of the page table inside the pool, so
  that the pipeline's side condition holds; the printed kernel runs as the idealized one does.
-/
module

public import proofs.«01_k».proof.Defs
public import proofs.«01_k».proof.Proof.Gen.Pre_in_pool
public import proofs.«01_k».proof.Proof.Gen.Kernel7
public import proofs.«01_k».proof.Proof.Gen.Reference7Ideal.Run
public import proofs.«01_k».proof.Proof.MlaSample.Run
public import Idealize.ShloMosaic.Lib.ReduceAll

@[expose] public section

set_option maxRecDepth 16384

noncomputable section

namespace Cert.Pre_in_pool

open Idealize.ShloMosaic

/-- What the precondition says of the table: every entry is a page of the pool. -/
theorem entry_lt {F : FTy → Type} [FloatOps F] [Facts] (a0 : FVec F S128x8x8x256 .f32) (a1 : FVec F S128x8x8x64 .f32)
    (a2 : FVec F S128x8x320 .f32) (a3 : IVec S128x64 32) (a4 : FVec F S2x10240x128x320 .f32) (a5 : FVec F S256x8x256 .f32)
    (h : fn a0 a1 a2 a3 a4 a5 = fun _ => 1#1) (y : S128x64.Idx) : (a3 y).toNat < 10240 := by
  have e := Host.reduce_andi_all _ _ Facts.reducesTo_S128x64_S_d0_1 Facts.h_S_ ix0 (congrFun h ix0) y
  have e' : IntOp.cmpi .sge (a3 y) 0#32 &&& IntOp.cmpi .slt (a3 y) 10240#32 = 1#1 := e
  generalize a3 y = w at e' ⊢
  have h0 : BitVec.ofBool (BitVec.sle 0#32 w) &&& BitVec.ofBool (BitVec.slt w 10240#32) = 1#1 := e'
  have h1 : BitVec.sle 0#32 w = true ∧ BitVec.slt w 10240#32 = true := by
    cases h2 : BitVec.sle 0#32 w <;> cases h3 : BitVec.slt w 10240#32 <;> rw [h2, h3] at h0 <;> first | exact ⟨rfl, rfl⟩ | exact absurd h0 (by decide)
  have a := BitVec.sle_iff_toInt_le.mp h1.1
  have b := BitVec.slt_iff_toInt_lt.mp h1.2
  have ha : (0#32 : BitVec 32).toInt = 0 := by decide
  have hb : (10240#32 : BitVec 32).toInt = 10240 := by decide
  rw [ha] at a; rw [hb] at b
  rw [BitVec.toInt_eq_toNat_cond] at a b
  split at a <;> omega

end Cert.Pre_in_pool

namespace Cert.Kernel7Ideal.Sample

open Cert.Kernel7Ideal Cert.Kernel7Ideal.Gen Cert.Kernel7Ideal.Facts
open Idealize.ShloMosaic Idealize.ShloMosaic.TcCoe

variable {F : FTy → Type} [FloatOps F] [Named F]
variable (m : (ℓ : Loc nD τ sig) → Buf (Elt F) ℓ)

/-- The table. -/
abbrev table : IVec S128x64 32 := m (((0 : Dev nD) : Thread nD τ).loc main_arg3)

theorem tbl_eq : (tbl m 0 : IVec S128x64 32) = table m := V_main_arg3 m 0

/-- A window over the pool that reads one page of the table at each point stays inside the pool. -/
theorem page_ok (f : grid0.Coords → Fin 4 → ℕ) (h : ∀ i, ∃ w < 10240, f i = ![0, w, 0, 0]) :
    ∀ i : grid0.Coords, ∃ h : (∀ a, (f i a + 1) * S1x1x320x128.size a ≤ S2x10240x320x128.size a),
      EltTy.bits .f32 = 32 ∨ (Rect.block (s := S2x10240x320x128) S1x1x320x128.size (f i) h).WholeWords (EltTy.packing .f32) := fun i => by
  obtain ⟨w, hw, e⟩ := h i
  refine ⟨fun a => ?_, .inl rfl⟩
  rw [e]
  fin_cases a
  · show (0 + 1) * 1 ≤ 2; decide
  · show (w + 1) * 1 ≤ 10240; omega
  · show (0 + 1) * 320 ≤ 320; decide
  · show (0 + 1) * 128 ≤ 128; decide

/-- The pipeline's side condition, of a table inside the pool. -/
theorem ok_of_lt (h : ∀ y, (table m y).toNat < 10240) : Ok m := by
  have h' : ∀ y : S128x64.Idx, (tbl m 0 y : BitVec 32).toNat < 10240 := fun y => by
    have := h y
    rw [← tbl_eq] at this
    exact this
  unfold Ok ok0
  repeat' apply And.intro
  all_goals exact page_ok _ fun i => ⟨_, h' _, rfl⟩

end Cert.Kernel7Ideal.Sample

namespace Cert.Call7

open Idealize.ShloMosaic Idealize.SL.Sem Idealize.ShloMosaic.Tactic

/-- At machine words a named constant is the word that is printed. -/
instance : Named Bits where
  named _ _ {φ} bits := FloatOps.ofBits φ bits

/-- The idealized kernel's frame, read at machine words. -/
def FrameAtWords : Prop :=
  ∀ (m : (ℓ : Loc Cert.Kernel7Ideal.nD Cert.Kernel7Ideal.τ Cert.Kernel7Ideal.sig) → Buf (Elt Bits) ℓ)
    (g : Dev Cert.Kernel7Ideal.nD → PrngReg),
    haveI := Cert.Pre_in_pool.Gen.facts
    (∀ c : Dev Cert.Kernel7Ideal.nD, Cert.Pre_in_pool.fn (F := Bits)
      (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2))
      (m ((c.tc : Thread Cert.Kernel7Ideal.nD Cert.Kernel7Ideal.τ).loc Cert.Kernel7Ideal.main_arg3))
      (m ((c.tc : Thread Cert.Kernel7Ideal.nD Cert.Kernel7Ideal.τ).loc Cert.Kernel7Ideal.main_arg4))
      (m ((c.tc : Thread Cert.Kernel7Ideal.nD Cert.Kernel7Ideal.τ).loc Cert.Kernel7Ideal.main_arg5)) = fun _ => 1#1) →
    θ_run (Cert.Kernel7Ideal.defs (F := Bits)) (onTc (τ := Cert.Kernel7Ideal.τ) (Cert.Kernel7Ideal.main (F := Bits)))
      ⟨m, fun _ => 0, g⟩ (fun r => (∀ c : Dev Cert.Kernel7Ideal.nD,
        r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
        ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
        ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
        ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
        ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
        ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
        ∧ r.2.sem = fun _ => 0)

theorem frame_words : FrameAtWords := fun m ρ h => Cert.Kernel7Ideal.Sample.frame m ρ
    (Cert.Kernel7Ideal.Sample.ok_of_lt m (Cert.Pre_in_pool.entry_lt _ _ _ _ _ _ (h 0)))

theorem frame_ideal : Cert.quiescent_Kernel7Ideal (hKernel7Ideal := Cert.Kernel7Ideal.Gen.facts) (hPre_in_pool := Cert.Pre_in_pool.Gen.facts) :=
  fun m ρ h => Cert.Kernel7Ideal.Sample.frame m ρ
    (Cert.Kernel7Ideal.Sample.ok_of_lt m (Cert.Pre_in_pool.entry_lt _ _ _ _ _ _ (h 0)))

set_option maxHeartbeats 0 in
/-- The printed kernel's frame is the idealized kernel's at machine words, which have the same text. -/
theorem frame_eq :
    Cert.quiescent_Kernel7 (hKernel7 := Cert.Kernel7.Gen.facts) (hPre_in_pool := Cert.Pre_in_pool.Gen.facts) = FrameAtWords := by
  sl_kernel_rfl

/-- The printed kernel's frame, from the one run. -/
theorem frame : Cert.quiescent_Kernel7 (hKernel7 := Cert.Kernel7.Gen.facts) (hPre_in_pool := Cert.Pre_in_pool.Gen.facts) :=
  frame_eq.mpr frame_words

theorem frame_reference : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run m ρ)

end Cert.Call7

end
-- ==== Proof.Mla.Step.lean ====
/-
  Hand-written. The attention kernel's body, run once per case of its grid point: what the three scratch buffers (the
  running maximum, the running sum, the accumulator) and the output tile hold afterwards, as functions of what they and
  the staged blocks held before.
-/
module

public import proofs.«01_k».proof.Proof.Gen.KernelIdeal.Frame
public import proofs.«01_k».proof.Proof.Gen.KernelIdeal.Skeleton
public import Idealize.ShloMosaic.Lib.VecWindow
public import Idealize.ShloMosaic.Lib.Pointwise
public import Idealize.ShloMosaic.Lib.Pipeline.DatRel
public import Idealize.ShloMosaic.Lib.Pipeline.ArrRel

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F] [Named F]

/-! ## Which case a point is in -/

/-- The first key block of a query tile. -/
abbrev atFirst (i : grid0.Coords) : Prop :=
  (Scalar.cmpi .ne (Scalar.extui (Scalar.cmpi .eq (BitVec.ofNat 32 (i 2).val) 0#32)) 0#32) = 1#1
/-- A key block strictly below the query tile's own. -/
abbrev atBelow (i : grid0.Coords) : Prop :=
  (Scalar.cmpi .ne (Scalar.extui (Scalar.cmpi .slt (BitVec.ofNat 32 (i 2).val) (BitVec.ofNat 32 (i 1).val))) 0#32) = 1#1
/-- The query tile's own key block. -/
abbrev atDiag (i : grid0.Coords) : Prop := k0_cond3 i = 1#1

theorem coord0 (t : Fin cfg0.N) : (grid0.coords t 0).val = t.val / 256 % 2 := Pipeline.Grid.coords_val t 0 (by decide) rfl
theorem coord1 (t : Fin cfg0.N) : (grid0.coords t 1).val = t.val / 16 % 16 := Pipeline.Grid.coords_val t 1 (by decide) rfl
theorem coord2 (t : Fin cfg0.N) : (grid0.coords t 2).val = t.val % 16 := by
  have h : (grid0.coords t 2).val = t.val / 1 % 16 := Pipeline.Grid.coords_val t 2 (by decide) rfl
  omega

theorem atFirst_iff (t : Fin cfg0.N) : atFirst (grid0.coords t) ↔ t.val % 16 = 0 := by
  have ht : t.val < 512 := Nat.lt_of_lt_of_eq t.isLt N_0
  simp only [atFirst, coord2]
  word_cmp
theorem atBelow_iff : ∀ t : Fin cfg0.N, atBelow (grid0.coords t) ↔ t.val % 16 < t.val / 16 % 16 :=
  (by decide +kernel : ∀ t : Fin grid0.N, atBelow (grid0.coords t) ↔ t.val % 16 < t.val / 16 % 16)
theorem atDiag_iff : ∀ t : Fin cfg0.N, atDiag (grid0.coords t) ↔ t.val % 16 = t.val / 16 % 16 :=
  (by decide +kernel : ∀ t : Fin grid0.N, atDiag (grid0.coords t) ↔ t.val % 16 = t.val / 16 % 16)

/-! ## The body in each case -/

theorem same2 {α β γ : Type} (f : α → β → γ) {a a' : α} {b b' : β} (ha : a = a') (hb : b = b') : f a b = f a' b' := by rw [ha, hb]
theorem same3 {α β γ δ : Type} (f : α → β → γ → δ) {a a' : α} {b b' : β} {c c' : γ} (ha : a = a') (hb : b = b') (hc : c = c') :
    f a b c = f a' b' c' := by rw [ha, hb, hc]
theorem same4 {α β γ δ ε : Type} (f : α → β → γ → δ → ε) {a a' : α} {b b' : β} {c c' : γ} {d d' : δ} (ha : a = a') (hb : b = b')
    (hc : c = c') (hd : d = d') : f a b c d = f a' b' c' d' := by rw [ha, hb, hc, hd]
theorem same5 {α β γ δ ε ζ : Type} (f : α → β → γ → δ → ε → ζ) {a a' : α} {b b' : β} {c c' : γ} {d d' : δ} {e e' : ε} (ha : a = a')
    (hb : b = b') (hc : c = c') (hd : d = d') (he : e = e') : f a b c d e = f a' b' c' d' e' := by rw [ha, hb, hc, hd, he]

/-- A place of the output tile, in its head's rows: its coordinates with the row taken within the head. -/
def inHead (y : S1x1024x256.Idx) : S1x128x256.Idx :=
  ix3 (y 0) ⟨(y 1).val % 128, Nat.mod_lt _ (by decide)⟩ (y 2)
/-- Eight heads' rows stacked: head `h` fills rows `128 h` to `128 h + 127`. -/
def tileOf {α : Type} (P : Fin 8 → S1x128x256.Idx → α) : S1x1024x256.Idx → α := fun y =>
  P ⟨(y 1).val / 128, by have h : (y 1).val < 1024 := (y 1).isLt; omega⟩ (inHead y)

/-- One head's rows agree with the stacked tile where its piece lies. -/
theorem tileOf_emb {α : Type} (P : Fin 8 → S1x128x256.Idx → α) (h : Fin 8)
    (inb : ∀ a, (![0, 128 * h.val, 0] : Fin 3 → ℕ) a + S1x128x256.size a ≤ S1x1024x256.size a) (x : S1x128x256.Idx) :
    tileOf P ((Rect.unit (s := S1x1024x256) ![0, 128 * h.val, 0] S1x128x256.size inb).emb x) = P h x := by
  have e1 : ((Rect.unit (s := S1x1024x256) ![0, 128 * h.val, 0] S1x128x256.size inb).emb x 1).val = 128 * h.val + (x 1).val := by
    show 128 * h.val + 1 * (x 1).val = _
    omega
  have b1 : (x 1).val < 128 := (x 1).isLt
  unfold tileOf
  congr 1
  · exact Fin.ext (by show _ / 128 = _; rw [e1]; omega)
  · funext a
    fin_cases a
    · exact Fin.ext (by show 0 + 1 * (x 0).val = (x 0).val; omega)
    · exact Fin.ext (by show _ % 128 = (x 1).val; rw [e1]; omega)
    · exact Fin.ext (by show 0 + 1 * (x 2).val = (x 2).val; omega)

/-- Eight stores, one per head, leave the stacked tile whatever was there before. -/
theorem read_tile (w : View sig .tc .vmem S1x1024x256 .f32) (f : w.ty.Contents (Elt F)) (P : Fin 8 → Vec F S1x128x256 .f32)
    {p0 p1 p2 p3 p4 p5 p6 p7 : Vec F S1x128x256 .f32} (h0 : p0 = P 0) (h1 : p1 = P 1) (h2 : p2 = P 2) (h3 : p3 = P 3) (h4 : p4 = P 4)
    (h5 : p5 = P 5) (h6 : p6 = P 6) (h7 : p7 = P 7) :
    w.read (Elt F) (w.writes (Elt F) f
      [⟨Rect.unit ![0, 896, 0] S1x128x256.size inb_S1x1024x256_S1x128x256_0_896_0, p7⟩,
        ⟨Rect.unit ![0, 768, 0] S1x128x256.size inb_S1x1024x256_S1x128x256_0_768_0, p6⟩,
        ⟨Rect.unit ![0, 640, 0] S1x128x256.size inb_S1x1024x256_S1x128x256_0_640_0, p5⟩,
        ⟨Rect.unit ![0, 512, 0] S1x128x256.size inb_S1x1024x256_S1x128x256_0_512_0, p4⟩,
        ⟨Rect.unit ![0, 384, 0] S1x128x256.size inb_S1x1024x256_S1x128x256_0_384_0, p3⟩,
        ⟨Rect.unit ![0, 256, 0] S1x128x256.size inb_S1x1024x256_S1x128x256_0_256_0, p2⟩,
        ⟨Rect.unit ![0, 128, 0] S1x128x256.size inb_S1x1024x256_S1x128x256_0_128_0, p1⟩,
        ⟨Rect.unit ![0, 0, 0] S1x128x256.size inb_S1x1024x256_S1x128x256_0_0_0, p0⟩]) = tileOf P := by
  subst h0 h1 h2 h3 h4 h5 h6 h7
  funext y
  refine View.read_writes_apply_of_pieces _ _ (tileOf P) _ ?_ y (View.cover_of_tiledL (s := S1x1024x256) _ S1x128x256.size (by sl_kernel_rfl) y)
  intro p hp
  simp only [List.mem_cons, List.not_mem_nil, or_false] at hp
  rcases hp with rfl | rfl | rfl | rfl | rfl | rfl | rfl | rfl
  · exact fun x => (tileOf_emb P 7 inb_S1x1024x256_S1x128x256_0_896_0 x).symm
  · exact fun x => (tileOf_emb P 6 inb_S1x1024x256_S1x128x256_0_768_0 x).symm
  · exact fun x => (tileOf_emb P 5 inb_S1x1024x256_S1x128x256_0_640_0 x).symm
  · exact fun x => (tileOf_emb P 4 inb_S1x1024x256_S1x128x256_0_512_0 x).symm
  · exact fun x => (tileOf_emb P 3 inb_S1x1024x256_S1x128x256_0_384_0 x).symm
  · exact fun x => (tileOf_emb P 2 inb_S1x1024x256_S1x128x256_0_256_0 x).symm
  · exact fun x => (tileOf_emb P 1 inb_S1x1024x256_S1x128x256_0_128_0 x).symm
  · exact fun x => (tileOf_emb P 0 inb_S1x1024x256_S1x128x256_0_0_0 x).symm

section Runs

variable (c : Dev nD) (i : grid0.Coords)
  (arg3 : Memref sig .tc .vmem S1x1x320x2048 .bf16) (harg3 : arg3.IsWhole)
  (arg4 : Memref sig .tc .vmem S1x256x320 .bf16) (harg4 : arg4.IsWhole)
  (arg5 : Memref sig .tc .vmem S1x256x256 .bf16) (harg5 : arg5.IsWhole)
  (arg6 : Memref sig .tc .vmem S8x128x256 .bf16) (harg6 : arg6.IsWhole)
  (arg7 : Memref sig .tc .vmem S1x1024x256 .f32) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S256x2048 .f32) (harg10 : arg10.IsWhole)
  (q : Vec F S1x1x320x2048 .bf16) (k : Vec F S1x256x320 .bf16) (v : Vec F S1x256x256 .bf16) (u : Vec F S8x128x256 .bf16)
  (M L : Vec F S1x2048 .f32) (A : Vec F S256x2048 .f32)

/-- Head `h`'s slice of the up-projection weights. -/
abbrev upHead (h : Fin 8) : Vec F S1x128x256 .bf16 :=
  VecWindow.window (s := S8x128x256) u ![h.val, 0, 0] S1x128x256.size (by intro a; fin_cases a <;> simp <;> omega)
/-- Head by head, the up-projection of the normalised accumulator's columns of that head. -/
def outRows : Fin 8 → Vec F S1x128x256 .f32 :=
  ![k0_pay22 A L (upHead u 0), k0_pay24 (k0_pay23 A L (upHead u 1)), k0_pay25 (k0_pay21 A L) (upHead u 2),
    k0_pay26 (k0_pay21 A L) (upHead u 3), k0_pay27 (k0_pay21 A L) (upHead u 4), k0_pay5 (k0_pay28 (k0_pay21 A L) (upHead u 5)),
    k0_pay6 (k0_pay21 A L) (upHead u 6), k0_pay7 (k0_pay21 A L) (upHead u 7)]
/-- The output tile from the finished accumulator and sum. -/
def outTile : Vec F S1x1024x256 .f32 := tileOf (outRows u L A)

/-- The four staged blocks, the body's inputs, held at their contents. -/
abbrev held : sProp (MT nD τ sig Unit (Elt F) ℕ (UR sig nD τ) ℕ) :=
  iprop(owns (c : Thread nD τ) arg3 fullShare q ∗ owns (c : Thread nD τ) arg4 fullShare k
    ∗ owns (c : Thread nD τ) arg5 fullShare v ∗ owns (c : Thread nD τ) arg6 fullShare u)
/-- The three scratch buffers held at the running maximum, sum and accumulator. -/
abbrev carried : sProp (MT nD τ sig Unit (Elt F) ℕ (UR sig nD τ) ℕ) :=
  iprop(owns (c : Thread nD τ) arg8 fullShare M ∗ owns (c : Thread nD τ) arg9 fullShare L ∗ owns (c : Thread nD τ) arg10 fullShare A)

set_option maxHeartbeats 1000000 in
/-- A key block below the diagonal, not the first: one unmasked step of the recurrence; the output tile is not touched. -/
theorem run_below (h0 : ¬ atFirst i) (h1 : atBelow i) (h2 : ¬ atDiag i) (O : Vec F S1x1024x256 .f32) (K : PUnit → sProp (MT nD τ sig Unit (Elt F) ℕ (UR sig nD τ) ℕ)) :
    iprop(held c arg3 arg4 arg5 arg6 q k v u ∗ owns (c : Thread nD τ) arg7 fullShare O ∗ carried c arg8 arg9 arg10 M L A
        ∗ (iprop(held c arg3 arg4 arg5 arg6 q k v u ∗ owns (c : Thread nD τ) arg7 fullShare O
            ∗ carried c arg8 arg9 arg10 (k0_pay4 (k0_pay9 k q M)) (k0_pay12 k q M L) (k0_pay13 k q M A v)) -∗ K ⟨⟩))
      ⊢ wp frame (wpE (defs₀ (F := F)) Variants.none c none) Set.univ
          (cc0_mla_prompt i arg3 harg3 arg4 harg4 arg5 harg5 arg6 harg6 arg7 harg7 arg8 harg8 arg9 harg9 arg10 harg10) K := by
  simp only [cc0_mla_prompt_eq_skeleton]; unfold cc0_mla_prompt_skel
  simp only [k0_part1_eq_skeleton]
  unfold held carried owns
  iintro ⟨⟨⟨%f3, %e3, H3⟩, ⟨%f4, %e4, H4⟩, ⟨%f5, %e5, H5⟩, ⟨%f6, %e6, H6⟩⟩, ⟨%f7, %e7, H7⟩, ⟨⟨%f8, %e8, H8⟩, ⟨%f9, %e9, H9⟩, ⟨%f10, %e10, H10⟩⟩, Hk⟩
  obtain rfl := harg3.eq_unread e3; obtain rfl := harg4.eq_unread e4; obtain rfl := harg5.eq_unread e5; obtain rfl := harg6.eq_unread e6
  obtain rfl := harg8.eq_unread e8; obtain rfl := harg9.eq_unread e9; obtain rfl := harg10.eq_unread e10
  obtain rfl := harg7.eq_unread e7
  have l3 := fun inb => (View.readAt_full arg3.view (harg3.unread q) (off := ![0, 0, 0, 0]) inb).trans e3
  have l4 := fun inb => (View.readAt_full arg4.view (harg4.unread k) (off := ![0, 0, 0]) inb).trans e4
  have l5 := fun inb => (View.readAt_full arg5.view (harg5.unread v) (off := ![0, 0, 0]) inb).trans e5
  have l8 := fun inb => (View.readAt_full arg8.view (harg8.unread M) (off := ![0, 0]) inb).trans e8
  have l9 := fun inb => (View.readAt_full arg9.view (harg9.unread L) (off := ![0, 0]) inb).trans e9
  have l10 := fun inb => (View.readAt_full arg10.view (harg10.unread A) (off := ![0, 0]) inb).trans e10
  sl_exec (disch := first | sl_exact h0 | sl_exact h1 | sl_exact h2)
  sl_step
  have w := fun (h : Fin 8) inb => (View.readAt_unit arg6.view (harg6.unread u) (off := ![h.val, 0, 0]) inb rfl inb).trans
    (congrArg (fun x => VecWindow.window (s := S8x128x256) x ![h.val, 0, 0] S1x128x256.size inb) e6)
  iapply Hk
  isplitl [H3 H4 H5 H6]
  · isplitl [H3]; · iexists _; isplitr; swap; · iexact H3
                    ipureintro; exact harg3.read_unread _
    isplitl [H4]; · iexists _; isplitr; swap; · iexact H4
                    ipureintro; exact harg4.read_unread _
    isplitl [H5]; · iexists _; isplitr; swap; · iexact H5
                    ipureintro; exact harg5.read_unread _
    iexists _; isplitr; swap; · iexact H6
    ipureintro; exact harg6.read_unread _
  isplitl [H7]; · iexists _; isplitr; swap; · iexact H7
                  ipureintro; exact harg7.read_unread _
  isplitl [H8]; · iexists _; isplitr; swap; · iexact H8
                  ipureintro; exact (View.read_writes_full _ _ _ _ _).trans rfl
  isplitl [H9]; · iexists _; isplitr; swap; · iexact H9
                  ipureintro; exact (View.read_writes_full _ _ _ _ _).trans rfl
  iexists _; isplitr; swap; · iexact H10
  ipureintro; exact (View.read_writes_full _ _ _ _ _).trans rfl

set_option maxHeartbeats 1000000 in
/-- A key block above the diagonal: nothing is read, nothing is changed. -/
theorem run_above (h0 : ¬ atFirst i) (h1 : ¬ atBelow i) (h2 : ¬ atDiag i) (O : Vec F S1x1024x256 .f32) (K : PUnit → sProp (MT nD τ sig Unit (Elt F) ℕ (UR sig nD τ) ℕ)) :
    iprop(held c arg3 arg4 arg5 arg6 q k v u ∗ owns (c : Thread nD τ) arg7 fullShare O ∗ carried c arg8 arg9 arg10 M L A
        ∗ (iprop(held c arg3 arg4 arg5 arg6 q k v u ∗ owns (c : Thread nD τ) arg7 fullShare O
            ∗ carried c arg8 arg9 arg10 M L A) -∗ K ⟨⟩))
      ⊢ wp frame (wpE (defs₀ (F := F)) Variants.none c none) Set.univ
          (cc0_mla_prompt i arg3 harg3 arg4 harg4 arg5 harg5 arg6 harg6 arg7 harg7 arg8 harg8 arg9 harg9 arg10 harg10) K := by
  simp only [cc0_mla_prompt_eq_skeleton]; unfold cc0_mla_prompt_skel
  unfold held carried owns
  iintro ⟨⟨⟨%f3, %e3, H3⟩, ⟨%f4, %e4, H4⟩, ⟨%f5, %e5, H5⟩, ⟨%f6, %e6, H6⟩⟩, ⟨%f7, %e7, H7⟩, ⟨⟨%f8, %e8, H8⟩, ⟨%f9, %e9, H9⟩, ⟨%f10, %e10, H10⟩⟩, Hk⟩
  obtain rfl := harg3.eq_unread e3; obtain rfl := harg4.eq_unread e4; obtain rfl := harg5.eq_unread e5; obtain rfl := harg6.eq_unread e6
  obtain rfl := harg8.eq_unread e8; obtain rfl := harg9.eq_unread e9; obtain rfl := harg10.eq_unread e10
  obtain rfl := harg7.eq_unread e7
  have l3 := fun inb => (View.readAt_full arg3.view (harg3.unread q) (off := ![0, 0, 0, 0]) inb).trans e3
  have l4 := fun inb => (View.readAt_full arg4.view (harg4.unread k) (off := ![0, 0, 0]) inb).trans e4
  have l5 := fun inb => (View.readAt_full arg5.view (harg5.unread v) (off := ![0, 0, 0]) inb).trans e5
  have l8 := fun inb => (View.readAt_full arg8.view (harg8.unread M) (off := ![0, 0]) inb).trans e8
  have l9 := fun inb => (View.readAt_full arg9.view (harg9.unread L) (off := ![0, 0]) inb).trans e9
  have l10 := fun inb => (View.readAt_full arg10.view (harg10.unread A) (off := ![0, 0]) inb).trans e10
  sl_exec (disch := first | sl_exact h0 | sl_exact h1 | sl_exact h2)
  sl_step
  have w := fun (h : Fin 8) inb => (View.readAt_unit arg6.view (harg6.unread u) (off := ![h.val, 0, 0]) inb rfl inb).trans
    (congrArg (fun x => VecWindow.window (s := S8x128x256) x ![h.val, 0, 0] S1x128x256.size inb) e6)
  iapply Hk
  isplitl [H3 H4 H5 H6]
  · isplitl [H3]; · iexists _; isplitr; swap; · iexact H3
                    ipureintro; exact harg3.read_unread _
    isplitl [H4]; · iexists _; isplitr; swap; · iexact H4
                    ipureintro; exact harg4.read_unread _
    isplitl [H5]; · iexists _; isplitr; swap; · iexact H5
                    ipureintro; exact harg5.read_unread _
    iexists _; isplitr; swap; · iexact H6
    ipureintro; exact harg6.read_unread _
  isplitl [H7]; · iexists _; isplitr; swap; · iexact H7
                  ipureintro; exact harg7.read_unread _
  isplitl [H8]; · iexists _; isplitr; swap; · iexact H8
                  ipureintro; exact e8
  isplitl [H9]; · iexists _; isplitr; swap; · iexact H9
                  ipureintro; exact e9
  iexists _; isplitr; swap; · iexact H10
  ipureintro; exact e10

set_option maxHeartbeats 1000000 in
/-- The first key block, below the diagonal: the scratch is set to the empty state, then one unmasked step. -/
theorem run_first (h0 : atFirst i) (h1 : atBelow i) (h2 : ¬ atDiag i) (O : Vec F S1x1024x256 .f32) (K : PUnit → sProp (MT nD τ sig Unit (Elt F) ℕ (UR sig nD τ) ℕ)) :
    iprop(held c arg3 arg4 arg5 arg6 q k v u ∗ owns (c : Thread nD τ) arg7 fullShare O ∗ (∃ M L A, carried c arg8 arg9 arg10 M L A)
        ∗ (iprop(held c arg3 arg4 arg5 arg6 q k v u ∗ owns (c : Thread nD τ) arg7 fullShare O
            ∗ carried c arg8 arg9 arg10 (k0_pay4 (k0_pay9 k q k0_pay1)) (k0_pay12 k q k0_pay1 k0_pay2) (k0_pay13 k q k0_pay1 k0_pay3 v)) -∗ K ⟨⟩))
      ⊢ wp frame (wpE (defs₀ (F := F)) Variants.none c none) Set.univ
          (cc0_mla_prompt i arg3 harg3 arg4 harg4 arg5 harg5 arg6 harg6 arg7 harg7 arg8 harg8 arg9 harg9 arg10 harg10) K := by
  simp only [cc0_mla_prompt_eq_skeleton]; unfold cc0_mla_prompt_skel
  simp only [k0_part1_eq_skeleton]
  unfold held carried owns
  iintro ⟨⟨⟨%f3, %e3, H3⟩, ⟨%f4, %e4, H4⟩, ⟨%f5, %e5, H5⟩, ⟨%f6, %e6, H6⟩⟩, ⟨%f7, %e7, H7⟩, ⟨%M, %L, %A, ⟨%f8, %e8, H8⟩, ⟨%f9, %e9, H9⟩, ⟨%f10, %e10, H10⟩⟩, Hk⟩
  obtain rfl := harg3.eq_unread e3; obtain rfl := harg4.eq_unread e4; obtain rfl := harg5.eq_unread e5; obtain rfl := harg6.eq_unread e6
  obtain rfl := harg8.eq_unread e8; obtain rfl := harg9.eq_unread e9; obtain rfl := harg10.eq_unread e10
  obtain rfl := harg7.eq_unread e7
  have l3 := fun inb => (View.readAt_full arg3.view (harg3.unread q) (off := ![0, 0, 0, 0]) inb).trans e3
  have l4 := fun inb => (View.readAt_full arg4.view (harg4.unread k) (off := ![0, 0, 0]) inb).trans e4
  have l5 := fun inb => (View.readAt_full arg5.view (harg5.unread v) (off := ![0, 0, 0]) inb).trans e5
  have l8 := fun inb => (View.readAt_full arg8.view (harg8.unread M) (off := ![0, 0]) inb).trans e8
  have l9 := fun inb => (View.readAt_full arg9.view (harg9.unread L) (off := ![0, 0]) inb).trans e9
  have l10 := fun inb => (View.readAt_full arg10.view (harg10.unread A) (off := ![0, 0]) inb).trans e10
  sl_exec (disch := first | sl_exact h0 | sl_exact h1 | sl_exact h2)
  sl_step
  have w := fun (h : Fin 8) inb => (View.readAt_unit arg6.view (harg6.unread u) (off := ![h.val, 0, 0]) inb rfl inb).trans
    (congrArg (fun x => VecWindow.window (s := S8x128x256) x ![h.val, 0, 0] S1x128x256.size inb) e6)
  iapply Hk
  isplitl [H3 H4 H5 H6]
  · isplitl [H3]; · iexists _; isplitr; swap; · iexact H3
                    ipureintro; exact harg3.read_unread _
    isplitl [H4]; · iexists _; isplitr; swap; · iexact H4
                    ipureintro; exact harg4.read_unread _
    isplitl [H5]; · iexists _; isplitr; swap; · iexact H5
                    ipureintro; exact harg5.read_unread _
    iexists _; isplitr; swap; · iexact H6
    ipureintro; exact harg6.read_unread _
  isplitl [H7]; · iexists _; isplitr; swap; · iexact H7
                  ipureintro; exact harg7.read_unread _
  isplitl [H8]; · iexists _; isplitr; swap; · iexact H8
                  ipureintro; exact (View.read_writes_full _ _ _ _ _).trans (congrArg k0_pay4 (congrArg (k0_pay9 k q) (View.readCov_full arg8.view _ _ _ _)))
  isplitl [H9]; · iexists _; isplitr; swap; · iexact H9
                  ipureintro; exact (View.read_writes_full _ _ _ _ _).trans (same2 (k0_pay12 k q) (View.readCov_full arg8.view _ _ _ _) (View.readCov_full arg9.view _ _ _ _))
  iexists _; isplitr; swap; · iexact H10
  ipureintro; exact (View.read_writes_full _ _ _ _ _).trans (same2 (fun a b => k0_pay13 k q a b v) (View.readCov_full arg8.view _ _ _ _) (View.readCov_full arg10.view _ _ _ _))

set_option maxHeartbeats 1000000 in
/-- The diagonal key block, not the first: one masked step, then the output tile from the finished state. -/
theorem run_diag (h0 : ¬ atFirst i) (h1 : ¬ atBelow i) (h2 : atDiag i) (K : PUnit → sProp (MT nD τ sig Unit (Elt F) ℕ (UR sig nD τ) ℕ)) :
    iprop(held c arg3 arg4 arg5 arg6 q k v u ∗ (∃ O, owns (c : Thread nD τ) arg7 fullShare O) ∗ carried c arg8 arg9 arg10 M L A
        ∗ (iprop(held c arg3 arg4 arg5 arg6 q k v u ∗ owns (c : Thread nD τ) arg7 fullShare (outTile u (k0_pay18 (BitVec.ofNat 32 (i 1).val) (BitVec.ofNat 32 (i 2).val) k q M L) (k0_pay19 (k0_pay16 (BitVec.ofNat 32 (i 1).val) (BitVec.ofNat 32 (i 2).val) k q M) (k0_pay17 (BitVec.ofNat 32 (i 1).val) (BitVec.ofNat 32 (i 2).val) k q M) A v))
            ∗ carried c arg8 arg9 arg10 (k0_pay20 (k0_pay15 (BitVec.ofNat 32 (i 1).val) (BitVec.ofNat 32 (i 2).val) k q M)) (k0_pay18 (BitVec.ofNat 32 (i 1).val) (BitVec.ofNat 32 (i 2).val) k q M L) (k0_pay19 (k0_pay16 (BitVec.ofNat 32 (i 1).val) (BitVec.ofNat 32 (i 2).val) k q M) (k0_pay17 (BitVec.ofNat 32 (i 1).val) (BitVec.ofNat 32 (i 2).val) k q M) A v)) -∗ K ⟨⟩))
      ⊢ wp frame (wpE (defs₀ (F := F)) Variants.none c none) Set.univ
          (cc0_mla_prompt i arg3 harg3 arg4 harg4 arg5 harg5 arg6 harg6 arg7 harg7 arg8 harg8 arg9 harg9 arg10 harg10) K := by
  simp only [cc0_mla_prompt_eq_skeleton]; unfold cc0_mla_prompt_skel
  simp only [k0_part2_eq_skeleton, k0_part3_eq_skeleton, k0_part4_eq_skeleton]
  unfold held carried owns
  iintro ⟨⟨⟨%f3, %e3, H3⟩, ⟨%f4, %e4, H4⟩, ⟨%f5, %e5, H5⟩, ⟨%f6, %e6, H6⟩⟩, ⟨%O, %f7, %e7, H7⟩, ⟨⟨%f8, %e8, H8⟩, ⟨%f9, %e9, H9⟩, ⟨%f10, %e10, H10⟩⟩, Hk⟩
  obtain rfl := harg3.eq_unread e3; obtain rfl := harg4.eq_unread e4; obtain rfl := harg5.eq_unread e5; obtain rfl := harg6.eq_unread e6
  obtain rfl := harg8.eq_unread e8; obtain rfl := harg9.eq_unread e9; obtain rfl := harg10.eq_unread e10
  obtain rfl := harg7.eq_unread e7
  have l3 := fun inb => (View.readAt_full arg3.view (harg3.unread q) (off := ![0, 0, 0, 0]) inb).trans e3
  have l4 := fun inb => (View.readAt_full arg4.view (harg4.unread k) (off := ![0, 0, 0]) inb).trans e4
  have l5 := fun inb => (View.readAt_full arg5.view (harg5.unread v) (off := ![0, 0, 0]) inb).trans e5
  have l8 := fun inb => (View.readAt_full arg8.view (harg8.unread M) (off := ![0, 0]) inb).trans e8
  have l9 := fun inb => (View.readAt_full arg9.view (harg9.unread L) (off := ![0, 0]) inb).trans e9
  have l10 := fun inb => (View.readAt_full arg10.view (harg10.unread A) (off := ![0, 0]) inb).trans e10
  sl_exec (disch := first | sl_exact h0 | sl_exact h1 | sl_exact h2)
  sl_step
  have w := fun (h : Fin 8) inb => (View.readAt_unit arg6.view (harg6.unread u) (off := ![h.val, 0, 0]) inb rfl inb).trans
    (congrArg (fun x => VecWindow.window (s := S8x128x256) x ![h.val, 0, 0] S1x128x256.size inb) e6)
  iapply Hk
  isplitl [H3 H4 H5 H6]
  · isplitl [H3]; · iexists _; isplitr; swap; · iexact H3
                    ipureintro; exact harg3.read_unread _
    isplitl [H4]; · iexists _; isplitr; swap; · iexact H4
                    ipureintro; exact harg4.read_unread _
    isplitl [H5]; · iexists _; isplitr; swap; · iexact H5
                    ipureintro; exact harg5.read_unread _
    iexists _; isplitr; swap; · iexact H6
    ipureintro; exact harg6.read_unread _
  isplitl [H7]; · iexists _; isplitr; swap; · iexact H7
                  ipureintro
                  refine read_tile arg7.view _ (outRows u _ _) ?_ ?_ ?_ ?_ ?_ ?_ ?_ ?_
                  · exact same3 k0_pay22 (View.readCov_full arg10.view _ _ _ _) (View.readCov_full arg9.view _ _ _ _) (w 0 _)
                  · exact congrArg k0_pay24 (same3 k0_pay23 (View.readCov_full arg10.view _ _ _ _) (View.readCov_full arg9.view _ _ _ _) (w 1 _))
                  · exact same2 k0_pay25 (same2 k0_pay21 (View.readCov_full arg10.view _ _ _ _) (View.readCov_full arg9.view _ _ _ _)) (w 2 _)
                  · exact same2 k0_pay26 (same2 k0_pay21 (View.readCov_full arg10.view _ _ _ _) (View.readCov_full arg9.view _ _ _ _)) (w 3 _)
                  · exact same2 k0_pay27 (same2 k0_pay21 (View.readCov_full arg10.view _ _ _ _) (View.readCov_full arg9.view _ _ _ _)) (w 4 _)
                  · exact congrArg k0_pay5 (same2 k0_pay28 (same2 k0_pay21 (View.readCov_full arg10.view _ _ _ _) (View.readCov_full arg9.view _ _ _ _)) (w 5 _))
                  · exact same2 k0_pay6 (same2 k0_pay21 (View.readCov_full arg10.view _ _ _ _) (View.readCov_full arg9.view _ _ _ _)) (w 6 _)
                  · exact same2 k0_pay7 (same2 k0_pay21 (View.readCov_full arg10.view _ _ _ _) (View.readCov_full arg9.view _ _ _ _)) (w 7 _)
  isplitl [H8]; · iexists _; isplitr; swap; · iexact H8
                  ipureintro; exact (View.read_writes_full _ _ _ _ _).trans rfl
  isplitl [H9]; · iexists _; isplitr; swap; · iexact H9
                  ipureintro; exact (View.read_writes_full _ _ _ _ _).trans rfl
  iexists _; isplitr; swap; · iexact H10
  ipureintro; exact (View.read_writes_full _ _ _ _ _).trans rfl

set_option maxHeartbeats 1000000 in
/-- The first key block on the diagonal: the empty state, one masked step, and the output tile. -/
theorem run_only (h0 : atFirst i) (h1 : ¬ atBelow i) (h2 : atDiag i) (K : PUnit → sProp (MT nD τ sig Unit (Elt F) ℕ (UR sig nD τ) ℕ)) :
    iprop(held c arg3 arg4 arg5 arg6 q k v u ∗ (∃ O, owns (c : Thread nD τ) arg7 fullShare O) ∗ (∃ M L A, carried c arg8 arg9 arg10 M L A)
        ∗ (iprop(held c arg3 arg4 arg5 arg6 q k v u ∗ owns (c : Thread nD τ) arg7 fullShare (outTile u (k0_pay18 (BitVec.ofNat 32 (i 1).val) (BitVec.ofNat 32 (i 2).val) k q k0_pay1 k0_pay2) (k0_pay19 (k0_pay16 (BitVec.ofNat 32 (i 1).val) (BitVec.ofNat 32 (i 2).val) k q k0_pay1) (k0_pay17 (BitVec.ofNat 32 (i 1).val) (BitVec.ofNat 32 (i 2).val) k q k0_pay1) k0_pay3 v))
            ∗ carried c arg8 arg9 arg10 (k0_pay20 (k0_pay15 (BitVec.ofNat 32 (i 1).val) (BitVec.ofNat 32 (i 2).val) k q k0_pay1)) (k0_pay18 (BitVec.ofNat 32 (i 1).val) (BitVec.ofNat 32 (i 2).val) k q k0_pay1 k0_pay2) (k0_pay19 (k0_pay16 (BitVec.ofNat 32 (i 1).val) (BitVec.ofNat 32 (i 2).val) k q k0_pay1) (k0_pay17 (BitVec.ofNat 32 (i 1).val) (BitVec.ofNat 32 (i 2).val) k q k0_pay1) k0_pay3 v)) -∗ K ⟨⟩))
      ⊢ wp frame (wpE (defs₀ (F := F)) Variants.none c none) Set.univ
          (cc0_mla_prompt i arg3 harg3 arg4 harg4 arg5 harg5 arg6 harg6 arg7 harg7 arg8 harg8 arg9 harg9 arg10 harg10) K := by
  simp only [cc0_mla_prompt_eq_skeleton]; unfold cc0_mla_prompt_skel
  simp only [k0_part2_eq_skeleton, k0_part3_eq_skeleton, k0_part4_eq_skeleton]
  unfold held carried owns
  iintro ⟨⟨⟨%f3, %e3, H3⟩, ⟨%f4, %e4, H4⟩, ⟨%f5, %e5, H5⟩, ⟨%f6, %e6, H6⟩⟩, ⟨%O, %f7, %e7, H7⟩, ⟨%M, %L, %A, ⟨%f8, %e8, H8⟩, ⟨%f9, %e9, H9⟩, ⟨%f10, %e10, H10⟩⟩, Hk⟩
  obtain rfl := harg3.eq_unread e3; obtain rfl := harg4.eq_unread e4; obtain rfl := harg5.eq_unread e5; obtain rfl := harg6.eq_unread e6
  obtain rfl := harg8.eq_unread e8; obtain rfl := harg9.eq_unread e9; obtain rfl := harg10.eq_unread e10
  obtain rfl := harg7.eq_unread e7
  have l3 := fun inb => (View.readAt_full arg3.view (harg3.unread q) (off := ![0, 0, 0, 0]) inb).trans e3
  have l4 := fun inb => (View.readAt_full arg4.view (harg4.unread k) (off := ![0, 0, 0]) inb).trans e4
  have l5 := fun inb => (View.readAt_full arg5.view (harg5.unread v) (off := ![0, 0, 0]) inb).trans e5
  have l8 := fun inb => (View.readAt_full arg8.view (harg8.unread M) (off := ![0, 0]) inb).trans e8
  have l9 := fun inb => (View.readAt_full arg9.view (harg9.unread L) (off := ![0, 0]) inb).trans e9
  have l10 := fun inb => (View.readAt_full arg10.view (harg10.unread A) (off := ![0, 0]) inb).trans e10
  sl_exec (disch := first | sl_exact h0 | sl_exact h1 | sl_exact h2)
  sl_step
  have w := fun (h : Fin 8) inb => (View.readAt_unit arg6.view (harg6.unread u) (off := ![h.val, 0, 0]) inb rfl inb).trans
    (congrArg (fun x => VecWindow.window (s := S8x128x256) x ![h.val, 0, 0] S1x128x256.size inb) e6)
  iapply Hk
  isplitl [H3 H4 H5 H6]
  · isplitl [H3]; · iexists _; isplitr; swap; · iexact H3
                    ipureintro; exact harg3.read_unread _
    isplitl [H4]; · iexists _; isplitr; swap; · iexact H4
                    ipureintro; exact harg4.read_unread _
    isplitl [H5]; · iexists _; isplitr; swap; · iexact H5
                    ipureintro; exact harg5.read_unread _
    iexists _; isplitr; swap; · iexact H6
    ipureintro; exact harg6.read_unread _
  isplitl [H7]; · iexists _; isplitr; swap; · iexact H7
                  ipureintro
                  refine read_tile arg7.view _ (outRows u _ _) ?_ ?_ ?_ ?_ ?_ ?_ ?_ ?_
                  · exact same3 k0_pay22 ((View.readCov_full arg10.view _ _ _ _).trans (same2 (fun a b => k0_pay19 (k0_pay16 (BitVec.ofNat 32 (i 1).val) (BitVec.ofNat 32 (i 2).val) k q a) (k0_pay17 (BitVec.ofNat 32 (i 1).val) (BitVec.ofNat 32 (i 2).val) k q a) b v) (View.readCov_full arg8.view _ _ _ _) (View.readCov_full arg10.view _ _ _ _))) ((View.readCov_full arg9.view _ _ _ _).trans (same2 (k0_pay18 (BitVec.ofNat 32 (i 1).val) (BitVec.ofNat 32 (i 2).val) k q) (View.readCov_full arg8.view _ _ _ _) (View.readCov_full arg9.view _ _ _ _))) (w 0 _)
                  · exact congrArg k0_pay24 (same3 k0_pay23 ((View.readCov_full arg10.view _ _ _ _).trans (same2 (fun a b => k0_pay19 (k0_pay16 (BitVec.ofNat 32 (i 1).val) (BitVec.ofNat 32 (i 2).val) k q a) (k0_pay17 (BitVec.ofNat 32 (i 1).val) (BitVec.ofNat 32 (i 2).val) k q a) b v) (View.readCov_full arg8.view _ _ _ _) (View.readCov_full arg10.view _ _ _ _))) ((View.readCov_full arg9.view _ _ _ _).trans (same2 (k0_pay18 (BitVec.ofNat 32 (i 1).val) (BitVec.ofNat 32 (i 2).val) k q) (View.readCov_full arg8.view _ _ _ _) (View.readCov_full arg9.view _ _ _ _))) (w 1 _))
                  · exact same2 k0_pay25 (same2 k0_pay21 ((View.readCov_full arg10.view _ _ _ _).trans (same2 (fun a b => k0_pay19 (k0_pay16 (BitVec.ofNat 32 (i 1).val) (BitVec.ofNat 32 (i 2).val) k q a) (k0_pay17 (BitVec.ofNat 32 (i 1).val) (BitVec.ofNat 32 (i 2).val) k q a) b v) (View.readCov_full arg8.view _ _ _ _) (View.readCov_full arg10.view _ _ _ _))) ((View.readCov_full arg9.view _ _ _ _).trans (same2 (k0_pay18 (BitVec.ofNat 32 (i 1).val) (BitVec.ofNat 32 (i 2).val) k q) (View.readCov_full arg8.view _ _ _ _) (View.readCov_full arg9.view _ _ _ _)))) (w 2 _)
                  · exact same2 k0_pay26 (same2 k0_pay21 ((View.readCov_full arg10.view _ _ _ _).trans (same2 (fun a b => k0_pay19 (k0_pay16 (BitVec.ofNat 32 (i 1).val) (BitVec.ofNat 32 (i 2).val) k q a) (k0_pay17 (BitVec.ofNat 32 (i 1).val) (BitVec.ofNat 32 (i 2).val) k q a) b v) (View.readCov_full arg8.view _ _ _ _) (View.readCov_full arg10.view _ _ _ _))) ((View.readCov_full arg9.view _ _ _ _).trans (same2 (k0_pay18 (BitVec.ofNat 32 (i 1).val) (BitVec.ofNat 32 (i 2).val) k q) (View.readCov_full arg8.view _ _ _ _) (View.readCov_full arg9.view _ _ _ _)))) (w 3 _)
                  · exact same2 k0_pay27 (same2 k0_pay21 ((View.readCov_full arg10.view _ _ _ _).trans (same2 (fun a b => k0_pay19 (k0_pay16 (BitVec.ofNat 32 (i 1).val) (BitVec.ofNat 32 (i 2).val) k q a) (k0_pay17 (BitVec.ofNat 32 (i 1).val) (BitVec.ofNat 32 (i 2).val) k q a) b v) (View.readCov_full arg8.view _ _ _ _) (View.readCov_full arg10.view _ _ _ _))) ((View.readCov_full arg9.view _ _ _ _).trans (same2 (k0_pay18 (BitVec.ofNat 32 (i 1).val) (BitVec.ofNat 32 (i 2).val) k q) (View.readCov_full arg8.view _ _ _ _) (View.readCov_full arg9.view _ _ _ _)))) (w 4 _)
                  · exact congrArg k0_pay5 (same2 k0_pay28 (same2 k0_pay21 ((View.readCov_full arg10.view _ _ _ _).trans (same2 (fun a b => k0_pay19 (k0_pay16 (BitVec.ofNat 32 (i 1).val) (BitVec.ofNat 32 (i 2).val) k q a) (k0_pay17 (BitVec.ofNat 32 (i 1).val) (BitVec.ofNat 32 (i 2).val) k q a) b v) (View.readCov_full arg8.view _ _ _ _) (View.readCov_full arg10.view _ _ _ _))) ((View.readCov_full arg9.view _ _ _ _).trans (same2 (k0_pay18 (BitVec.ofNat 32 (i 1).val) (BitVec.ofNat 32 (i 2).val) k q) (View.readCov_full arg8.view _ _ _ _) (View.readCov_full arg9.view _ _ _ _)))) (w 5 _))
                  · exact same2 k0_pay6 (same2 k0_pay21 ((View.readCov_full arg10.view _ _ _ _).trans (same2 (fun a b => k0_pay19 (k0_pay16 (BitVec.ofNat 32 (i 1).val) (BitVec.ofNat 32 (i 2).val) k q a) (k0_pay17 (BitVec.ofNat 32 (i 1).val) (BitVec.ofNat 32 (i 2).val) k q a) b v) (View.readCov_full arg8.view _ _ _ _) (View.readCov_full arg10.view _ _ _ _))) ((View.readCov_full arg9.view _ _ _ _).trans (same2 (k0_pay18 (BitVec.ofNat 32 (i 1).val) (BitVec.ofNat 32 (i 2).val) k q) (View.readCov_full arg8.view _ _ _ _) (View.readCov_full arg9.view _ _ _ _)))) (w 6 _)
                  · exact same2 k0_pay7 (same2 k0_pay21 ((View.readCov_full arg10.view _ _ _ _).trans (same2 (fun a b => k0_pay19 (k0_pay16 (BitVec.ofNat 32 (i 1).val) (BitVec.ofNat 32 (i 2).val) k q a) (k0_pay17 (BitVec.ofNat 32 (i 1).val) (BitVec.ofNat 32 (i 2).val) k q a) b v) (View.readCov_full arg8.view _ _ _ _) (View.readCov_full arg10.view _ _ _ _))) ((View.readCov_full arg9.view _ _ _ _).trans (same2 (k0_pay18 (BitVec.ofNat 32 (i 1).val) (BitVec.ofNat 32 (i 2).val) k q) (View.readCov_full arg8.view _ _ _ _) (View.readCov_full arg9.view _ _ _ _)))) (w 7 _)
  isplitl [H8]; · iexists _; isplitr; swap; · iexact H8
                  ipureintro; exact (View.read_writes_full _ _ _ _ _).trans (congrArg k0_pay20 (congrArg (k0_pay15 (BitVec.ofNat 32 (i 1).val) (BitVec.ofNat 32 (i 2).val) k q) (View.readCov_full arg8.view _ _ _ _)))
  isplitl [H9]; · iexists _; isplitr; swap; · iexact H9
                  ipureintro; exact (View.read_writes_full _ _ _ _ _).trans (same2 (k0_pay18 (BitVec.ofNat 32 (i 1).val) (BitVec.ofNat 32 (i 2).val) k q) (View.readCov_full arg8.view _ _ _ _) (View.readCov_full arg9.view _ _ _ _))
  iexists _; isplitr; swap; · iexact H10
  ipureintro; exact (View.read_writes_full _ _ _ _ _).trans (same2 (fun a b => k0_pay19 (k0_pay16 (BitVec.ofNat 32 (i 1).val) (BitVec.ofNat 32 (i 2).val) k q a) (k0_pay17 (BitVec.ofNat 32 (i 1).val) (BitVec.ofNat 32 (i 2).val) k q a) b v) (View.readCov_full arg8.view _ _ _ _) (View.readCov_full arg10.view _ _ _ _))

end Runs

end Cert.KernelIdeal.Mla

end
-- ==== Proof.Mla.Run.lean ====
/-
  Hand-written. The attention kernel's pipeline run with its contents tracked: the state in the scratch buffers after
  each grid point, the output tile from the diagonal point on, and the whole launch with the counters at zero.
-/
module

public import proofs.«01_k».proof.Proof.Mla.Step

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F] [Named F]

variable (m : (ℓ : Loc nD τ sig) → Buf (Elt F) ℓ) (ρ : Dev nD → PrngReg)

/-! ## The state after each point -/

/-- The running maximum, sum and accumulator. -/
structure State (F : FTy → Type) where
  mx : Vec F S1x2048 .f32
  sm : Vec F S1x2048 .f32
  ac : Vec F S256x2048 .f32

/-- The state before any key. -/
def empty : State F := ⟨k0_pay1, k0_pay2, k0_pay3⟩

/-- One unmasked step, over key rows `k` (and their value columns `v`) for the queries `q`. -/
def stepBelow (k : Vec F S1x256x320 .bf16) (q : Vec F S1x1x320x2048 .bf16) (v : Vec F S1x256x256 .bf16) (s : State F) : State F :=
  ⟨k0_pay4 (k0_pay9 k q s.mx), k0_pay12 k q s.mx s.sm, k0_pay13 k q s.mx s.ac v⟩

/-- One masked step, of key block `b` for query tile `a`. -/
def stepDiag (a b : BitVec 32) (k : Vec F S1x256x320 .bf16) (q : Vec F S1x1x320x2048 .bf16) (v : Vec F S1x256x256 .bf16)
    (s : State F) : State F :=
  ⟨k0_pay20 (k0_pay15 a b k q s.mx), k0_pay18 a b k q s.mx s.sm, k0_pay19 (k0_pay16 a b k q s.mx) (k0_pay17 a b k q s.mx) s.ac v⟩

/-- The state that point `t` starts from: the empty one at a tile's first key block. -/
def start (t : Fin cfg0.N) (s : State F) : State F := if t.val % 16 = 0 then empty else s

/-- What point `t` makes of the state. -/
def stepAt (c : Dev nD) (t : Fin cfg0.N) (s : State F) : State F :=
  if t.val % 16 < t.val / 16 % 16 then stepBelow (iblk m c 1 t) (iblk m c 0 t) (iblk m c 2 t) (start t s)
  else if t.val % 16 = t.val / 16 % 16 then
    stepDiag (BitVec.ofNat 32 (grid0.coords t 1).val) (BitVec.ofNat 32 (grid0.coords t 2).val) (iblk m c 1 t) (iblk m c 0 t) (iblk m c 2 t) (start t s)
  else s

/-- The state after the first `n` points. -/
def state (c : Dev nD) : ℕ → State F
  | 0 => empty
  | n + 1 => if h : n < cfg0.N then stepAt m c ⟨n, h⟩ (state c n) else state c n

theorem state_succ (c : Dev nD) (t : Fin cfg0.N) : state m c (t.val + 1) = stepAt m c t (state m c t.val) := by
  rw [state, dif_pos t.isLt]

/-- The up-projection's block is the same at every point. -/
theorem iblk3_const (c : Dev nD) (t t' : Fin cfg0.N) : iblk m c 3 t = iblk m c 3 t' := rfl

/-! ## The proof data -/

abbrev ms0 (t : Fin cfg0.N) : Memref sig .tc .vmem S1x1x320x2048 .bf16 := win0_0.stage (cfg0.slots t 0)
abbrev ms1 (t : Fin cfg0.N) : Memref sig .tc .vmem S1x256x320 .bf16 := win0_1.stage (cfg0.slots t 1)
abbrev ms2 (t : Fin cfg0.N) : Memref sig .tc .vmem S1x256x256 .bf16 := win0_2.stage (cfg0.slots t 2)
abbrev ms3 (t : Fin cfg0.N) : Memref sig .tc .vmem S8x128x256 .bf16 := win0_3.stage (cfg0.slots t 3)
abbrev ms4 (t : Fin cfg0.N) : Memref sig .tc .vmem S1x1024x256 .f32 := win0_4.stage (cfg0.slots t 4)
/-- The three scratch buffers, whole. -/
abbrev scM : Memref sig .tc .vmem S1x2048 .f32 := Memref.whole cc0_scratch0
abbrev scL : Memref sig .tc .vmem S1x2048 .f32 := Memref.whole cc0_scratch1
abbrev scA : Memref sig .tc .vmem S256x2048 .f32 := Memref.whole cc0_scratch2

theorem anyScratch_eq (c : Dev nD) :
    (Pipeline.ΦA spec0 c : sProp (MT nD τ sig Unit (Elt F) ℕ (UR sig nD τ) ℕ))
      = iprop(((∃ d, owns (c : Thread nD τ) scM fullShare d) ∗ (∃ d, owns (c : Thread nD τ) scL fullShare d)
          ∗ (∃ d, owns (c : Thread nD τ) scA fullShare d)) ∗ (∃ r, prngReg c r)) := by
  unfold Pipeline.ΦA
  rw [scopedRest0_eq]; simp only [scM, scL, scA, owns_whole]
  try rfl

/-- The scratch held at a state. -/
abbrev holds (c : Dev nD) (s : State F) : sProp (MT nD τ sig Unit (Elt F) ℕ (UR sig nD τ) ℕ) := carried c scM scL scA s.mx s.sm s.ac

/-- The invariant before point `n`: at first the scratch holds anything, afterwards the state of the points before. -/
def PhiS (c : Dev nD) : (n : ℕ) → n ≤ cfg0.N → sProp (MT nD τ sig Unit (Elt F) ℕ (UR sig nD τ) ℕ)
  | 0, _ => Pipeline.ΦA spec0 c
  | n + 1, _ => iprop(holds c (state m c (n + 1)) ∗ (∃ r, prngReg c r))

/-- The proof data: every input block in place, the output stated apart. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ t := PhiS m c t.val (Nat.le_of_lt_succ t.isLt)
  q _ := fullShare
  owed _ := 0

/-- The output window is stated by a relation. -/
def byRel : Fin cfg0.W → Bool := fun w => w.val == 4

/-- From the diagonal point on, the output tile is the finished state's. -/
def Rl (c : Dev nD) (w : Fin cfg0.W) (t : Fin cfg0.N) (X : (cfg0.win w).block.Idx → Elt F (cfg0.win w).elt) : Prop :=
  match w, X with
  | ⟨4, _⟩, X => t.val / 16 % 16 ≤ t.val % 16 →
      (X : Vec F S1x1024x256 .f32) = outTile (iblk m c 3 t) (state m c (t.val + 1)).sm (state m c (t.val + 1)).ac
  | _, _ => True

theorem A_eq (c : Dev nD) (w : Fin cfg0.W) : (dats m c).A w = V m c (Pipeline.arrRef spec0 w) := by dsimp only [dats]

theorem PhiS_castSucc (c : Dev nD) (t : Fin cfg0.N) : (dats m c).Φ t.castSucc = PhiS m c t.val (Nat.le_of_lt t.isLt) := by
  dsimp only [dats]; exact Pipeline.Dat.Φ_castSucc (PhiS m c) t

theorem before0 (c : Dev nD) (t : Fin cfg0.N) (d) : (dats m c).before 0 t d = iblk m c 0 t :=
  before0_0_of m (dats m c) (A_eq m c 0) (fun _ => by dsimp only [dats]) t d
theorem before1 (c : Dev nD) (t : Fin cfg0.N) (d) : (dats m c).before 1 t d = iblk m c 1 t :=
  before0_1_of m (dats m c) (A_eq m c 1) (fun _ => by dsimp only [dats]) t d
theorem before2 (c : Dev nD) (t : Fin cfg0.N) (d) : (dats m c).before 2 t d = iblk m c 2 t :=
  before0_2_of m (dats m c) (A_eq m c 2) (fun _ => by dsimp only [dats]) t d
theorem before3 (c : Dev nD) (t : Fin cfg0.N) (d) : (dats m c).before 3 t d = iblk m c 3 t :=
  before0_3_of m (dats m c) (A_eq m c 3) (fun _ => by dsimp only [dats]) t d

/-- What the invariant gives a point: the scratch at the state before it, at anything where the point starts afresh. -/
theorem PhiS_gives (c : Dev nD) (t : Fin cfg0.N) :
    PhiS m c t.val (Nat.le_of_lt t.isLt)
      ⊢ iprop((∃ s : State F, ⌜t.val % 16 ≠ 0 → s = state m c t.val⌝ ∗ holds c s) ∗ (∃ r, prngReg c r)) := by
  obtain ⟨n, hn⟩ := t
  cases n with
  | zero =>
    simp only [PhiS]
    rw [anyScratch_eq]
    iintro ⟨⟨⟨%a, H0⟩, ⟨%b, H1⟩, ⟨%d, H2⟩⟩, Hg⟩
    isplitr [Hg]
    · iexists (State.mk a b d); isplitr
      · ipureintro; intro h; exact absurd (Nat.zero_mod _) h
      isplitl [H0]; · iexact H0
      isplitl [H1]; · iexact H1
      iexact H2
    iexact Hg
  | succ n =>
    simp only [PhiS]
    iintro ⟨H, Hg⟩
    isplitr [Hg]
    · iexists (state m c (n + 1)); isplitr
      · ipureintro; intro _; rfl
      iexact H
    iexact Hg

/-! ## The body at a point -/

/-- The body at any point, in the five cases together. -/
theorem body_at (c : Dev nD) (t : Fin cfg0.N) (K : PUnit → sProp (MT nD τ sig Unit (Elt F) ℕ (UR sig nD τ) ℕ)) :
    iprop(held c (ms0 t) (ms1 t) (ms2 t) (ms3 t) (iblk m c 0 t) (iblk m c 1 t) (iblk m c 2 t) (iblk m c 3 t)
        ∗ (∃ O : Vec F S1x1024x256 .f32, ⌜t.val / 16 % 16 < t.val % 16 → O = outTile (iblk m c 3 t) (state m c t.val).sm (state m c t.val).ac⌝
            ∗ owns (c : Thread nD τ) (ms4 t) fullShare O)
        ∗ (∃ s : State F, ⌜t.val % 16 ≠ 0 → s = state m c t.val⌝ ∗ holds c s)
        ∗ (iprop(held c (ms0 t) (ms1 t) (ms2 t) (ms3 t) (iblk m c 0 t) (iblk m c 1 t) (iblk m c 2 t) (iblk m c 3 t)
            ∗ (∃ X : Vec F S1x1024x256 .f32, ⌜t.val / 16 % 16 ≤ t.val % 16 →
                  X = outTile (iblk m c 3 t) (state m c (t.val + 1)).sm (state m c (t.val + 1)).ac⌝
                ∗ owns (c : Thread nD τ) (ms4 t) fullShare X)
            ∗ holds c (state m c (t.val + 1))) -∗ K ⟨⟩))
      ⊢ wp frame (wpE (defs₀ (F := F)) Variants.none c none) Set.univ (bodyAt0 t) K := by
  unfold bodyAt0
  rw [state_succ]; unfold stepAt start
  iintro ⟨HI, ⟨%O, %hO, HO⟩, ⟨%s, %hs, HS⟩, Hk⟩
  by_cases h0 : t.val % 16 = 0
  · by_cases h1 : t.val % 16 < t.val / 16 % 16
    · rw [if_pos h1, if_pos h0]
      iapply (run_first c (grid0.coords t) _ _ _ _ _ _ _ _ _ _ _ _ _ _ _ _ (iblk m c 0 t) (iblk m c 1 t) (iblk m c 2 t) (iblk m c 3 t)
        ((atFirst_iff t).mpr h0) ((atBelow_iff t).mpr h1) (fun h => by have := (atDiag_iff t).mp h; omega) O K)
      isplitl [HI]; · iexact HI
      isplitl [HO]; · iexact HO
      isplitl [HS]; · iexists _; iexists _; iexists _; iexact HS
      iintro ⟨HI, HO, HS⟩; iapply Hk
      isplitl [HI]; · iexact HI
      isplitl [HO]
      · iexists _; isplitr; swap; · iexact HO
        ipureintro; intro h; omega
      iexact HS
    · by_cases h2 : t.val % 16 = t.val / 16 % 16
      · rw [if_neg h1, if_pos h2, if_pos h0]
        iapply (run_only c (grid0.coords t) _ _ _ _ _ _ _ _ _ _ _ _ _ _ _ _ (iblk m c 0 t) (iblk m c 1 t) (iblk m c 2 t) (iblk m c 3 t)
          ((atFirst_iff t).mpr h0) (fun h => h1 ((atBelow_iff t).mp h)) ((atDiag_iff t).mpr h2) K)
        isplitl [HI]; · iexact HI
        isplitl [HO]; · iexists _; iexact HO
        isplitl [HS]; · iexists _; iexists _; iexists _; iexact HS
        iintro ⟨HI, HO, HS⟩; iapply Hk
        isplitl [HI]; · iexact HI
        isplitl [HO]
        · iexists _; isplitr; swap; · iexact HO
          ipureintro; intro h; rfl
        iexact HS
      · exfalso; omega
  · obtain rfl := hs h0
    by_cases h1 : t.val % 16 < t.val / 16 % 16
    · rw [if_pos h1, if_neg h0]
      iapply (run_below c (grid0.coords t) _ _ _ _ _ _ _ _ _ _ _ _ _ _ _ _ (iblk m c 0 t) (iblk m c 1 t) (iblk m c 2 t) (iblk m c 3 t)
        (state m c t.val).mx (state m c t.val).sm (state m c t.val).ac
        (fun h => h0 ((atFirst_iff t).mp h)) ((atBelow_iff t).mpr h1) (fun h => by have := (atDiag_iff t).mp h; omega) O K)
      isplitl [HI]; · iexact HI
      isplitl [HO]; · iexact HO
      isplitl [HS]; · iexact HS
      iintro ⟨HI, HO, HS⟩; iapply Hk
      isplitl [HI]; · iexact HI
      isplitl [HO]
      · iexists _; isplitr; swap; · iexact HO
        ipureintro; intro h; omega
      iexact HS
    · by_cases h2 : t.val % 16 = t.val / 16 % 16
      · rw [if_neg h1, if_pos h2, if_neg h0]
        iapply (run_diag c (grid0.coords t) _ _ _ _ _ _ _ _ _ _ _ _ _ _ _ _ (iblk m c 0 t) (iblk m c 1 t) (iblk m c 2 t) (iblk m c 3 t)
          (state m c t.val).mx (state m c t.val).sm (state m c t.val).ac
          (fun h => h0 ((atFirst_iff t).mp h)) (fun h => h1 ((atBelow_iff t).mp h)) ((atDiag_iff t).mpr h2) K)
        isplitl [HI]; · iexact HI
        isplitl [HO]; · iexists _; iexact HO
        isplitl [HS]; · iexact HS
        iintro ⟨HI, HO, HS⟩; iapply Hk
        isplitl [HI]; · iexact HI
        isplitl [HO]
        · iexists _; isplitr; swap; · iexact HO
          ipureintro; intro h; rfl
        iexact HS
      · rw [if_neg h1, if_neg h2]
        iapply (run_above c (grid0.coords t) _ _ _ _ _ _ _ _ _ _ _ _ _ _ _ _ (iblk m c 0 t) (iblk m c 1 t) (iblk m c 2 t) (iblk m c 3 t)
          (state m c t.val).mx (state m c t.val).sm (state m c t.val).ac
          (fun h => h0 ((atFirst_iff t).mp h)) (fun h => h1 ((atBelow_iff t).mp h)) (fun h => h2 ((atDiag_iff t).mp h)) O K)
        isplitl [HI]; · iexact HI
        isplitl [HO]; · iexact HO
        isplitl [HS]; · iexact HS
        iintro ⟨HI, HO, HS⟩; iapply Hk
        isplitl [HI]; · iexact HI
        isplitl [HO]
        · iexists _; isplitr; swap; · iexact HO
          ipureintro; intro h; exact hO (by omega)
        iexact HS

/-- What the body finds in the output tile above the diagonal: what the point before left there. -/
theorem finds_out (c : Dev nD) (t : Fin cfg0.N) (Y : Vec F S1x1024x256 .f32)
    (h : ((dats m c).toRRel byRel (Rl m c)).Finds 4 t Y) :
    t.val / 16 % 16 < t.val % 16 → Y = outTile (iblk m c 3 t) (state m c t.val).sm (state m c t.val).ac := fun hlt => by
  have hz : t.val ≠ 0 := by omega
  have hN : t.val < 512 := Nat.lt_of_lt_of_eq t.isLt N_0
  rcases (RDat.finds_of_pos _ (w := 4) (t := t) rfl hz Y).mp h with hf | hl
  · have := (flush0_4 _).mp hf
    dsimp only at this; omega
  · have hR := (dats m c).toRRel_leaves (fgt := byRel) (Rl := Rl m c) rfl hl
    have h1 : t.val - 1 + 1 = t.val := by omega
    have e := hR (by dsimp only; omega)
    simp only [h1] at e
    exact e

/-- The body's obligation at every point. -/
theorem body_obligation (c : Dev nD) :
    BodyObligationRel (dats (F := F) m c) (defs₀ (F := F)) Variants.none () Set.univ byRel (Rl m c) := fun t => by
  rw [bigSep_W0, bigSep_W0]
  unfold defs₀; rw [Defs.onTc_tc]
  refine triple_restated (P := iprop((dats m c).Φ t.castSucc ∗ (dats m c).owesAt () t.castSucc
    ∗ (∃ d, owns (c : Thread nD τ) (ms0 t) fullShare ((dats m c).before 0 t d))
    ∗ (∃ d, owns (c : Thread nD τ) (ms1 t) fullShare ((dats m c).before 1 t d))
    ∗ (∃ d, owns (c : Thread nD τ) (ms2 t) fullShare ((dats m c).before 2 t d))
    ∗ (∃ d, owns (c : Thread nD τ) (ms3 t) fullShare ((dats m c).before 3 t d))
    ∗ (∃ Y : Vec F S1x1024x256 .f32, ⌜((dats m c).toRRel byRel (Rl m c)).Finds 4 t Y⌝ ∗ owns (c : Thread nD τ) (ms4 t) fullShare Y)))
    (W := wp frame (wpE (defs₀ (F := F)) Variants.none c none) Set.univ (bodyAt0 t))
    (Q := fun _ => iprop((dats m c).Φ t.succ ∗ (dats m c).owesAt () t.succ
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ (∃ X : Vec F S1x1024x256 .f32, ⌜Rl m c 4 t X⌝ ∗ owns (c : Thread nD τ) (ms4 t) fullShare X)))
    ?_ rfl .rfl fun _ => .rfl
  simp only [before0, before1, before2, before3]
  rw [show (dats m c).owesAt () t.succ = (dats m c).owesAt () t.castSucc from rfl, PhiS_castSucc]
  rw [show (dats m c).Φ t.succ = iprop(holds c (state m c (t.val + 1)) ∗ (∃ r, prngReg c r)) from rfl]
  iintro ⟨HΦ, Ho, ⟨%_, H0⟩, ⟨%_, H1⟩, ⟨%_, H2⟩, ⟨%_, H3⟩, ⟨%Y, %hY, H4⟩⟩
  ihave HΦ := (PhiS_gives m c t) $$ HΦ
  icases HΦ with ⟨HS, Hg⟩
  iapply (body_at m c t _)
  isplitl [H0 H1 H2 H3]
  · isplitl [H0]; · iexact H0
    isplitl [H1]; · iexact H1
    isplitl [H2]; · iexact H2
    iexact H3
  isplitl [H4]
  · iexists Y; isplitr; swap; · iexact H4
    ipureintro; exact finds_out m c t Y hY
  isplitl [HS]; · iexact HS
  iintro ⟨⟨H0, H1, H2, H3⟩, ⟨%X, %hX, H4⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  iexists X; isplitr; swap; · iexact H4
  ipureintro; exact hX

theorem hin (c : Dev nD) : Pipeline.ΦA spec0 c ⊢ (dats (F := F) m c).Φ 0 := by
  rw [show (dats m c).Φ 0 = (Pipeline.ΦA spec0 c : sProp (MT nD τ sig Unit (Elt F) ℕ (UR sig nD τ) ℕ)) from rfl]

theorem Phi_out (c : Dev nD) (t : Fin (cfg0.N + 1)) (ht : t.val ≠ 0) : (dats (F := F) m c).Φ t ⊢ Pipeline.ΦA spec0 c := by
  rw [show (dats m c).Φ t = PhiS m c t.val (Nat.le_of_lt_succ t.isLt) from rfl, anyScratch_eq]
  obtain ⟨n, hn⟩ := t
  cases n with
  | zero => exact absurd rfl ht
  | succ n =>
    simp only [PhiS]
    iintro ⟨⟨H0, H1, H2⟩, Hg⟩
    isplitr [Hg]
    · isplitl [H0]; · iexists _; iexact H0
      isplitl [H1]; · iexists _; iexact H1
      iexists _; iexact H2
    iexact Hg

theorem hout (c : Dev nD) : (dats (F := F) m c).Φ (Fin.last cfg0.N) ⊢ Pipeline.ΦA spec0 c :=
  Phi_out m c _ (by rw [Fin.val_last]; have : cfg0.N = 512 := N_0; omega)

/-! ## The launch -/

set_option backward.isDefEq.respectTransparency.types false in
/-- A launch under proof data with some windows stated by a relation, for any such data. -/
theorem launch_rel (dat : (c : Dev nD) → Dat τ (Elt F) Unit ℕ (UR sig nD τ) ℕ (cfgs 0) c)
    (fgt : Fin (cfgs 0).W → Bool) (R : (c : Dev nD) → (w : Fin (cfgs 0).W) → Fin (cfgs 0).N → (((cfgs 0).win w).block.Idx → Elt F ((cfgs 0).win w).elt) → Prop)
    (hbody : ∀ c, BodyObligationRel (dat c) (defs₀ (F := F)) Variants.none () Set.univ fgt (R c))
    (hshare : ∀ c w, (dat c).share w = fullShare) (howed : ∀ c t, (dat c).owed t = 0)
    (hA : ∀ c w, (dat c).A w = V m c (Pipeline.arrRef spec0 w))
    (hin : ∀ c, Pipeline.ΦA spec0 c ⊢ (dat c).Φ 0) (hout : ∀ c, (dat c).Φ (Fin.last (cfgs 0).N) ⊢ Pipeline.ΦA spec0 c) :
    θ_run defs (onTc (τ := τ) (main (F := F))) (s₀ m ρ) (fun r =>
      RDat.FramePost (cfgs 0) (fun c => (dat c).toRRel fgt (R c)) (V m) r ∧ r.2.sem = fun _ => 0) :=
  RDat.θ_run_frame_track (Q' := _) cfgs (0 : Fin 1) launch0 defs₀ Variants.none (fun c => (dat c).toRRel fgt (R c)) m ρ main
    (hbody := fun c => (hbody c).toRRel) (hshare := hshare) (howed := howed) (V := V m) (hmain := hmain m Variants.none)
    (hA := hA) (hin := hin) (hout := hout)

/-- The launch of the attention kernel. -/
theorem run_main : θ_run defs (onTc (τ := τ) (main (F := F))) (s₀ m ρ) (fun r =>
      RDat.FramePost (cfgs 0) (fun c => (dats m c).toRRel byRel (Rl m c)) (V m) r ∧ r.2.sem = fun _ => 0) :=
  launch_rel m ρ (dats m) byRel (Rl m) (body_obligation m) (fun c => (dats m c).share_full fun _ => rfl) (fun _ _ => rfl)
    (A_eq m) (hin m) (hout m)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.KernelIdeal.Mla

end
-- ==== Proof.Mla.Pay.lean ====
/-
  Hand-written. What the attention kernel's vector expressions are at an index, over the extended reals: one step of the
  recurrence adds 256 keys to the running maximum, sum and weighted sum of every column.
-/
module

public import Idealize.ShloMosaic.Lib.WordArith
public import proofs.«01_k».proof.Proof.Mla.Run
public import proofs.«01_k».proof.Proof.Mla.Online

@[expose] public section

set_option maxRecDepth 16384

noncomputable section

namespace Cert.KernelIdeal.Mla

open Cert.KernelIdeal Cert.KernelIdeal.Gen
open Idealize.ShloMosaic

/-! ## Constants -/

theorem negInf_word : Ideal.ofBits .f32 0xFF800000#32 = ⊥ := by
  simp [Ideal.ofBits, Ideal.ieee]

/-- The smallest divisor, `1e-30` as a float word. -/
def tiny : ℝ := ((2 ^ 23 + 2245216 : ℕ) : ℝ) * (2 : ℝ) ^ ((27 : ℤ) - 127 - 23)

theorem tiny_pos : 0 < tiny := by unfold tiny; positivity

theorem tiny_word : Ideal.ofBits .f32 0x0DA24260#32 = (tiny : EReal) := by
  simp [Ideal.ofBits, Ideal.ieee, tiny]

theorem fold_max_sup {n : ℕ} (f : Fin n → EReal) : Finset.fold max ⊥ f Finset.univ = Finset.univ.sup f := rfl

/-! ## The step's pieces -/

theorem pay1_apply (l : Fin 2048) : (k0_pay1 (F := Ideal)) (ix2 0 l) = ⊥ := by
  pointwise [k0_pay1]; rfl
theorem pay2_apply (l : Fin 2048) : (k0_pay2 (F := Ideal)) (ix2 0 l) = 0 := by pointwise [k0_pay2]
theorem pay3_apply (c : Fin 256) (l : Fin 2048) : (k0_pay3 (F := Ideal)) (ix2 c l) = 0 := by pointwise [k0_pay3]

variable (k : Vec Ideal S1x256x320 .bf16) (q : Vec Ideal S1x1x320x2048 .bf16) (v : Vec Ideal S1x256x256 .bf16)
  (M L : Vec Ideal S1x2048 .f32) (A : Vec Ideal S256x2048 .f32) (a b : BitVec 32)

theorem pay8_apply (r : Fin 256) (l : Fin 2048) :
    (k0_pay8 k q) (ix2 r l) = ∑ d : Fin 320, k (ix3 0 r d) * q (ix4 0 0 d l) := by pointwise [k0_pay8]
theorem pay9_apply (l : Fin 2048) :
    (k0_pay9 k q M) (ix2 0 l) = max (M (ix2 0 l)) (Finset.univ.sup fun r => k0_pay8 k q (ix2 r l)) := by
  pointwise [k0_pay9]; rw [negInf_word]; rfl
theorem pay10_apply (r : Fin 256) (l : Fin 2048) :
    (k0_pay10 k q M) (ix2 r l) = Ideal.exp (k0_pay8 k q (ix2 r l) - k0_pay9 k q M (ix2 0 l)) := by pointwise [k0_pay10]
theorem pay11_apply (l : Fin 2048) :
    (k0_pay11 k q M) (ix2 0 l) = Ideal.exp (M (ix2 0 l) - k0_pay9 k q M (ix2 0 l)) := by pointwise [k0_pay11]
theorem pay12_apply (l : Fin 2048) :
    (k0_pay12 k q M L) (ix2 0 l) = k0_pay11 k q M (ix2 0 l) * L (ix2 0 l) + ∑ r, k0_pay10 k q M (ix2 r l) := by
  pointwise [k0_pay12]
theorem pay13_apply (c : Fin 256) (l : Fin 2048) :
    (k0_pay13 k q M A v) (ix2 c l)
      = k0_pay11 k q M (ix2 0 l) * A (ix2 c l) + ∑ r, v (ix3 0 c r) * k0_pay10 k q M (ix2 r l) := by
  pointwise [k0_pay13]
theorem pay4_apply (l : Fin 2048) : (k0_pay4 (F := Ideal) M) (ix2 0 l) = M (ix2 0 l) := by pointwise [k0_pay4]
theorem pay15_apply (l : Fin 2048) :
    (k0_pay15 a b k q M) (ix2 0 l) = max (M (ix2 0 l)) (Finset.univ.sup fun r => k0_pay14 a b k q (ix2 r l)) := by
  pointwise [k0_pay15]; rw [negInf_word]; rfl
theorem pay16_apply (r : Fin 256) (l : Fin 2048) :
    (k0_pay16 a b k q M) (ix2 r l) = Ideal.exp (k0_pay14 a b k q (ix2 r l) - k0_pay15 a b k q M (ix2 0 l)) := by
  pointwise [k0_pay16]
theorem pay17_apply (l : Fin 2048) :
    (k0_pay17 a b k q M) (ix2 0 l) = Ideal.exp (M (ix2 0 l) - k0_pay15 a b k q M (ix2 0 l)) := by pointwise [k0_pay17]
theorem pay18_apply (l : Fin 2048) :
    (k0_pay18 a b k q M L) (ix2 0 l)
      = k0_pay17 a b k q M (ix2 0 l) * L (ix2 0 l) + ∑ r, k0_pay16 a b k q M (ix2 r l) := by
  pointwise [k0_pay18]
theorem pay19_apply (E : FVec Ideal S256x2048 .f32) (c : Fin 256) (l : Fin 2048) :
    (k0_pay19 E M A v) (ix2 c l) = M (ix2 0 l) * A (ix2 c l) + ∑ r, v (ix3 0 c r) * E (ix2 r l) := by
  pointwise [k0_pay19]
theorem pay20_apply (l : Fin 2048) : (k0_pay20 (F := Ideal) M) (ix2 0 l) = M (ix2 0 l) := by pointwise [k0_pay20]

theorem low_byte (l : Fin 2048) : IntOp.andi (BitVec.ofNat 32 l.val) 255#32 = BitVec.ofNat 32 (l.val % 256) := by
  revert l; decide +kernel

theorem mask_word (i j : Fin 16) (r : Fin 256) (l : Fin 2048) :
    IntOp.cmpi CmpIPredicate.sle (IntOp.addi (Scalar.muli (BitVec.ofNat 32 j.val) 256#32) (BitVec.ofNat 32 r.val))
        (IntOp.addi (Scalar.muli (BitVec.ofNat 32 i.val) 256#32) (IntOp.andi (BitVec.ofNat 32 l.val) 255#32)) = 1#1
      ↔ j.val * 256 + r.val ≤ i.val * 256 + l.val % 256 := by
  rw [low_byte]
  have e : ∀ (i : Fin 16) (x : ℕ), x < 256 → IntOp.addi (Scalar.muli (BitVec.ofNat 32 i.val) 256#32) (BitVec.ofNat 32 x) = BitVec.ofNat 32 (i.val * 256 + x) := by
    intro i x hx
    show BitVec.ofNat 32 i.val * 256#32 + BitVec.ofNat 32 x = _
    rw [BitVec.ofNat_add, BitVec.ofNat_mul]
  rw [e j _ r.isLt, e i _ (Nat.mod_lt _ (by decide))]
  show BitVec.ofBool (BitVec.sle _ _) = 1#1 ↔ _
  rw [Idealize.ShloMosaic.WordArith.ofBool_eq_one_iff, BitVec.sle_iff_toInt_le, Idealize.ShloMosaic.WordArith.toInt_ofNat_small _ (by omega), Idealize.ShloMosaic.WordArith.toInt_ofNat_small _ (by omega)]
  omega

theorem pay14_apply (i j : Fin 16) (r : Fin 256) (l : Fin 2048) :
    (k0_pay14 (BitVec.ofNat 32 i.val) (BitVec.ofNat 32 j.val) k q) (ix2 r l)
      = if j.val * 256 + r.val ≤ i.val * 256 + l.val % 256 then ∑ d : Fin 320, k (ix3 0 r d) * q (ix4 0 0 d l) else ⊥ := by
  pointwise [k0_pay14]
  rw [show Named.named κ "mask_fill" 4056543946#32 = (⊥ : Ideal .f32) from rfl]
  unfold Scalar.select
  exact if_congr (mask_word i j r l) rfl rfl

/-! ## The recurrence -/

/-- The state `S` is the running maximum, sum and weighted sum of the first `n` keys: column `l` has scores `s l`,
    accumulator row `c` the values `w c`. -/
structure Meets (s : Fin 2048 → ℕ → EReal) (w : Fin 256 → ℕ → EReal) (n : ℕ) (S : State Ideal) : Prop where
  mx : ∀ l, S.mx (ix2 0 l) = Online.mx (s l) n
  sm : ∀ l, S.sm (ix2 0 l) = Online.sm (s l) n
  ac : ∀ c l, S.ac (ix2 c l) = Online.ac (s l) (w c) n

theorem meets_empty (s w) : Meets s w 0 empty where
  mx l := by rw [Online.mx_zero]; exact pay1_apply l
  sm l := by rw [Online.sm_zero]; exact pay2_apply l
  ac c l := by rw [Online.ac_zero]; exact pay3_apply c l

variable {s : Fin 2048 → ℕ → EReal} {w : Fin 256 → ℕ → EReal} {n : ℕ} {S : State Ideal}

theorem meets_below (h : Meets s w n S) (hs : ∀ l (r : Fin 256), k0_pay8 k q (ix2 r l) = s l (n + r.val))
    (hv : ∀ c (r : Fin 256), v (ix3 0 c r) = w c (n + r.val)) : Meets s w (n + 256) (stepBelow k q v S) := by
  have hm : ∀ l, k0_pay9 k q S.mx (ix2 0 l) = Online.mx (s l) (n + 256) := fun l => by
    rw [pay9_apply, Online.mx_step, h.mx]; simp only [hs]
  refine ⟨fun l => (pay4_apply _ l).trans (hm l), fun l => ?_, fun c l => ?_⟩
  · show k0_pay12 k q S.mx S.sm (ix2 0 l) = _
    rw [pay12_apply, Online.sm_step, pay11_apply, hm, h.mx, h.sm]
    simp only [pay10_apply, hm, hs]
  · show k0_pay13 k q S.mx S.ac v (ix2 c l) = _
    rw [pay13_apply, Online.ac_step, pay11_apply, hm, h.mx, h.ac]
    simp only [pay10_apply, hm, hs, hv]

theorem meets_diag (h : Meets s w n S) (hs : ∀ l (r : Fin 256), k0_pay14 a b k q (ix2 r l) = s l (n + r.val))
    (hv : ∀ c (r : Fin 256), v (ix3 0 c r) = w c (n + r.val)) : Meets s w (n + 256) (stepDiag a b k q v S) := by
  have hm : ∀ l, k0_pay15 a b k q S.mx (ix2 0 l) = Online.mx (s l) (n + 256) := fun l => by
    rw [pay15_apply, Online.mx_step, h.mx]; simp only [hs]
  refine ⟨fun l => (pay20_apply _ l).trans (hm l), fun l => ?_, fun c l => ?_⟩
  · show k0_pay18 a b k q S.mx S.sm (ix2 0 l) = _
    rw [pay18_apply, Online.sm_step, pay17_apply, hm, h.mx, h.sm]
    simp only [pay16_apply, hm, hs]
  · show k0_pay19 (k0_pay16 a b k q S.mx) (k0_pay17 a b k q S.mx) S.ac v (ix2 c l) = _
    rw [pay19_apply, Online.ac_step, pay17_apply, hm, h.mx, h.ac]
    simp only [pay16_apply, hm, hs, hv]

/-! ## The output tile -/

theorem outRows_apply (u : Vec Ideal S8x128x256 .bf16) (h : Fin 8) (y : Fin 128) (t : Fin 256) :
    outRows u L A h (ix3 0 y t)
      = ∑ c : Fin 256, u (ix3 h y c) * Ideal.div (A (ix2 c ⟨h.val * 256 + t.val, by omega⟩))
          (max (L (ix2 0 ⟨h.val * 256 + t.val, by omega⟩)) (Ideal.ofBits .f32 0x0DA24260#32)) := by
  fin_cases h <;>
  · dsimp only [outRows, upHead]
    pointwise [k0_pay5, k0_pay6, k0_pay7, k0_pay21, k0_pay22, k0_pay23, k0_pay24, k0_pay25, k0_pay26, k0_pay27, k0_pay28]
    exact Finset.sum_congr rfl fun x _ => congrArg (· * _) (congrArg u (by idx_ext))

end Cert.KernelIdeal.Mla

end
-- ==== Proof.MlaSample.Ref.lean ====
/-
  Hand-written. The plain decoding attention's result at an index.
-/
module

public import Idealize.ShloMosaic.Lib.WordArith
public import Idealize.ShloMosaic.Lib.Pipeline.ValueKit
public import proofs.«01_k».proof.Proof.Gen.Reference7Ideal.Run
public import proofs.«01_k».proof.Proof.Mla.Pay

@[expose] public section

set_option maxRecDepth 16384

noncomputable section

namespace Cert.Reference7Ideal.Sample

open Cert.Reference7Ideal Cert.Reference7Ideal.Gen Cert.Reference7Ideal.Value
open Idealize.ShloMosaic Idealize.ShloMosaic.TcCoe

/-- The table's pages, gathered: a row of the page the table names, the entry read signed and kept below the pool's size. -/
theorem page_row {α : Type} (x : S10240x128x320.Idx → α) (idx : IVec S128x64x1 32) (b : Fin 128) (p : Fin 64)
    (r : Fin 128) (d : Fin 320) :
    Host.gather gather_S10240x128x320_S128x64x1_S128x64x128x320_23_0_n_n_0_2_1128320 x idx (ix4 b p r d)
      = x (ix3 ⟨min (idx (ix3 b p 0)).toInt.toNat 10239, by omega⟩ r d) := by
  set D := gather_S10240x128x320_S128x64x1_S128x64x128x320_23_0_n_n_0_2_1128320 with hD
  unfold Host.gather
  congr 1
  funext a
  refine Fin.ext ?_
  show D.start (ix4 b p r d) idx a + D.batchCoord (ix4 b p r d) a + D.offCoord (ix4 b p r d) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 3) ∈ D.startIndexMap from List.mem_singleton.mpr rfl)]
    have hsi : D.siIdx (ix4 b p r d) ⟨List.idxOf (⟨0, by decide⟩ : Fin 3) D.startIndexMap,
        List.idxOf_lt_length_iff.2 (List.mem_singleton.mpr rfl)⟩ = ix3 b p 0 := by
      funext e; refine Fin.ext ?_
      match e with
      | ⟨0, _⟩ => rfl
      | ⟨1, _⟩ => rfl
      | ⟨2, _⟩ => rfl
    rw [hsi]
    rfl
  | ⟨1, _⟩ =>
    unfold GatherDims.start
    rw [dif_neg (show (⟨1, by decide⟩ : Fin 3) ∉ D.startIndexMap by decide), Nat.zero_add]
    rfl
  | ⟨2, _⟩ =>
    unfold GatherDims.start
    rw [dif_neg (show (⟨2, by decide⟩ : Fin 3) ∉ D.startIndexMap by decide), Nat.zero_add]
    rfl

/-- The page number the table holds at `(b, p)`. -/
def pageNo (tb : IVec S128x64 32) (b : Fin 128) (p : Fin 64) : Fin 10240 := ⟨min (tb (ix2 b p)).toNat 10239, by omega⟩

theorem small_toInt (x : BitVec 32) (h : x.toNat < 10240) : x.toInt = x.toNat := by
  rw [BitVec.toInt_eq_toNat_of_lt (by omega)]

/-- One entry of a past row, as the reference gathers it. -/
theorem past_row (tb : IVec S128x64 32) (ca : Vec Ideal S2x10240x128x320 .f32) (hlt : ∀ y, (tb y).toNat < 10240)
    (b : Fin 128) (p : Fin 64) (r : Fin 128) (d : Fin 320) :
    Host.gather gather_S10240x128x320_S128x64x1_S128x64x128x320_23_0_n_n_0_2_1128320
        (shapeCast S10240x128x320 (extractStridedSlice S1x10240x128x320 ![0, 0, 0, 0] ca
          slices_S2x10240x128x320_S1x10240x128x320_0_0_0_0) shapeCasts_S1x10240x128x320_S10240x128x320)
        (broadcastInDim S128x64x1 ![0, 1] bcast_S128x64_S128x64x1_0_1
          (select (cmpi CmpIPredicate.slt tb (broadcastInDim S128x64 ![] bcast_S_S128x64 (constantI S_ 32 0#32)))
            (addi tb (broadcastInDim S128x64 ![] bcast_S_S128x64 (constantI S_ 32 10240#32))) tb)) (ix4 b p r d)
      = (ca (ix4 0 (pageNo tb b p) r d) : EReal) := by
  rw [page_row]
  have e : broadcastInDim S128x64x1 ![0, 1] bcast_S128x64_S128x64x1_0_1
          (select (cmpi CmpIPredicate.slt tb (broadcastInDim S128x64 ![] bcast_S_S128x64 (constantI S_ 32 0#32)))
            (addi tb (broadcastInDim S128x64 ![] bcast_S_S128x64 (constantI S_ 32 10240#32))) tb) (ix3 b p 0) = tb (ix2 b p) := by
    pointwise
    show Scalar.select (BitVec.ofBool (BitVec.slt (tb (ix2 b p)) (0#32))) _ _ = _
    rw [show BitVec.slt (tb (ix2 b p)) (0#32) = false by
      rw [BitVec.slt_eq_decide, small_toInt _ (hlt _)]; simp]
    rfl
  simp only [e, small_toInt _ (hlt _), Int.toNat_natCast]
  pointwise
  rfl

/-- A past key's score: its latent part and its rotary part. -/
def pastScore (qa : Vec Ideal S128x8x8x256 .f32) (qr : Vec Ideal S128x8x8x64 .f32) (tb : IVec S128x64 32)
    (ca : Vec Ideal S2x10240x128x320 .f32) (b : Fin 128) (t h : Fin 8) (k : Fin 8192) : EReal :=
  (∑ d : Fin 256, ca (ix4 0 (pageNo tb b ⟨k.val / 128, by omega⟩) ⟨k.val % 128, by omega⟩ ⟨d.val, by omega⟩) * qa (ix4 b t h d))
    + ∑ d : Fin 64, ca (ix4 0 (pageNo tb b ⟨k.val / 128, by omega⟩) ⟨k.val % 128, by omega⟩ ⟨256 + d.val, by omega⟩) * qr (ix4 b t h d)

/-- A new key's score. -/
def newScore (qa : Vec Ideal S128x8x8x256 .f32) (qr : Vec Ideal S128x8x8x64 .f32) (kv : Vec Ideal S128x8x320 .f32)
    (b : Fin 128) (t h : Fin 8) (j : Fin 8) : EReal :=
  (∑ d : Fin 256, kv (ix3 b j ⟨d.val, by omega⟩) * qa (ix4 b t h d))
    + ∑ d : Fin 64, kv (ix3 b j ⟨256 + d.val, by omega⟩) * qr (ix4 b t h d)

/-- The scores of a new query by the key's number: the past keys, then the new ones up to the query itself. -/
def score (qa : Vec Ideal S128x8x8x256 .f32) (qr : Vec Ideal S128x8x8x64 .f32) (kv : Vec Ideal S128x8x320 .f32)
    (tb : IVec S128x64 32) (ca : Vec Ideal S2x10240x128x320 .f32) (b : Fin 128) (t h : Fin 8) (k : ℕ) : EReal :=
  if hk : k < 8192 then pastScore qa qr tb ca b t h ⟨k, hk⟩
  else if hj : k - 8192 < 8 then (if k - 8192 ≤ t.val then newScore qa qr kv b t h ⟨k - 8192, hj⟩ else ⊥) else ⊥

/-- The value rows by the key's number. -/
def row (kv : Vec Ideal S128x8x320 .f32) (tb : IVec S128x64 32) (ca : Vec Ideal S2x10240x128x320 .f32) (b : Fin 128)
    (x : Fin 256) (k : ℕ) : EReal :=
  if hk : k < 8192 then ca (ix4 0 (pageNo tb b ⟨k / 128, by omega⟩) ⟨k % 128, by omega⟩ ⟨x.val, by omega⟩)
  else if hj : k - 8192 < 8 then kv (ix3 b ⟨k - 8192, hj⟩ ⟨x.val, by omega⟩) else 0

theorem negInf_word : Ideal.ofBits .f32 0xFF800000#32 = ⊥ := by
  simp [Ideal.ofBits, Ideal.ieee]

theorem past_word (x : ℕ) (t : Fin 8) (hx : x < 8192) :
    IntOp.cmpi CmpIPredicate.sle (BitVec.ofNat 32 x) (IntOp.addi (8192#32) (BitVec.ofNat 32 t.val)) = 1#1 := by
  show BitVec.ofBool (BitVec.sle _ (8192#32 + BitVec.ofNat 32 t.val)) = _
  rw [show 8192#32 + BitVec.ofNat 32 t.val = BitVec.ofNat 32 (8192 + t.val) from (BitVec.ofNat_add ..).symm]
  have : BitVec.sle (BitVec.ofNat 32 x) (BitVec.ofNat 32 (8192 + t.val)) = true := by
    rw [BitVec.sle_iff_toInt_le, Idealize.ShloMosaic.WordArith.toInt_ofNat_small _ (by omega), Idealize.ShloMosaic.WordArith.toInt_ofNat_small _ (by omega)]
    omega
  rw [this]; rfl

theorem new_word (j : ℕ) (t : Fin 8) (hj : j < 8) :
    IntOp.cmpi CmpIPredicate.sle (IntOp.addi (8192#32) (BitVec.ofNat 32 j)) (IntOp.addi (8192#32) (BitVec.ofNat 32 t.val))
      = if j ≤ t.val then 1#1 else 0#1 := by
  show BitVec.ofBool (BitVec.sle (8192#32 + BitVec.ofNat 32 j) (8192#32 + BitVec.ofNat 32 t.val)) = _
  rw [show 8192#32 + BitVec.ofNat 32 t.val = BitVec.ofNat 32 (8192 + t.val) from (BitVec.ofNat_add ..).symm,
    show 8192#32 + BitVec.ofNat 32 j = BitVec.ofNat 32 (8192 + j) from (BitVec.ofNat_add ..).symm]
  have : BitVec.sle (BitVec.ofNat 32 (8192 + j)) (BitVec.ofNat 32 (8192 + t.val)) = decide (j ≤ t.val) := by
    rw [Bool.eq_iff_iff, BitVec.sle_iff_toInt_le, Idealize.ShloMosaic.WordArith.toInt_ofNat_small _ (by omega), Idealize.ShloMosaic.WordArith.toInt_ofNat_small _ (by omega)]
    simp
  rw [this]
  by_cases h : j ≤ t.val <;> simp [h]

/-- A past key's weight: no mask holds it back. -/
theorem past_weight (k : Fin 8192) (t : Fin 8) (A M : EReal) :
    (Ideal.exp (Scalar.select (IntOp.cmpi CmpIPredicate.sle (BitVec.ofNat 32 k.val) (IntOp.addi (8192#32) (BitVec.ofNat 32 t.val)))
        A (id (constant (F := Ideal) S_ .f32 4286578688#32) ix0) - M)
      * FloatOps.uitofp (F := Ideal) .f32 (IntOp.cmpi CmpIPredicate.sle (BitVec.ofNat 32 k.val) (IntOp.addi (8192#32) (BitVec.ofNat 32 t.val))) : EReal)
      = Ideal.exp (A - M) := by
  rw [past_word _ _ k.isLt, show (FloatOps.uitofp (F := Ideal) .f32 1#1 : EReal) = 1 by simp [FloatOps.uitofp]]
  exact mul_one _

/-- A new key's weight: none after the query. -/
theorem new_weight (j t : Fin 8) (A M : EReal) :
    (Ideal.exp (Scalar.select (IntOp.cmpi CmpIPredicate.sle (IntOp.addi (8192#32) (BitVec.ofNat 32 j.val)) (IntOp.addi (8192#32) (BitVec.ofNat 32 t.val)))
        A (id (constant (F := Ideal) S_ .f32 4286578688#32) ix0) - M)
      * FloatOps.uitofp (F := Ideal) .f32 (IntOp.cmpi CmpIPredicate.sle (IntOp.addi (8192#32) (BitVec.ofNat 32 j.val)) (IntOp.addi (8192#32) (BitVec.ofNat 32 t.val))) : EReal)
      = Ideal.exp ((if j.val ≤ t.val then A else ⊥) - M) := by
  rw [new_word _ _ j.isLt, show (id (constant (F := Ideal) S_ .f32 4286578688#32) ix0 : EReal) = ⊥ from negInf_word]
  by_cases h : j.val ≤ t.val
  · rw [if_pos h, if_pos h, show (FloatOps.uitofp (F := Ideal) .f32 1#1 : EReal) = 1 by simp [FloatOps.uitofp]]
    exact mul_one _
  · rw [if_neg h, if_neg h, show Scalar.select 0#1 A (⊥ : EReal) = ⊥ from rfl, Cert.Online.exp_bot_sub, zero_mul]

theorem mx_fin (s : ℕ → EReal) (n : ℕ) : Cert.Online.mx s n = Finset.univ.sup fun k : Fin n => s k.val := by
  have := Cert.Online.mx_step s 0 n
  rw [Nat.zero_add, Cert.Online.mx_zero, max_eq_right bot_le] at this
  simpa only [Nat.zero_add] using this

section
variable (qa : Vec Ideal S128x8x8x256 .f32) (qr : Vec Ideal S128x8x8x64 .f32) (kv : Vec Ideal S128x8x320 .f32)
    (tb : IVec S128x64 32) (ca : Vec Ideal S2x10240x128x320 .f32) (b : Fin 128) (t h : Fin 8)

theorem score_past (k : Fin 8192) : score qa qr kv tb ca b t h k.val = pastScore qa qr tb ca b t h k := dif_pos k.isLt
theorem score_new (j : Fin 8) :
    score qa qr kv tb ca b t h (8192 + j.val) = if j.val ≤ t.val then newScore qa qr kv b t h j else ⊥ := by
  have e : 8192 + j.val - 8192 = j.val := by omega
  unfold score
  rw [dif_neg (by omega), dif_pos (by omega)]
  simp only [e]
theorem row_past (x : Fin 256) (k : Fin 8192) :
    row kv tb ca b x k.val = ca (ix4 0 (pageNo tb b ⟨k.val / 128, by omega⟩) ⟨k.val % 128, by omega⟩ ⟨x.val, by omega⟩) := dif_pos k.isLt
theorem row_new (x : Fin 256) (j : Fin 8) : row kv tb ca b x (8192 + j.val) = kv (ix3 b j ⟨x.val, by omega⟩) := by
  have e : 8192 + j.val - 8192 = j.val := by omega
  unfold row
  rw [dif_neg (by omega), dif_pos (by omega)]
  simp only [e]

/-- The normalised values of one latent column, past and new keys apart. -/
theorem latent_split (x : Fin 256) :
    Ideal.div (Cert.Online.ac (score qa qr kv tb ca b t h) (row kv tb ca b x) 8200)
        (max (Cert.Online.sm (score qa qr kv tb ca b t h) 8200) (Ideal.ofBits .f32 0x0DA24260#32))
      = (∑ k : Fin 8192, ca (ix4 0 (pageNo tb b ⟨k.val / 128, by omega⟩) ⟨k.val % 128, by omega⟩ ⟨x.val, by omega⟩)
            * Ideal.div (Ideal.exp (pastScore qa qr tb ca b t h k - Cert.Online.mx (score qa qr kv tb ca b t h) 8200))
              (max ((∑ k : Fin 8192, Ideal.exp (pastScore qa qr tb ca b t h k - Cert.Online.mx (score qa qr kv tb ca b t h) 8200))
                + ∑ j : Fin 8, Ideal.exp ((if j.val ≤ t.val then newScore qa qr kv b t h j else ⊥) - Cert.Online.mx (score qa qr kv tb ca b t h) 8200))
                (Ideal.ofBits .f32 0x0DA24260#32)))
        + ∑ j : Fin 8, kv (ix3 b j ⟨x.val, by omega⟩)
            * Ideal.div (Ideal.exp ((if j.val ≤ t.val then newScore qa qr kv b t h j else ⊥) - Cert.Online.mx (score qa qr kv tb ca b t h) 8200))
              (max ((∑ k : Fin 8192, Ideal.exp (pastScore qa qr tb ca b t h k - Cert.Online.mx (score qa qr kv tb ca b t h) 8200))
                + ∑ j : Fin 8, Ideal.exp ((if j.val ≤ t.val then newScore qa qr kv b t h j else ⊥) - Cert.Online.mx (score qa qr kv tb ca b t h) 8200))
                (Ideal.ofBits .f32 0x0DA24260#32)) := by
  rw [Cert.KernelIdeal.Mla.tiny_word, Cert.Online.div_ac _ _ _ Cert.KernelIdeal.Mla.tiny_pos]
  have hs : Cert.Online.sm (score qa qr kv tb ca b t h) 8200
      = (∑ k : Fin 8192, Ideal.exp (pastScore qa qr tb ca b t h k - Cert.Online.mx (score qa qr kv tb ca b t h) 8200))
        + ∑ j : Fin 8, Ideal.exp ((if j.val ≤ t.val then newScore qa qr kv b t h j else ⊥) - Cert.Online.mx (score qa qr kv tb ca b t h) 8200) := by
    unfold Cert.Online.sm
    refine (Cert.Online.range_cut _ 8192 8).trans ?_
    rw [Finset.sum_range]
    simp only [score_past, score_new]
  refine (Cert.Online.range_cut _ 8192 8).trans ?_
  rw [Finset.sum_range, hs]
  simp only [score_past, score_new, row_past, row_new]

end

variable (m : (ℓ : Loc nD τ sig) → Buf (Elt Ideal) ℓ) (c : Dev nD)

set_option maxHeartbeats 0 in
/-- One element of the plain result: the head's up-projection of the normalised values. -/
theorem result_at (b : Fin 128) (t : Fin 8) (h : Fin 8) (y : Fin 128) (qa : Vec Ideal S128x8x8x256 .f32)
    (qr : Vec Ideal S128x8x8x64 .f32) (kv : Vec Ideal S128x8x320 .f32) (tb : IVec S128x64 32)
    (ca : Vec Ideal S2x10240x128x320 .f32) (hlt : ∀ y, (tb y).toNat < 10240) (w : Vec Ideal S256x8x256 .f32)
    (e0 : m ((c.tc : Thread nD τ).loc main_arg0) = qa) (e1 : m ((c.tc : Thread nD τ).loc main_arg1) = qr)
    (e2 : m ((c.tc : Thread nD τ).loc main_arg2) = kv) (e3 : m ((c.tc : Thread nD τ).loc main_arg3) = tb)
    (e4 : m ((c.tc : Thread nD τ).loc main_arg4) = ca) (e5 : m ((c.tc : Thread nD τ).loc main_arg5) = w) :
    ((res_main_v68 m c : Vec Ideal S128x8x1024 .f32) (ix3 b t ⟨h.val * 128 + y.val, by omega⟩) : EReal)
      = ∑ x : Fin 256, w (ix3 x h ⟨128 + y.val, by omega⟩)
          * Ideal.div (Cert.Online.ac (score qa qr kv tb ca b t h) (row kv tb ca b x) 8200)
              (max (Cert.Online.sm (score qa qr kv tb ca b t h) 8200) (Ideal.ofBits .f32 0x0DA24260#32)) := by
  pointwise [res_main_v68]
  rw [e0, e1, e2, e3, e4, e5]
  simp only [past_row _ _ hlt]
  generalize hM : Finset.fold (max : EReal → EReal → EReal) _ _ _ = M
  have eM : Cert.Online.mx (score qa qr kv tb ca b t h) 8200 = M := by
    rw [← hM, negInf_word, mx_fin]
    show Finset.univ.sup _ = Finset.univ.sup _
    refine congrArg (Finset.sup Finset.univ) (funext fun k => ?_)
    by_cases hk : k.val < 8192
    · simp only [dif_pos hk, past_word _ t hk, score]
      rfl
    · have hj : k.val - 8192 < 8 := by omega
      simp only [dif_neg hk, dif_pos hj, new_word _ t hj, score]
      by_cases ht : k.val - 8192 ≤ t.val
      · simp only [if_pos ht]
        rfl
      · simp only [if_neg ht]
        exact negInf_word.symm
  simp only [past_weight, new_weight, latent_split, eM]
  rfl

end Cert.Reference7Ideal.Sample

end
-- ==== Proof.MlaSample.Tie.lean ====
/-
  Hand-written. What a grid point of the decoding attention writes, in the terms of the plain attention: the same scores,
  the same value rows, the same normalised sums, up-projected.
-/
module

public import proofs.«01_k».proof.Proof.MlaSample.Pages
public import proofs.«01_k».proof.Proof.MlaSample.Frames
public import proofs.«01_k».proof.Proof.MlaSample.Ref

@[expose] public section

set_option maxRecDepth 16384

noncomputable section

namespace Cert.Kernel7Ideal.Sample

open Cert.Kernel7Ideal Cert.Kernel7Ideal.Gen
open Cert.Reference7Ideal.Sample (score row pageNo pastScore newScore score_past score_new row_past row_new)
open Idealize.ShloMosaic Idealize.ShloMosaic.TcCoe

variable (m : (ℓ : Loc nD τ sig) → Buf (Elt Ideal) ℓ) (c : Dev nD) (hO : Ok m)

theorem tbl_tab : (tbl m 0 : IVec S128x64 32) = tab m c := by
  obtain rfl : c = 0 := Subsingleton.elim (α := Fin 1) c 0
  exact tbl_eq m

/-- A staged page is the one the plain attention gathers. -/
theorem page_row_at (hlt : ∀ y, (tab m c y).toNat < 10240) (t : Fin (cfgM m hO).N) (p : Fin 64) (d : Fin 320) (r : Fin 128) :
    (pages m hO c t p (ix4 0 0 d r) : EReal) = pool m c (ix4 0 (pageNo (tab m c) (bat m hO t) p) r d) := by
  have e : entry m hO t p = (tab m c (ix2 (bat m hO t) p)).toNat :=
    congrArg (fun f : IVec S128x64 32 => (f (ix2 (bat m hO t) p)).toNat) (tbl_tab m c)
  have h := hlt (ix2 (bat m hO t) p)
  rw [page_at m c hO t p (e.trans_lt h) d r, host_pool]
  refine congrArg (fun n => pool m c (ix4 0 n r d)) (Fin.ext ?_)
  show entry m hO t p = min (tab m c (ix2 (bat m hO t) p)).toNat 10239
  rw [e]
  omega

section Point

variable (t : Fin (cfgM m hO).N)

/-- The staged queries, new rows and up-projection weights. -/
def qBlk : Vec Ideal S1x64x320 .bf16 := iblk m hO c 0 t
def nBlk : Vec Ideal S1x16x320 .bf16 := iblk m hO c 1 t
def uBlk : Vec Ideal S8x256x128 .bf16 := iblk m hO c 2 t

theorem qBlk_at (l : Fin 64) (d : Fin 320) :
    qBlk m c hO t (ix3 0 l d) = (V m c main_v3 : Vec Ideal S128x64x320 .bf16) (ix3 (bat m hO t) l d) := block_queries m c hO t l d

variable (l : Fin 64) (t' h : Fin 8)

/-- A query row against any row of 320: its latent part and its rotary part. -/
theorem query_sum (e8 : l.val % 8 = t'.val) (ed : l.val / 8 = h.val) (X : Fin 320 → EReal) :
    ∑ d : Fin 320, (qBlk m c hO t (ix3 0 l d) : EReal) * X d
      = (∑ d : Fin 256, X ⟨d.val, by omega⟩ * qAbs m c (ix4 (bat m hO t) t' h d))
        + ∑ d : Fin 64, X ⟨256 + d.val, by omega⟩ * qRope m c (ix4 (bat m hO t) t' h d) := by
  have e1 : ∀ p, (⟨l.val % 8, p⟩ : Fin 8) = t' := fun _ => Fin.ext e8
  have e2 : ∀ p, (⟨l.val / 8, p⟩ : Fin 8) = h := fun _ => Fin.ext ed
  refine (Fin.sum_univ_add (a := 256) (b := 64) _).trans (congrArg₂ (· + ·) (Finset.sum_congr rfl fun d _ => ?_)
    (Finset.sum_congr rfl fun d _ => ?_))
  · rw [qBlk_at, host_queries, dif_pos (show (Fin.castAdd 64 d).val < 256 from d.isLt), e1, e2]
    exact mul_comm _ _
  · have hn : ¬ (Fin.natAdd 256 d).val < 256 := by show ¬ 256 + d.val < 256; omega
    rw [qBlk_at, host_queries, dif_neg hn, e1, e2]
    have e : (⟨(Fin.natAdd 256 d).val - 256, by show 256 + d.val - 256 < 64; omega⟩ : Fin 64) = d :=
      Fin.ext (Nat.add_sub_cancel_left 256 d.val)
    rw [e]
    exact mul_comm _ _

theorem pay2_apply (q : Vec Ideal S1x64x320 .bf16) (d : Fin 320) : (k0_pay2 q) (ix2 l d) = q (ix3 0 l d) := by
  pointwise [k0_pay2]

/-- A new row, and nothing past the eighth. -/
theorem new_row (j : Fin 16) (d : Fin 320) :
    (nBlk m c hO t (ix3 0 j d) : EReal)
      = if hj : j.val < 8 then ckv m c (ix3 (bat m hO t) ⟨j.val, hj⟩ d) else (0 : EReal) := by
  exact (block_new m c hO t j d).trans (host_new m c (bat m hO t) j d)

/-- The scores of the plain attention. -/
abbrev sc : ℕ → EReal := score (qAbs m c) (qRope m c) (ckv m c) (tab m c) (pool m c) (bat m hO t) t' h
/-- The value rows of the plain attention. -/
abbrev vr (z : Fin 256) : ℕ → EReal := row (ckv m c) (tab m c) (pool m c) (bat m hO t) z

theorem sc_end (k : ℕ) (hk : 8200 ≤ k) : sc m c hO t t' h k = ⊥ := by
  unfold sc score
  rw [dif_neg (by omega), dif_neg (by omega)]

theorem past_at (e8 : l.val % 8 = t'.val) (ed : l.val / 8 = h.val) (hlt : ∀ y, (tab m c y).toNat < 10240) (k : Fin 8192) :
    scores (qBlk m c hO t) (pages m hO c t) (ix2 l k) = sc m c hO t t' h k.val := by
  rw [scores_apply, query_sum m c hO t l t' h e8 ed]
  unfold sc
  rw [score_past]
  unfold pastScore
  simp only [page_row_at m c hO hlt]

theorem new_at (e8 : l.val % 8 = t'.val) (ed : l.val / 8 = h.val) (j : Fin 16) :
    (if j.val ≤ l.val % 8 then ∑ d : Fin 320, k0_pay2 (qBlk m c hO t) (ix2 l d)
        * nBlk m c hO t (ix3 0 j d) else (⊥ : EReal)) = sc m c hO t t' h (8192 + j.val) := by
  simp only [pay2_apply, e8]
  by_cases hj : j.val < 8
  · refine Eq.trans ?_ (score_new _ _ _ _ _ _ t' h ⟨j.val, hj⟩).symm
    refine if_congr Iff.rfl ?_ rfl
    rw [query_sum m c hO t l t' h e8 ed]
    unfold newScore
    simp only [new_row, dif_pos hj]
  · rw [if_neg (by omega), sc_end _ _ _ _ _ _ _ (by omega)]

theorem value_at (hlt : ∀ y, (tab m c y).toNat < 10240) (z : Fin 256) (p : Fin 64) (r : Fin 128) :
    valRows (pages m hO c t p) (ix4 0 0 z r) = vr m c hO t z (p.val * 128 + r.val) := by
  have e : valRows (pages m hO c t p) (ix4 0 0 z r) = pages m hO c t p (ix4 0 0 ⟨z.val, by omega⟩ r) := by
    show pages m hO c t p _ = _
    refine congrArg (pages m hO c t p) ?_
    idx_ext
  rw [e, page_row_at m c hO hlt]
  refine Eq.trans ?_ (row_past _ _ _ _ z ⟨p.val * 128 + r.val, by omega⟩).symm
  have e1 : (⟨(p.val * 128 + r.val) / 128, by omega⟩ : Fin 64) = p := Fin.ext (by show (p.val * 128 + r.val) / 128 = p.val; omega)
  have e2 : (⟨(p.val * 128 + r.val) % 128, by omega⟩ : Fin 128) = r := Fin.ext (by show (p.val * 128 + r.val) % 128 = r.val; omega)
  simp only [e1, e2]

theorem new_value_at (z : Fin 256) (j : Fin 16) :
    (nBlk m c hO t (ix3 0 j ⟨z.val, by omega⟩) : EReal) = vr m c hO t z (8192 + j.val) := by
  rw [new_row]
  by_cases hj : j.val < 8
  · rw [dif_pos hj]
    exact (row_new _ _ _ _ z ⟨j.val, hj⟩).symm
  · rw [dif_neg hj]
    unfold vr row
    rw [dif_neg (by omega), dif_neg (by omega)]

theorem up_at (z : Fin 256) (y : Fin 128) :
    (upHead (uBlk m c hO t) h (ix3 0 z y) : EReal) = wUp m c (ix3 z h ⟨128 + y.val, by omega⟩) := by
  have e : upHead (uBlk m c hO t) h (ix3 0 z y) = (uBlk m c hO t) (ix3 h z y) := by
    show (uBlk m c hO t) _ = _
    refine congrArg (uBlk m c hO t) ?_
    idx_ext
  rw [e]
  exact (block_up m c hO t h z y).trans (host_up m c h z y)

/-- A grid point's block at a token, a head and a place. -/
theorem out_at (hlt : ∀ y, (tab m c y).toNat < 10240) (y : Fin 128) :
    ((outAt m hO c t : Vec Ideal S1x8x1024 .f32) (ix3 0 t' ⟨h.val * 128 + y.val, by omega⟩) : EReal)
      = ∑ z : Fin 256, wUp m c (ix3 z h ⟨128 + y.val, by omega⟩)
          * Ideal.div (Cert.Online.ac (sc m c hO t t' h) (vr m c hO t z) 8200)
              (max (Cert.Online.sm (sc m c hO t t' h) 8200) (Ideal.ofBits .f32 0x0DA24260#32)) := by
  have eo : outAt m hO c t = project (latent (k0_pay89 (k0_pay2 (qBlk m c hO t)) (nBlk m c hO t) (scores (qBlk m c hO t) (pages m hO c t)))
      (gathered (k0_pay87 (k0_pay2 (qBlk m c hO t)) (nBlk m c hO t) (scores (qBlk m c hO t) (pages m hO c t)))
        (fun p => valRows (pages m hO c t p)) (k0_pay90 (k0_pay2 (qBlk m c hO t)) (nBlk m c hO t) (scores (qBlk m c hO t) (pages m hO c t)))
        64 le_rfl)) (upHead (uBlk m c hO t)) := rfl
  rw [eo, project_apply]
  refine Finset.sum_congr rfl fun z _ => ?_
  have e8 : (⟨h.val * 8 + t'.val, by omega⟩ : Fin 64).val % 8 = t'.val := by show (h.val * 8 + t'.val) % 8 = t'.val; omega
  have ed : (⟨h.val * 8 + t'.val, by omega⟩ : Fin 64).val / 8 = h.val := by show (h.val * 8 + t'.val) / 8 = h.val; omega
  have hS := past_at m c hO t _ t' h e8 ed hlt
  have hN := new_at m c hO t _ t' h e8 ed
  rw [up_at, latent_apply, gathered_eq hS hN (v := vr m c hO t z) (fun p r => value_at m c hO t hlt z p r)
    (fun j => new_value_at m c hO t z j), sum_eq hS hN]
  rw [show (8208 : ℕ) = 8200 + 8 from rfl, Cert.Online.ac_stable _ _ 8200 8 fun k hk _ => sc_end m c hO t t' h k hk,
    Cert.Online.sm_stable _ 8200 8 fun k hk _ => sc_end m c hO t t' h k hk]
  exact mul_comm _ _

end Point

end Cert.Kernel7Ideal.Sample

end
-- ==== Proof.MlaSample.Value.lean ====
/-
  Hand-written. The decoding attention's result: the blocks its grid points write fill the array with the plain attention.
-/
module

public import Idealize.ShloMosaic.Lib.Pipeline.Covers
public import proofs.«01_k».proof.Proof.MlaSample.Tie

@[expose] public section

set_option maxRecDepth 16384

noncomputable section

namespace Cert.Kernel7Ideal.Sample

open Cert.Kernel7Ideal Cert.Kernel7Ideal.Gen
open Cert.Reference7Ideal.Sample (score row)
open Idealize.ShloMosaic Idealize.ShloMosaic.TcCoe

variable (m : (ℓ : Loc nD τ sig) → Buf (Elt Ideal) ℓ) (c : Dev nD) (hO : Ok m)

/-- The plain attention of one sequence, token, head and place. -/
def attend (b : Fin 128) (t h : Fin 8) (y : Fin 128) : EReal :=
  ∑ z : Fin 256, wUp m c (ix3 z h ⟨128 + y.val, by omega⟩)
    * Ideal.div (Cert.Online.ac (score (qAbs m c) (qRope m c) (ckv m c) (tab m c) (pool m c) b t h) (row (ckv m c) (tab m c) (pool m c) b z) 8200)
        (max (Cert.Online.sm (score (qAbs m c) (qRope m c) (ckv m c) (tab m c) (pool m c) b t h) 8200) (Ideal.ofBits .f32 0x0DA24260#32))

/-- Head and place of a column of the result. -/
def headOf (x : Fin 1024) : Fin 8 := ⟨x.val / 128, by omega⟩
def placeOf (x : Fin 1024) : Fin 128 := ⟨x.val % 128, by omega⟩

theorem head_place (x : Fin 1024) (p) : (⟨(headOf x).val * 128 + (placeOf x).val, p⟩ : Fin 1024) = x :=
  Fin.ext (by show x.val / 128 * 128 + x.val % 128 = x.val; omega)

/-- The whole result. -/
def total : Vec Ideal S128x8x1024 .f32 := fun i => attend m c (i 0) (i 1) (headOf (i 2)) (placeOf (i 2))

theorem covers67 : ((cfgM m hO).win 67).Covers := by
  refine Pipeline.Window.covers_of_indexMap_surj _ rfl (by decide : ∀ a, 0 < S1x8x1024.size a) fun β => ?_
  have h0 : (β (0 : Fin 3)).val < 128 := Nat.lt_of_lt_of_eq (β (0 : Fin 3)).isLt
    (by decide : (S128x8x1024.size 0 + S1x8x1024.size 0 - 1) / S1x8x1024.size 0 = 128)
  have h1 : (β (1 : Fin 3)).val < 1 := Nat.lt_of_lt_of_eq (β (1 : Fin 3)).isLt
    (by decide : (S128x8x1024.size 1 + S1x8x1024.size 1 - 1) / S1x8x1024.size 1 = 1)
  have h2 : (β (2 : Fin 3)).val < 1 := Nat.lt_of_lt_of_eq (β (2 : Fin 3)).isLt
    (by decide : (S128x8x1024.size 2 + S1x8x1024.size 2 - 1) / S1x8x1024.size 2 = 1)
  have e := static67 (grid0.coords ⟨(β (0 : Fin 3)).val, h0⟩)
  refine ⟨grid0.coords ⟨(β (0 : Fin 3)).val, h0⟩, fun a => (congrFun e a).trans ?_⟩
  fin_cases a
  · exact coord ⟨(β (0 : Fin 3)).val, h0⟩
  · exact (Nat.lt_one_iff.mp h1).symm
  · exact (Nat.lt_one_iff.mp h2).symm

theorem place (t : Fin (cfgM m hO).N) (y : S1x8x1024.Idx) (a : Fin 3) :
    ((((cfgM m hO).win 67).blk t).view.emb y a : ℕ) = (![(bat m hO t).val, (y 1).val, (y 2).val] : Fin 3 → ℕ) a := by
  refine (Pipeline.Window.rect_emb_val ((cfgM m hO).win 67) t _ a).trans ?_
  rw [index67 m hO t]
  have h0 : (y 0).val < 1 := (y 0).isLt
  fin_cases a
  · show (bat m hO t).val * 1 + (y 0).val = (bat m hO t).val
    omega
  · show 0 * 8 + (y 1).val = (y 1).val
    omega
  · show 0 * 1024 + (y 2).val = (y 2).val
    omega

theorem total_of (g : S128x8x1024.Idx) (b : Fin 128) (t : Fin 8) (x : Fin 1024)
    (h : ∀ a, (g a).val = (![b.val, t.val, x.val] : Fin 3 → ℕ) a) : total m c g = attend m c b t (headOf x) (placeOf x) := by
  obtain rfl : g = ix3 b t x := by
    funext a
    refine Fin.ext ((h a).trans ?_)
    fin_cases a <;> rfl
  rfl

theorem written_at (hlt : ∀ y, (tab m c y).toNat < 10240) (t : Fin (cfgM m hO).N) (k : Fin 8) (x : Fin 1024) :
    ((outAt m hO c t : Vec Ideal S1x8x1024 .f32) (ix3 0 k x) : EReal) = attend m c (bat m hO t) k (headOf x) (placeOf x) := by
  have r := out_at m c hO t k (headOf x) hlt (placeOf x)
  rw [head_place] at r
  exact r

theorem written (hlt : ∀ y, (tab m c y).toNat < 10240) (t : Fin (cfgM m hO).N) (y : S1x8x1024.Idx) :
    (outAt m hO c t y : EReal) = attend m c (bat m hO t) (y 1) (headOf (y 2)) (placeOf (y 2)) := by
  have e : y = ix3 (n0 := 1) (n1 := 8) (n2 := 1024) 0 (y 1) (y 2) := by
    funext a
    fin_cases a
    · exact Subsingleton.elim (α := Fin 1) _ _
    · rfl
    · rfl
  exact (congrArg (outAt m hO c t) e).trans (written_at m c hO hlt t (y 1) (y 2))

theorem result (hlt : ∀ y, (tab m c y).toNat < 10240) : (dats m hO 0 c).arrAt 67 (cfgM m hO).N = total m c := by
  refine (dats m hO 0 c).arrAt_eq_of_covers 67 _ (covers67 m hO) fun t hf y => ?_
  exact (written m c hO hlt t y).trans (total_of m c _ _ _ _ (place m hO t y)).symm

end Cert.Kernel7Ideal.Sample

namespace Cert.Call7

open Idealize.ShloMosaic Idealize.SL.Sem

/-- From equal arguments the reference's result is the kernel's. -/
theorem same (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev Cert.Kernel7Ideal.nD)
    (hlt : ∀ y, (Cert.Kernel7Ideal.Sample.tab m c y).toNat < 10240)
    (h0 : m' ((c.tc : Thread Cert.Reference7Ideal.nD Cert.Reference7Ideal.τ).loc Cert.Reference7Ideal.main_arg0) = Cert.Kernel7Ideal.Sample.qAbs m c)
    (h1 : m' ((c.tc : Thread Cert.Reference7Ideal.nD Cert.Reference7Ideal.τ).loc Cert.Reference7Ideal.main_arg1) = Cert.Kernel7Ideal.Sample.qRope m c)
    (h2 : m' ((c.tc : Thread Cert.Reference7Ideal.nD Cert.Reference7Ideal.τ).loc Cert.Reference7Ideal.main_arg2) = Cert.Kernel7Ideal.Sample.ckv m c)
    (h3 : m' ((c.tc : Thread Cert.Reference7Ideal.nD Cert.Reference7Ideal.τ).loc Cert.Reference7Ideal.main_arg3) = Cert.Kernel7Ideal.Sample.tab m c)
    (h4 : m' ((c.tc : Thread Cert.Reference7Ideal.nD Cert.Reference7Ideal.τ).loc Cert.Reference7Ideal.main_arg4) = Cert.Kernel7Ideal.Sample.pool m c)
    (h5 : m' ((c.tc : Thread Cert.Reference7Ideal.nD Cert.Reference7Ideal.τ).loc Cert.Reference7Ideal.main_arg5) = Cert.Kernel7Ideal.Sample.wUp m c) :
    (Cert.Reference7Ideal.Value.res_main_v68 m' c : Vec Ideal Cert.Kernel7Ideal.S128x8x1024 .f32) = Cert.Kernel7Ideal.Sample.total m c := by
  have r (b : Fin 128) (t : Fin 8) (x : Fin 1024) :
      (Cert.Reference7Ideal.Value.res_main_v68 m' c : Vec Ideal Cert.Kernel7Ideal.S128x8x1024 .f32) (ix3 b t x)
        = Cert.Kernel7Ideal.Sample.attend m c b t (Cert.Kernel7Ideal.Sample.headOf x) (Cert.Kernel7Ideal.Sample.placeOf x) := by
    have r := Cert.Reference7Ideal.Sample.result_at m' c b t (Cert.Kernel7Ideal.Sample.headOf x) (Cert.Kernel7Ideal.Sample.placeOf x)
      _ _ _ _ _ hlt _ h0 h1 h2 h3 h4 h5
    rw [Cert.Kernel7Ideal.Sample.head_place] at r
    exact r
  funext i
  have e : i = ix3 (n0 := 128) (n1 := 8) (n2 := 1024) (i 0) (i 1) (i 2) := by
    funext a
    fin_cases a <;> rfl
  exact (congrArg (Cert.Reference7Ideal.Value.res_main_v68 m' c : Vec Ideal Cert.Kernel7Ideal.S128x8x1024 .f32) e).trans (r (i 0) (i 1) (i 2))

/-- The kernel and the reference compute the same array. -/
theorem value : Cert.algebraic_Kernel7Ideal_Reference7Ideal (hKernel7Ideal := Cert.Kernel7Ideal.Gen.facts)
    (hReference7Ideal := Cert.Reference7Ideal.Gen.facts) (hPre_in_pool := Cert.Pre_in_pool.Gen.facts) := fun m g m' g' hpre hag =>
  have hlt (c : Dev Cert.Kernel7Ideal.nD) : ∀ y, (Cert.Kernel7Ideal.Sample.tab m c y).toNat < 10240 :=
    Cert.Pre_in_pool.entry_lt _ _ _ _ _ _ (hpre c)
  have hO : Cert.Kernel7Ideal.Gen.Ok m := Cert.Kernel7Ideal.Sample.ok_of_lt m (hlt 0)
  ⟨fun c => Cert.Kernel7Ideal.Sample.total m c,
    (θ_run Cert.Kernel7Ideal.defs _ _).mono
      (fun r h c => ⟨((h.1.1 c).1 67).trans (Cert.Kernel7Ideal.Sample.result m c hO (hlt c)), h.2.1 c⟩)
      (θ_run_and (Cert.Kernel7Ideal.Sample.run_main m g hO) (Cert.Kernel7Ideal.Sample.frame m g hO)),
    (θ_run Cert.Reference7Ideal.defs _ _).mono (fun r h c => ⟨(h c).1.trans (same m m' c (hlt c) (hag c).1 (hag c).2.1 (hag c).2.2.1
        (hag c).2.2.2.1 (hag c).2.2.2.2.1 (hag c).2.2.2.2.2), (h c).2⟩)
      (Cert.Reference7Ideal.Value.run m' g')⟩

end Cert.Call7

end
-- ==== Proof.Mla.Host.lean ====
/-
  Hand-written. The arrays the attention kernel's host code prepares, and the blocks the kernel reads of them, at an
  index of the arguments.
-/
module

public import Idealize.ShloMosaic.Lib.Claim
public import Idealize.ShloMosaic.Lib.Pipeline.ValueKit
public import proofs.«01_k».proof.Proof.Mla.Pay

@[expose] public section

set_option maxRecDepth 16384

noncomputable section

namespace Cert.KernelIdeal.Mla

open Cert.KernelIdeal Cert.KernelIdeal.Gen
open Idealize.ShloMosaic Idealize.ShloMosaic.TcCoe

variable (m : (ℓ : Loc nD τ sig) → Buf (Elt Ideal) ℓ) (c : Dev nD)

abbrev qAbs : Vec Ideal S2x4096x8x256 .f32 := m ((c : Thread nD τ).loc main_arg0)
abbrev qRope : Vec Ideal S2x4096x8x64 .f32 := m ((c : Thread nD τ).loc main_arg1)
abbrev ckv : Vec Ideal S2x4096x320 .f32 := m ((c : Thread nD τ).loc main_arg2)
abbrev wUp : Vec Ideal S256x8x256 .f32 := m ((c : Thread nD τ).loc main_arg3)

theorem host_keys (b : Fin 2) (n : Fin 4096) (d : Fin 320) :
    (V m c main_v6 : Vec Ideal S2x4096x320 .bf16) (ix3 b n d) = ckv m c (ix3 b n d) := by
  entry_read
  pointwise

theorem host_values (b : Fin 2) (x : Fin 256) (n : Fin 4096) :
    (V m c main_v11 : Vec Ideal S2x256x4096 .bf16) (ix3 b x n) = ckv m c (ix3 b n ⟨x.val, by omega⟩) := by
  entry_read
  pointwise

theorem host_up (h : Fin 8) (y : Fin 128) (x : Fin 256) :
    (V m c main_v12 : Vec Ideal S8x128x256 .bf16) (ix3 h y x) = wUp m c (ix3 x h ⟨128 + y.val, by omega⟩) := by
  entry_read
  pointwise

theorem host_queries (b : Fin 2) (i : Fin 16) (d : Fin 320) (l : Fin 2048) :
    (V m c main_v9 : Vec Ideal S2x16x320x2048 .bf16) (ix4 b i d l)
      = if hd : d.val < 256 then qAbs m c (ix4 b ⟨i.val * 256 + l.val % 256, by omega⟩ ⟨l.val / 256, by omega⟩ ⟨d.val, hd⟩)
        else qRope m c (ix4 b ⟨i.val * 256 + l.val % 256, by omega⟩ ⟨l.val / 256, by omega⟩ ⟨d.val - 256, by omega⟩) := by
  entry_read
  pointwise

/-! ## Blocks -/

/-- The key block that query tile `i` reads at its step `j`. -/
def kb (t : Fin cfg0.N) : ℕ := min (t.val / 16 % 16) (t.val % 16)

theorem kb_lt (t : Fin cfg0.N) : kb t < 16 := by unfold kb; omega

theorem index1 : ∀ t : Fin cfg0.N, (cfg0.win 1).index t = ![t.val / 256, kb t, 0] := by decide +kernel
theorem index2 : ∀ t : Fin cfg0.N, (cfg0.win 2).index t = ![t.val / 256, 0, kb t] := by decide +kernel
theorem index0 : ∀ t : Fin cfg0.N, (cfg0.win 0).index t = ![t.val / 256, t.val / 16 % 16, 0, 0] := by decide +kernel
theorem index3 : ∀ t : Fin cfg0.N, (cfg0.win 3).index t = ![0, 0, 0] := by decide +kernel
theorem index4 : ∀ t : Fin cfg0.N, (cfg0.win 4).index t = ![t.val / 256, 0, t.val / 16 % 16] := by decide +kernel

theorem point_lt (t : Fin cfg0.N) : t.val / 256 < 2 := by
  have : t.val < 512 := t.isLt
  omega

end Cert.KernelIdeal.Mla

end
-- ==== Proof.Mla.Blocks.lean ====
module

public import proofs.«01_k».proof.Proof.Mla.Host

@[expose] public section

set_option maxRecDepth 16384

noncomputable section

namespace Cert.KernelIdeal.Mla

open Cert.KernelIdeal Cert.KernelIdeal.Gen
open Idealize.ShloMosaic Idealize.ShloMosaic.TcCoe

variable (m : (ℓ : Loc nD τ sig) → Buf (Elt Ideal) ℓ) (c : Dev nD)

theorem read_queries (X : Vec Ideal S2x16x320x2048 .bf16) (t : Fin cfg0.N) (d : Fin 320) (l : Fin 2048) :
    (((cfg0.win 0).blk t).view.read (Elt Ideal) X : Vec Ideal S1x1x320x2048 .bf16) (ix4 0 0 d l)
      = X (ix4 ⟨t.val / 256, point_lt t⟩ ⟨t.val / 16 % 16, by omega⟩ d l) := by
  refine congrArg X (funext fun a => Fin.ext ?_)
  refine (Pipeline.Window.rect_emb_val (cfg0.win 0) t _ a).trans ?_
  rw [index0 t]
  fin_cases a
  · exact (Nat.mul_one _)
  · exact (Nat.mul_one _)
  · exact (congrArg (· + d.val) (Nat.zero_mul 320)).trans (Nat.zero_add _)
  · exact (congrArg (· + l.val) (Nat.zero_mul 2048)).trans (Nat.zero_add _)

theorem block_queries (t : Fin cfg0.N) (d : Fin 320) (l : Fin 2048) :
    (iblk m c 0 t : Vec Ideal S1x1x320x2048 .bf16) (ix4 0 0 d l)
      = (V m c main_v9 : Vec Ideal S2x16x320x2048 .bf16) (ix4 ⟨t.val / 256, point_lt t⟩ ⟨t.val / 16 % 16, by omega⟩ d l) :=
  read_queries (V m c main_v9) t d l

theorem block_keys (t : Fin cfg0.N) (r : Fin 256) (d : Fin 320) :
    (iblk m c 1 t : Vec Ideal S1x256x320 .bf16) (ix3 0 r d)
      = (V m c main_v6 : Vec Ideal S2x4096x320 .bf16) (ix3 ⟨t.val / 256, point_lt t⟩ ⟨kb t * 256 + r.val, by have := kb_lt t; omega⟩ d) := by
  refine congrArg (V m c main_v6 : Vec Ideal S2x4096x320 .bf16) (funext fun a => Fin.ext ?_)
  refine (Pipeline.Window.rect_emb_val (cfg0.win 1) t _ a).trans ?_
  rw [index1 t]
  fin_cases a
  · exact (Nat.mul_one _)
  · rfl
  · exact (congrArg (· + d.val) (Nat.zero_mul 320)).trans (Nat.zero_add _)

theorem block_values (t : Fin cfg0.N) (x : Fin 256) (r : Fin 256) :
    (iblk m c 2 t : Vec Ideal S1x256x256 .bf16) (ix3 0 x r)
      = (V m c main_v11 : Vec Ideal S2x256x4096 .bf16) (ix3 ⟨t.val / 256, point_lt t⟩ x ⟨kb t * 256 + r.val, by have := kb_lt t; omega⟩) := by
  refine congrArg (V m c main_v11 : Vec Ideal S2x256x4096 .bf16) (funext fun a => Fin.ext ?_)
  refine (Pipeline.Window.rect_emb_val (cfg0.win 2) t _ a).trans ?_
  rw [index2 t]
  fin_cases a
  · exact (Nat.mul_one _)
  · exact (congrArg (· + x.val) (Nat.zero_mul 256)).trans (Nat.zero_add _)
  · rfl

theorem block_up (t : Fin cfg0.N) (h : Fin 8) (y : Fin 128) (x : Fin 256) :
    (iblk m c 3 t : Vec Ideal S8x128x256 .bf16) (ix3 h y x) = (V m c main_v12 : Vec Ideal S8x128x256 .bf16) (ix3 h y x) := by
  refine congrArg (V m c main_v12 : Vec Ideal S8x128x256 .bf16) (funext fun a => Fin.ext ?_)
  refine (Pipeline.Window.rect_emb_val (cfg0.win 3) t _ a).trans ?_
  rw [index3 t]
  fin_cases a
  · exact (congrArg (· + h.val) (Nat.zero_mul 8)).trans (Nat.zero_add _)
  · exact (congrArg (· + y.val) (Nat.zero_mul 128)).trans (Nat.zero_add _)
  · exact (congrArg (· + x.val) (Nat.zero_mul 256)).trans (Nat.zero_add _)

theorem out_place (t : Fin cfg0.N) (y : Fin 1024) (x : Fin 256) (a : Fin 3) :
    ((((cfg0.win 4).blk t).view.emb (ix3 (n0 := 1) (n1 := 1024) (n2 := 256) 0 y x)) a : ℕ)
      = (![t.val / 256, y.val, t.val / 16 % 16 * 256 + x.val] : Fin 3 → ℕ) a := by
  refine (Pipeline.Window.rect_emb_val (cfg0.win 4) t _ a).trans ?_
  rw [index4 t]
  fin_cases a
  · exact (Nat.mul_one _)
  · exact (congrArg (· + y.val) (Nat.zero_mul 1024)).trans (Nat.zero_add _)
  · rfl

/-! ## Scores and values -/

/-- Query column `l` of tile `i` of sequence `b`: its position. -/
def pos (i : ℕ) (l : Fin 2048) : ℕ := i * 256 + l.val % 256

/-- Query element `d` of column `l` of tile `i`, sequence `b`. -/
def qry (b : Fin 2) (i : Fin 16) (l : Fin 2048) (d : Fin 320) : EReal :=
  if hd : d.val < 256 then qAbs m c (ix4 b ⟨i.val * 256 + l.val % 256, by omega⟩ ⟨l.val / 256, by omega⟩ ⟨d.val, hd⟩)
  else qRope m c (ix4 b ⟨i.val * 256 + l.val % 256, by omega⟩ ⟨l.val / 256, by omega⟩ ⟨d.val - 256, by omega⟩)

/-- The masked score of key `k`: `-∞` for a key after the query. -/
def score (b : Fin 2) (i : Fin 16) (l : Fin 2048) (k : ℕ) : EReal :=
  if h : k ≤ i.val * 256 + l.val % 256 then
    ∑ d : Fin 320, ckv m c (ix3 b ⟨k, by omega⟩ d) * qry m c b i l d else ⊥

/-- The value of key `k` at latent element `x`. -/
def value (b : Fin 2) (x : Fin 256) (k : ℕ) : EReal :=
  if h : k < 4096 then ckv m c (ix3 b ⟨k, h⟩ ⟨x.val, by omega⟩) else 0

/-- How many keys tile `i` has seen after its step `j`. -/
def seen (t : Fin cfg0.N) : ℕ := (kb t + 1) * 256

theorem coords1 : ∀ t : Fin cfg0.N, (grid0.coords t 1).val = t.val / 16 % 16 := by decide +kernel
theorem coords2 : ∀ t : Fin cfg0.N, (grid0.coords t 2).val = t.val % 16 := by decide +kernel

abbrev bat (t : Fin cfg0.N) : Fin 2 := ⟨t.val / 256, point_lt t⟩
abbrev tile (t : Fin cfg0.N) : Fin 16 := ⟨t.val / 16 % 16, by omega⟩

/-- A dot product of a key row and a query column. -/
def dot (k : Vec Ideal S1x256x320 .bf16) (q : Vec Ideal S1x1x320x2048 .bf16) (r : Fin 256) (l : Fin 2048) : EReal :=
  ∑ d : Fin 320, k (ix3 0 r d) * q (ix4 0 0 d l)

theorem raw_score (t : Fin cfg0.N) (l : Fin 2048) (r : Fin 256) :
    dot (iblk m c 1 t) (iblk m c 0 t) r l
      = ∑ d : Fin 320, ckv m c (ix3 (bat t) ⟨kb t * 256 + r.val, by have := kb_lt t; omega⟩ d) * qry m c (bat t) (tile t) l d := by
  refine Finset.sum_congr rfl fun d _ => ?_
  exact congrArg₂ (· * ·) ((block_keys m c t r d).trans (host_keys m c _ _ d)) ((block_queries m c t d l).trans (host_queries m c _ _ d l))

theorem value_at (t : Fin cfg0.N) (x r : Fin 256) :
    (iblk m c 2 t : Vec Ideal S1x256x256 .bf16) (ix3 0 x r) = value m c (bat t) x (kb t * 256 + r.val) := by
  rw [block_values, host_values, value, dif_pos (by have := kb_lt t; omega)]

theorem step_below (t : Fin cfg0.N) (hlt : t.val % 16 < t.val / 16 % 16) (S : State Ideal)
    (h : Meets (score m c (bat t) (tile t)) (value m c (bat t)) (t.val % 16 * 256) S) :
    Meets (score m c (bat t) (tile t)) (value m c (bat t)) (t.val % 16 * 256 + 256)
      (stepBelow (iblk m c 1 t) (iblk m c 0 t) (iblk m c 2 t) S) := by
  have hk : kb t = t.val % 16 := by unfold kb; omega
  refine meets_below _ _ _ h (fun l r => ?_) (fun x r => ?_)
  · refine (pay8_apply _ _ r l).trans ((raw_score m c t l r).trans ?_)
    rw [score, dif_pos (by show _ ≤ t.val / 16 % 16 * 256 + _; omega)]
    simp only [hk]
  · rw [value_at, hk]

theorem step_diag (t : Fin cfg0.N) (he : t.val % 16 = t.val / 16 % 16) (S : State Ideal)
    (h : Meets (score m c (bat t) (tile t)) (value m c (bat t)) (t.val % 16 * 256) S) :
    Meets (score m c (bat t) (tile t)) (value m c (bat t)) (t.val % 16 * 256 + 256)
      (stepDiag (BitVec.ofNat 32 (grid0.coords t 1).val) (BitVec.ofNat 32 (grid0.coords t 2).val) (iblk m c 1 t) (iblk m c 0 t) (iblk m c 2 t) S) := by
  have hk : kb t = t.val % 16 := by unfold kb; omega
  rw [coords1, coords2]
  refine meets_diag _ _ _ _ _ h (fun l r => ?_) (fun x r => ?_)
  · refine (pay14_apply _ _ (tile t) ⟨t.val % 16, by omega⟩ r l).trans ?_
    refine (if_congr Iff.rfl (raw_score m c t l r) rfl).trans ?_
    simp only [hk]
    rfl
  · rw [value_at, hk]

/-- After a point of step `j`, the state is the recurrence over the key blocks up to `min i j`. -/
theorem state_meets (n : ℕ) : ∀ t : Fin cfg0.N, t.val = n →
    Meets (score m c (bat t) (tile t)) (value m c (bat t)) (seen t) (state m c (n + 1)) := by
  induction n with
  | zero =>
    intro t ht
    have e := state_succ m c t
    rw [ht] at e
    rw [e, stepAt, if_neg (by omega), if_pos (by omega), start, if_pos (by omega)]
    have := step_diag m c t (by omega) empty (by rw [ht]; exact meets_empty _ _)
    rwa [show seen t = t.val % 16 * 256 + 256 by unfold seen kb; omega]
  | succ n ih =>
    intro t ht
    have e := state_succ m c t
    rw [ht] at e
    rw [e]
    have hN : t.val < 512 := t.isLt
    have hs : Meets (score m c (bat t) (tile t)) (value m c (bat t)) (if t.val % 16 = 0 then 0 else min (t.val / 16 % 16 + 1) (t.val % 16) * 256)
        (start t (state m c (n + 1))) := by
      unfold start
      split
      · exact meets_empty _ _
      · have p := ih ⟨n, by show n < 512; omega⟩ rfl
        have hb : bat ⟨n, by show n < 512; omega⟩ = bat t := Fin.ext (by show n / 256 = t.val / 256; omega)
        have hi : tile ⟨n, by show n < 512; omega⟩ = tile t := Fin.ext (by show n / 16 % 16 = t.val / 16 % 16; omega)
        rw [hb, hi] at p
        rwa [show seen ⟨n, by show n < 512; omega⟩ = min (t.val / 16 % 16 + 1) (t.val % 16) * 256 by
          show (min (n / 16 % 16) (n % 16) + 1) * 256 = _; omega] at p
    unfold stepAt
    split
    · rw [show seen t = t.val % 16 * 256 + 256 by unfold seen kb; omega]
      refine step_below m c t ‹_› _ ?_
      rwa [show (if t.val % 16 = 0 then 0 else min (t.val / 16 % 16 + 1) (t.val % 16) * 256) = t.val % 16 * 256 by split <;> omega] at hs
    · split
      · rw [show seen t = t.val % 16 * 256 + 256 by unfold seen kb; omega]
        refine step_diag m c t ‹_› _ ?_
        rwa [show (if t.val % 16 = 0 then 0 else min (t.val / 16 % 16 + 1) (t.val % 16) * 256) = t.val % 16 * 256 by split <;> omega] at hs
      · have hs' := hs
        rw [show (if t.val % 16 = 0 then 0 else min (t.val / 16 % 16 + 1) (t.val % 16) * 256) = seen t by unfold seen kb; split <;> omega] at hs'
        rw [start, if_neg (by omega)] at hs'
        exact hs'

end Cert.KernelIdeal.Mla

end
-- ==== Proof.Mla.Ref.lean ====
/-
  Hand-written. The plain attention's result at an index.
-/
module

public import Idealize.ShloMosaic.Lib.WordArith
public import Idealize.ShloMosaic.Lib.Pipeline.ValueKit
public import proofs.«01_k».proof.Proof.Gen.ReferenceIdeal.Run
public import proofs.«01_k».proof.Proof.Mla.Online

@[expose] public section

set_option maxRecDepth 16384

noncomputable section

namespace Cert.ReferenceIdeal.Mla

open Cert.ReferenceIdeal Cert.ReferenceIdeal.Gen Cert.ReferenceIdeal.Value
open Idealize.ShloMosaic Idealize.ShloMosaic.TcCoe

/-- A query's score of key `k`: the latent part and the rotary part, `-∞` for a key after the query. -/
def rscore (qa : Vec Ideal S2x4096x8x256 .f32) (qr : Vec Ideal S2x4096x8x64 .f32) (kv : Vec Ideal S2x4096x320 .f32)
    (b : Fin 2) (h : Fin 8) (n k : Fin 4096) : EReal :=
  if k.val ≤ n.val then
    (∑ d : Fin 256, kv (ix3 b k ⟨d.val, by omega⟩) * qa (ix4 b n h d))
      + ∑ d : Fin 64, kv (ix3 b k ⟨256 + d.val, by omega⟩) * qr (ix4 b n h d)
  else ⊥

theorem negInf_word : Ideal.ofBits .f32 0xFF800000#32 = ⊥ := by
  simp [Ideal.ofBits, Ideal.ieee]

theorem le_word (x n : Fin 4096) :
    IntOp.cmpi CmpIPredicate.sle (BitVec.ofNat 32 x.val) (BitVec.ofNat 32 n.val) = if x.val ≤ n.val then 1#1 else 0#1 := by
  show BitVec.ofBool (BitVec.sle _ _) = _
  have : BitVec.sle (BitVec.ofNat 32 x.val) (BitVec.ofNat 32 n.val) = decide (x.val ≤ n.val) := by
    rw [Bool.eq_iff_iff, BitVec.sle_iff_toInt_le, Idealize.ShloMosaic.WordArith.toInt_ofNat_small _ (by omega), Idealize.ShloMosaic.WordArith.toInt_ofNat_small _ (by omega)]
    simp
  rw [this]
  by_cases h : x.val ≤ n.val <;> simp [h]

theorem masked (x n : Fin 4096) (A : EReal) :
    (Scalar.select (IntOp.cmpi CmpIPredicate.sle (BitVec.ofNat 32 x.val) (BitVec.ofNat 32 n.val)) A
      (id (constant (F := Ideal) S_ .f32 4286578688#32) ix0) : EReal) = if x.val ≤ n.val then A else ⊥ := by
  rw [le_word, show (id (constant (F := Ideal) S_ .f32 4286578688#32) ix0 : EReal) = ⊥ from negInf_word]
  by_cases h : x.val ≤ n.val <;> simp [h, Scalar.select]

theorem weight (x n : Fin 4096) (A M : EReal) :
    (Ideal.exp ((if x.val ≤ n.val then A else ⊥) - M)
      * FloatOps.uitofp (F := Ideal) .f32 (IntOp.cmpi CmpIPredicate.sle (BitVec.ofNat 32 x.val) (BitVec.ofNat 32 n.val)) : EReal)
      = Ideal.exp ((if x.val ≤ n.val then A else ⊥) - M) := by
  rw [le_word]
  by_cases h : x.val ≤ n.val
  · rw [if_pos h, if_pos h, show (FloatOps.uitofp (F := Ideal) .f32 1#1 : EReal) = 1 by simp [FloatOps.uitofp]]
    exact mul_one _
  · rw [if_neg h, Cert.Online.exp_bot_sub, zero_mul]

theorem fold_max_sup {n : ℕ} (f : Fin n → EReal) : Finset.fold max ⊥ f Finset.univ = Finset.univ.sup f := rfl

variable (m : (ℓ : Loc nD τ sig) → Buf (Elt Ideal) ℓ) (c : Dev nD)

theorem result_at (b : Fin 2) (h : Fin 8) (y : Fin 128) (n : Fin 4096) (qa : Vec Ideal S2x4096x8x256 .f32)
    (qr : Vec Ideal S2x4096x8x64 .f32) (kv : Vec Ideal S2x4096x320 .f32) (w : Vec Ideal S256x8x256 .f32)
    (e0 : m ((c.tc : Thread nD τ).loc main_arg0) = qa) (e1 : m ((c.tc : Thread nD τ).loc main_arg1) = qr)
    (e2 : m ((c.tc : Thread nD τ).loc main_arg2) = kv) (e3 : m ((c.tc : Thread nD τ).loc main_arg3) = w) :
    ((res_main_v36 m c : Vec Ideal S2x1024x4096 .f32) (ix3 b ⟨h.val * 128 + y.val, by omega⟩ n) : Ideal .f32)
      = ∑ x : Fin 256, w (ix3 x h ⟨128 + y.val, by omega⟩)
          * ∑ k : Fin 4096, kv (ix3 b k ⟨x.val, by omega⟩)
            * Ideal.div (Ideal.exp (rscore qa qr kv b h n k - Finset.univ.sup (rscore qa qr kv b h n)))
                (max (∑ k : Fin 4096, Ideal.exp (rscore qa qr kv b h n k - Finset.univ.sup (rscore qa qr kv b h n)))
                  (Ideal.ofBits .f32 0x0DA24260#32)) := by
  pointwise [res_main_v36]
  rw [e0, e1, e2, e3]
  simp only [masked, weight, negInf_word, fold_max_sup]
  rfl

end Cert.ReferenceIdeal.Mla

end
-- ==== Proof.Mla.Tie.lean ====
/-
  Hand-written. The tiled attention's result is the plain attention's, over the extended reals.
-/
module

public import Idealize.ShloMosaic.Lib.Pipeline.ArrRel
public import proofs.«01_k».proof.Proof.Mla.Blocks
public import proofs.«01_k».proof.Proof.Mla.Ref

@[expose] public section

set_option maxRecDepth 16384

noncomputable section

namespace Cert.KernelIdeal.Mla

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The column of head `h`, position `x` of a tile. -/
abbrev col (h : Fin 8) (x : Fin 256) : Fin 2048 := ⟨h.val * 256 + x.val, by omega⟩
/-- The position of column place `x` of tile `i`. -/
abbrev at' (i : Fin 16) (x : Fin 256) : Fin 4096 := ⟨i.val * 256 + x.val, by omega⟩

/-- The two programs' scores agree. -/
theorem score_eq (b : Fin 2) (i : Fin 16) (h : Fin 8) (x : Fin 256) (k : Fin 4096) :
    score m c b i (col h x) k.val = Cert.ReferenceIdeal.Mla.rscore (qAbs m c) (qRope m c) (ckv m c) b h (at' i x) k := by
  have e1 : (h.val * 256 + x.val) % 256 = x.val := by omega
  have e2 : (h.val * 256 + x.val) / 256 = h.val := by omega
  unfold score Cert.ReferenceIdeal.Mla.rscore
  by_cases hk : k.val ≤ i.val * 256 + x.val
  · rw [dif_pos (by show _ ≤ _ + (h.val * 256 + x.val) % 256; omega), if_pos hk]
    refine (Fin.sum_univ_add (a := 256) (b := 64) _).trans (congrArg₂ (· + ·) ?_ ?_)
    · refine Finset.sum_congr rfl fun d _ => congrArg₂ (· * ·) rfl ?_
      rw [qry, dif_pos (by show d.val < 256; omega)]
      refine congrArg (qAbs m c) ?_
      simp only [e1, e2]
      rfl
    · refine Finset.sum_congr rfl fun d _ => congrArg₂ (· * ·) rfl ?_
      rw [qry, dif_neg (by show ¬ 256 + d.val < 256; omega)]
      refine congrArg (qRope m c) ?_
      have e3 : 256 + d.val - 256 = d.val := by omega
      simp only [e1, e2, Fin.natAdd, e3]
  · rw [dif_neg (by show ¬ _ ≤ _ + (h.val * 256 + x.val) % 256; omega), if_neg hk]

/-- One latent element of the normalised attention, in the plain form. -/
theorem latent_eq (b : Fin 2) (i : Fin 16) (h : Fin 8) (x z : Fin 256) :
    Ideal.div (Online.ac (score m c b i (col h x)) (value m c b z) ((i.val + 1) * 256))
        (max (Online.sm (score m c b i (col h x)) ((i.val + 1) * 256)) (Ideal.ofBits .f32 0x0DA24260#32))
      = ∑ k : Fin 4096, ckv m c (ix3 b k ⟨z.val, by omega⟩)
            * Ideal.div (Ideal.exp (Cert.ReferenceIdeal.Mla.rscore (qAbs m c) (qRope m c) (ckv m c) b h (at' i x) k
                - Finset.univ.sup (Cert.ReferenceIdeal.Mla.rscore (qAbs m c) (qRope m c) (ckv m c) b h (at' i x))))
                (max (∑ k : Fin 4096, Ideal.exp (Cert.ReferenceIdeal.Mla.rscore (qAbs m c) (qRope m c) (ckv m c) b h (at' i x) k
                    - Finset.univ.sup (Cert.ReferenceIdeal.Mla.rscore (qAbs m c) (qRope m c) (ckv m c) b h (at' i x))))
                  (Ideal.ofBits .f32 0x0DA24260#32)) := by
  have hs : ∀ k, (i.val + 1) * 256 ≤ k → k < (i.val + 1) * 256 + (4096 - (i.val + 1) * 256) → score m c b i (col h x) k = ⊥ := fun k h1 _ => by
    rw [score, dif_neg (by show ¬ _ ≤ _ + (h.val * 256 + x.val) % 256; omega)]
  have hn : (i.val + 1) * 256 + (4096 - (i.val + 1) * 256) = 4096 := by omega
  rw [← Online.ac_stable _ _ _ _ hs, ← Online.sm_stable _ _ _ hs, hn, tiny_word, Online.div_ac _ _ _ tiny_pos]
  have hm : Online.mx (score m c b i (col h x)) 4096
      = Finset.univ.sup (Cert.ReferenceIdeal.Mla.rscore (qAbs m c) (qRope m c) (ckv m c) b h (at' i x)) := by
    have := Online.mx_step (score m c b i (col h x)) 0 4096
    rw [Nat.zero_add, Online.mx_zero] at this
    rw [this, max_eq_right bot_le]
    simp only [Nat.zero_add, score_eq]
  rw [Online.sm, hm, Finset.sum_range, Finset.sum_range]
  simp only [score_eq]
  refine Finset.sum_congr rfl fun k _ => congrArg₂ (· * ·) ?_ rfl
  rw [value, dif_pos k.isLt]

/-- What a tile's last point leaves in the output window. -/
theorem out_eq (t : Fin cfg0.N) (ht : t.val % 16 = 15) (h : Fin 8) (y : Fin 128) (x : Fin 256) :
    outTile (iblk m c 3 t) (state m c (t.val + 1)).sm (state m c (t.val + 1)).ac (ix3 0 ⟨h.val * 128 + y.val, by omega⟩ x)
      = ∑ z : Fin 256, wUp m c (ix3 z h ⟨128 + y.val, by omega⟩)
          * ∑ k : Fin 4096, ckv m c (ix3 (bat t) k ⟨z.val, by omega⟩)
            * Ideal.div (Ideal.exp (Cert.ReferenceIdeal.Mla.rscore (qAbs m c) (qRope m c) (ckv m c) (bat t) h (at' (tile t) x) k
                - Finset.univ.sup (Cert.ReferenceIdeal.Mla.rscore (qAbs m c) (qRope m c) (ckv m c) (bat t) h (at' (tile t) x))))
                (max (∑ k : Fin 4096, Ideal.exp (Cert.ReferenceIdeal.Mla.rscore (qAbs m c) (qRope m c) (ckv m c) (bat t) h (at' (tile t) x) k
                    - Finset.univ.sup (Cert.ReferenceIdeal.Mla.rscore (qAbs m c) (qRope m c) (ckv m c) (bat t) h (at' (tile t) x))))
                  (Ideal.ofBits .f32 0x0DA24260#32)) := by
  have hM := state_meets m c t.val t rfl
  have hsn : seen t = ((tile t).val + 1) * 256 := by show (min (t.val / 16 % 16) (t.val % 16) + 1) * 256 = (t.val / 16 % 16 + 1) * 256; omega
  rw [hsn] at hM
  have e : outTile (iblk m c 3 t) (state m c (t.val + 1)).sm (state m c (t.val + 1)).ac (ix3 0 ⟨h.val * 128 + y.val, by omega⟩ x)
      = outRows (iblk m c 3 t) (state m c (t.val + 1)).sm (state m c (t.val + 1)).ac h (ix3 0 y x) := by
    unfold outTile tileOf
    have e1 : (⟨(h.val * 128 + y.val) / 128, by omega⟩ : Fin 8) = h := Fin.ext (by show (h.val * 128 + y.val) / 128 = _; omega)
    refine congrArg₂ (fun (h : Fin 8) (j : S1x128x256.Idx) => outRows (iblk m c 3 t) (state m c (t.val + 1)).sm (state m c (t.val + 1)).ac h j) e1 ?_
    funext a
    fin_cases a
    · rfl
    · exact Fin.ext (by show (h.val * 128 + y.val) % 128 = y.val; omega)
    · rfl
  rw [e]
  refine (outRows_apply _ _ _ h y x).trans (Finset.sum_congr rfl fun z _ => congrArg₂ (· * ·) ?_ ?_)
  · exact (block_up m c t h y z).trans (host_up m c h y z)
  · rw [hM.ac, hM.sm]
    exact latent_eq m c (bat t) (tile t) h x z

variable (m' : (ℓ : Loc Cert.ReferenceIdeal.nD Cert.ReferenceIdeal.τ Cert.ReferenceIdeal.sig) → Buf (Elt Ideal) ℓ)

/-- The plain attention's result, as an array of the kernel's. -/
def plain : Buf (Elt Ideal) ((c : Thread nD τ).loc main_v13) := Cert.ReferenceIdeal.Value.res_main_v36 m' c

theorem result_eq (r : PUnit × MemSt nD τ sig (Elt Ideal)) (e0 : m' ((c.tc : Thread _ _).loc Cert.ReferenceIdeal.main_arg0) = qAbs m c)
    (e1 : m' ((c.tc : Thread _ _).loc Cert.ReferenceIdeal.main_arg1) = qRope m c)
    (e2 : m' ((c.tc : Thread _ _).loc Cert.ReferenceIdeal.main_arg2) = ckv m c)
    (e3 : m' ((c.tc : Thread _ _).loc Cert.ReferenceIdeal.main_arg3) = wUp m c)
    (h : Pipeline.RDat.FramePost (cfgs 0) (fun c => (dats m c).toRRel byRel (Rl m c)) (V m) r) :
    r.2.mem ((c : Thread nD τ).loc main_v13) = plain c m' := by
  obtain ⟨after, hL, hA⟩ := Pipeline.RDat.FramePost.exists_exact h c
  refine (hA 4).trans (Pipeline.Dat.arrAt_eq_of_covers _ 4 _ (by decide +kernel) fun t hf y => ?_)
  have hR := (dats m c).toRRel_leaves (fgt := byRel) (Rl := Rl m c) rfl (hL 4 t hf)
  have ht := (flush0_4 t).mp hf
  have hX : after 4 t = outTile (iblk m c 3 t) (state m c (t.val + 1)).sm (state m c (t.val + 1)).ac := hR (by omega)
  show after 4 t y = _
  rw [hX]
  have hy1 : (y 1).val < 1024 := (y 1).isLt
  have hy2 : (y 2).val < 256 := (y 2).isLt
  have hy0 : (y 0).val < 1 := (y 0).isLt
  have hy : (y : S1x1024x256.Idx) = ix3 0 ⟨(⟨(y 1).val / 128, by omega⟩ : Fin 8).val * 128 + (⟨(y 1).val % 128, by omega⟩ : Fin 128).val, by dsimp only; omega⟩ ⟨(y 2).val, hy2⟩ := by
    funext a
    fin_cases a
    · exact Fin.ext (by show (y 0).val = 0; omega)
    · exact Fin.ext (by show (y 1).val = (y 1).val / 128 * 128 + (y 1).val % 128; omega)
    · rfl
  have hp : ((((cfg0.win 4).blk t).view.emb y) : S2x1024x4096.Idx) = ix3 (bat t) ⟨(⟨(y 1).val / 128, by omega⟩ : Fin 8).val * 128 + (⟨(y 1).val % 128, by omega⟩ : Fin 128).val, by dsimp only; omega⟩ (at' (tile t) ⟨(y 2).val, hy2⟩) := by
    funext a
    refine Fin.ext ?_
    have := out_place t ⟨(y 1).val, hy1⟩ ⟨(y 2).val, hy2⟩ a
    have hy' : (y : S1x1024x256.Idx) = ix3 0 ⟨(y 1).val, hy1⟩ ⟨(y 2).val, hy2⟩ := by
      funext a
      fin_cases a
      · exact Fin.ext (by show (y 0).val = 0; omega)
      · rfl
      · rfl
    rw [← hy'] at this
    refine this.trans ?_
    fin_cases a
    · rfl
    · show (y 1).val = (y 1).val / 128 * 128 + (y 1).val % 128; omega
    · rfl
  have R := Cert.ReferenceIdeal.Mla.result_at m' c (bat t) ⟨(y 1).val / 128, by omega⟩ ⟨(y 1).val % 128, by omega⟩ (at' (tile t) ⟨(y 2).val, hy2⟩) _ _ _ _ e0 e1 e2 e3
  refine (congrArg _ hy).trans ((out_eq m c t ht _ _ _).trans (R.symm.trans ?_))
  exact (congrArg (plain c m') hp).symm

end Cert.KernelIdeal.Mla

end
-- ==== Proof.Rows.Norm.lean ====
module

public import Idealize.ShloMosaic.Lib.Claim
public import Idealize.ShloMosaic.Lib.Pipeline.ValueKit

/-! The row functions of the layer, and the reading of the two row blocks laid one over the other. -/

@[expose] public section

set_option maxRecDepth 16384

noncomputable section

namespace Cert.Rows

open Idealize.ShloMosaic

/-- Element `k` of the normed row: `x · rsqrt(mean of squares + ε) · g`. -/
def normed (x g : Fin 2048 → EReal) (k : Fin 2048) : EReal :=
  x k * Ideal.rsqrt (Ideal.div (∑ j : Fin 2048, x j * x j) (Ideal.ofBits FTy.f32 1157627904#32) + Ideal.ofBits FTy.f32 897988541#32) * g k

/-- Element `f` of the gated product of a feed-forward row: `silu(gate) · up`, of the gate and up columns of `win`. -/
def gated (x g : Fin 2048 → EReal) (gate up : Fin 2048 → EReal) : EReal :=
  (∑ k, normed x g k * gate k) * Ideal.logistic (∑ k, normed x g k * gate k) * ∑ k, normed x g k * up k

/-- Element `l` of a row's feed-forward: the row and half the normed down projection of its gated products. -/
def ffn (x g g' : Fin 2048 → EReal) (win : Fin 2048 → Fin 11264 → EReal) (wout : Fin 5632 → Fin 2048 → EReal) (l : Fin 2048) : EReal :=
  x l + Ideal.ofBits FTy.f32 1056964608#32 *
    normed (fun y => ∑ f : Fin 5632, gated x g (fun k => win k ⟨f.val, by omega⟩) (fun k => win k ⟨5632 + f.val, by omega⟩) * wout f y) g' l

/-- Element `l` of a normed row times a weight. -/
def project {n : ℕ} (x g : Fin 2048 → EReal) (w : Fin 2048 → Fin n → EReal) (l : Fin n) : EReal :=
  ∑ k, normed x g k * w k l

/-- Element `l` of a row's residual and the normed output projection of a mixer's row. -/
def mixed {n : ℕ} (x g : Fin 2048 → EReal) (o : Fin n → EReal) (w : Fin n → Fin 2048 → EReal) (l : Fin 2048) : EReal :=
  x l + normed (fun y => ∑ k, o k * w k y) g l

/-- Row `r` of the prompt's rows over the sample's. -/
def row {α : Type} {w : ℕ} (a : (⟨3, ![2, 4096, w]⟩ : Shape).Idx → α) (b : (⟨3, ![128, 8, w]⟩ : Shape).Idx → α) (r : Fin 9216) (l : Fin w) : α :=
  if hr : r.val < 8192 then a (ix3 ⟨r.val / 4096, by omega⟩ ⟨r.val % 4096, by omega⟩ l)
  else b (ix3 ⟨(r.val - 8192) / 8, by omega⟩ ⟨(r.val - 8192) % 8, by omega⟩ l)

/-- The two flattened blocks of rows, one over the other, at a row. -/
theorem stacked {α : Type} {w : ℕ} (a : (⟨3, ![2, 4096, w]⟩ : Shape).Idx → α) (b : (⟨3, ![128, 8, w]⟩ : Shape).Idx → α)
    (ha : (⟨3, ![2, 4096, w]⟩ : Shape).ShapeCasts ⟨2, ![8192, w]⟩) (hb : (⟨3, ![128, 8, w]⟩ : Shape).ShapeCasts ⟨2, ![1024, w]⟩)
    (h : Shape.Concatenates [⟨2, ![8192, w]⟩, ⟨2, ![1024, w]⟩] (⟨2, ![9216, w]⟩ : Shape) 0) (r : Fin 9216) (l : Fin w) :
    concatenate (⟨2, ![9216, w]⟩ : Shape) 0 [⟨⟨2, ![8192, w]⟩, shapeCast _ a ha⟩, ⟨⟨2, ![1024, w]⟩, shapeCast _ b hb⟩] h (ix2 r l)
      = row a b r l := by
  unfold row
  split
  · rename_i hr
    refine (concatenate_pair_apply_left 0 _ _ h (ix2 r l) rfl (ix2 ⟨r.val, hr⟩ l) fun x => ?_).trans ?_
    · fin_cases x <;> rfl
    · refine shapeCast_apply a ha _ _ ?_
      rw [Shape.rowMajor_val_three, Shape.rowMajor_val_two]
      show (r.val / 4096 * 4096 + r.val % 4096) * w + l.val = r.val * w + l.val
      rw [Nat.div_add_mod' r.val 4096]
  · rename_i hr
    refine (concatenate_pair_apply_right 0 _ _ h (ix2 r l) rfl rfl (ix2 ⟨r.val - 8192, by omega⟩ l) (fun x hx => ?_) ?_).trans ?_
    · fin_cases x
      · exact absurd rfl hx
      · rfl
    · show r.val - 8192 + 8192 = r.val
      omega
    · refine shapeCast_apply b hb _ _ ?_
      rw [Shape.rowMajor_val_three, Shape.rowMajor_val_two]
      show ((r.val - 8192) / 8 * 8 + (r.val - 8192) % 8) * w + l.val = (r.val - 8192) * w + l.val
      rw [Nat.div_add_mod' (r.val - 8192) 8]

/-- A row function taken on each block of rows is the function of the row. -/
theorem row_map {α β : Type} {w v : ℕ} (a : (⟨3, ![2, 4096, w]⟩ : Shape).Idx → α) (b : (⟨3, ![128, 8, w]⟩ : Shape).Idx → α)
    (a' : (⟨3, ![2, 4096, v]⟩ : Shape).Idx → β) (b' : (⟨3, ![128, 8, v]⟩ : Shape).Idx → β) (f : (Fin w → α) → Fin v → β)
    (ha : ∀ p q l, a' (ix3 p q l) = f (fun k => a (ix3 p q k)) l) (hb : ∀ p q l, b' (ix3 p q l) = f (fun k => b (ix3 p q k)) l)
    (r : Fin 9216) (l : Fin v) : row a' b' r l = f (row a b r) l := by
  by_cases hr : r.val < 8192
  · have e : row a b r = fun k => a (ix3 ⟨r.val / 4096, by omega⟩ ⟨r.val % 4096, by omega⟩ k) := funext fun k => dif_pos hr
    rw [e, row, dif_pos hr, ha]
  · have e : row a b r = fun k => b (ix3 ⟨(r.val - 8192) / 8, by omega⟩ ⟨(r.val - 8192) % 8, by omega⟩ k) := funext fun k => dif_neg hr
    rw [e, row, dif_neg hr, hb]

end Cert.Rows

end
-- ==== Proof.Ffn.Ref.lean ====
module

public import proofs.«01_k».proof.Proof.Rows.Norm
public import proofs.«01_k».proof.Proof.Gen.Reference2Ideal.Run

/-! The reference's feed-forward, row by row. -/

@[expose] public section

set_option maxRecDepth 16384

noncomputable section

namespace Cert.Reference2Ideal.Rows

open Cert.Reference2Ideal Cert.Reference2Ideal.Gen Cert.Rows
open Idealize.ShloMosaic Idealize.ShloMosaic.TcCoe

/-- The norm of the prompt rows. -/
def normPrompt (x : FVec Ideal S2x4096x2048 .f32) (g : FVec Ideal S2048 .f32) : FVec Ideal S2x4096x2048 .f32 :=
  mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))

theorem normPrompt_at (x : FVec Ideal S2x4096x2048 .f32) (g : FVec Ideal S2048 .f32) (p : Fin 2) (q : Fin 4096) (l : Fin 2048) :
    normPrompt x g (ix3 p q l) = normed (fun k => x (ix3 p q k)) (fun k => g (ix1 k)) l := by
  unfold normed
  pointwise [normPrompt]

/-- The prompt rows times the gate and up weights. -/
def upPrompt (x : FVec Ideal S2x4096x2048 .f32) (g : FVec Ideal S2048 .f32) (w : FVec Ideal S2048x11264 .f32) : FVec Ideal S2x4096x11264 .f32 :=
  Host.dotGeneral dot_S2x4096x2048_S2048x11264_S2x4096x11264_2_0_01_1_n_n none (normPrompt x g) w

theorem upPrompt_at (x : FVec Ideal S2x4096x2048 .f32) (g : FVec Ideal S2048 .f32) (w : FVec Ideal S2048x11264 .f32) (p : Fin 2) (q : Fin 4096) (f : Fin 11264) :
    upPrompt x g w (ix3 p q f) = ∑ k : Fin 2048, normed (fun k => x (ix3 p q k)) (fun k => g (ix1 k)) k * w (ix2 k f) := by
  simp only [← normPrompt_at]
  pointwise [upPrompt]

/-- The prompt rows' gated products. -/
def gatedPrompt (u : FVec Ideal S2x4096x11264 .f32) : FVec Ideal S2x4096x5632 .f32 :=
  mulf (mulf (extractStridedSlice S2x4096x5632 ![0, 0, 0] u slices_S2x4096x11264_S2x4096x5632_0_0_0) (Host.divf (broadcastInDim S2x4096x5632 ![] bcast_S_S2x4096x5632 (constant S_ .f32 0x3F800000#32)) (addf (broadcastInDim S2x4096x5632 ![] bcast_S_S2x4096x5632 (constant S_ .f32 0x3F800000#32)) (Host.exp (Host.negf (extractStridedSlice S2x4096x5632 ![0, 0, 0] u slices_S2x4096x11264_S2x4096x5632_0_0_0)))))) (extractStridedSlice S2x4096x5632 ![0, 0, 5632] u slices_S2x4096x11264_S2x4096x5632_0_0_5632)

theorem gatedPrompt_at (u : FVec Ideal S2x4096x11264 .f32) (p : Fin 2) (q : Fin 4096) (f : Fin 5632) :
    gatedPrompt u (ix3 p q f) = u (ix3 p q ⟨f.val, by omega⟩) * Ideal.logistic (u (ix3 p q ⟨f.val, by omega⟩)) * u (ix3 p q ⟨5632 + f.val, by omega⟩) := by
  unfold Ideal.logistic
  pointwise [gatedPrompt]

/-- The prompt rows' down projection. -/
def downPrompt (y : FVec Ideal S2x4096x5632 .f32) (w : FVec Ideal S5632x2048 .f32) : FVec Ideal S2x4096x2048 .f32 :=
  Host.dotGeneral dot_S2x4096x5632_S5632x2048_S2x4096x2048_2_0_01_1_n_n none y w

theorem downPrompt_at (y : FVec Ideal S2x4096x5632 .f32) (w : FVec Ideal S5632x2048 .f32) (p : Fin 2) (q : Fin 4096) (l : Fin 2048) :
    downPrompt y w (ix3 p q l) = ∑ f : Fin 5632, y (ix3 p q f) * w (ix2 f l) := by
  pointwise [downPrompt]

/-- The prompt rows' feed-forward. -/
def ffnPrompt (x : FVec Ideal S2x4096x2048 .f32) (g g' : FVec Ideal S2048 .f32) (wi : FVec Ideal S2048x11264 .f32) (wo : FVec Ideal S5632x2048 .f32) :
    FVec Ideal S2x4096x2048 .f32 :=
  addf x (mulf (broadcastInDim S2x4096x2048 ![] bcast_S_S2x4096x2048 (constant S_ .f32 0x3F000000#32)) (normPrompt (downPrompt (gatedPrompt (upPrompt x g wi)) wo) g'))

theorem ffnPrompt_at (x : FVec Ideal S2x4096x2048 .f32) (g g' : FVec Ideal S2048 .f32) (wi : FVec Ideal S2048x11264 .f32) (wo : FVec Ideal S5632x2048 .f32)
    (p : Fin 2) (q : Fin 4096) (l : Fin 2048) :
    ffnPrompt x g g' wi wo (ix3 p q l)
      = ffn (fun k => x (ix3 p q k)) (fun k => g (ix1 k)) (fun k => g' (ix1 k)) (fun k f => wi (ix2 k f)) (fun f k => wo (ix2 f k)) l := by
  have e : ffnPrompt x g g' wi wo (ix3 p q l)
      = x (ix3 p q l) + Ideal.ofBits FTy.f32 1056964608#32 * normPrompt (downPrompt (gatedPrompt (upPrompt x g wi)) wo) g' (ix3 p q l) := by
    pointwise [ffnPrompt]
  rw [e, normPrompt_at]
  simp only [downPrompt_at, gatedPrompt_at, upPrompt_at]
  rfl

/-- The norm of the sample rows. -/
def normSample (x : FVec Ideal S128x8x2048 .f32) (g : FVec Ideal S2048 .f32) : FVec Ideal S128x8x2048 .f32 :=
  mulf (mulf x (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf x x) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 g))

theorem normSample_at (x : FVec Ideal S128x8x2048 .f32) (g : FVec Ideal S2048 .f32) (p : Fin 128) (q : Fin 8) (l : Fin 2048) :
    normSample x g (ix3 p q l) = normed (fun k => x (ix3 p q k)) (fun k => g (ix1 k)) l := by
  unfold normed
  pointwise [normSample]

/-- The sample rows times the gate and up weights. -/
def upSample (x : FVec Ideal S128x8x2048 .f32) (g : FVec Ideal S2048 .f32) (w : FVec Ideal S2048x11264 .f32) : FVec Ideal S128x8x11264 .f32 :=
  Host.dotGeneral dot_S128x8x2048_S2048x11264_S128x8x11264_2_0_01_1_n_n none (normSample x g) w

theorem upSample_at (x : FVec Ideal S128x8x2048 .f32) (g : FVec Ideal S2048 .f32) (w : FVec Ideal S2048x11264 .f32) (p : Fin 128) (q : Fin 8) (f : Fin 11264) :
    upSample x g w (ix3 p q f) = ∑ k : Fin 2048, normed (fun k => x (ix3 p q k)) (fun k => g (ix1 k)) k * w (ix2 k f) := by
  simp only [← normSample_at]
  pointwise [upSample]

/-- The sample rows' gated products. -/
def gatedSample (u : FVec Ideal S128x8x11264 .f32) : FVec Ideal S128x8x5632 .f32 :=
  mulf (mulf (extractStridedSlice S128x8x5632 ![0, 0, 0] u slices_S128x8x11264_S128x8x5632_0_0_0) (Host.divf (broadcastInDim S128x8x5632 ![] bcast_S_S128x8x5632 (constant S_ .f32 0x3F800000#32)) (addf (broadcastInDim S128x8x5632 ![] bcast_S_S128x8x5632 (constant S_ .f32 0x3F800000#32)) (Host.exp (Host.negf (extractStridedSlice S128x8x5632 ![0, 0, 0] u slices_S128x8x11264_S128x8x5632_0_0_0)))))) (extractStridedSlice S128x8x5632 ![0, 0, 5632] u slices_S128x8x11264_S128x8x5632_0_0_5632)

theorem gatedSample_at (u : FVec Ideal S128x8x11264 .f32) (p : Fin 128) (q : Fin 8) (f : Fin 5632) :
    gatedSample u (ix3 p q f) = u (ix3 p q ⟨f.val, by omega⟩) * Ideal.logistic (u (ix3 p q ⟨f.val, by omega⟩)) * u (ix3 p q ⟨5632 + f.val, by omega⟩) := by
  unfold Ideal.logistic
  pointwise [gatedSample]

/-- The sample rows' down projection. -/
def downSample (y : FVec Ideal S128x8x5632 .f32) (w : FVec Ideal S5632x2048 .f32) : FVec Ideal S128x8x2048 .f32 :=
  Host.dotGeneral dot_S128x8x5632_S5632x2048_S128x8x2048_2_0_01_1_n_n none y w

theorem downSample_at (y : FVec Ideal S128x8x5632 .f32) (w : FVec Ideal S5632x2048 .f32) (p : Fin 128) (q : Fin 8) (l : Fin 2048) :
    downSample y w (ix3 p q l) = ∑ f : Fin 5632, y (ix3 p q f) * w (ix2 f l) := by
  pointwise [downSample]

/-- The sample rows' feed-forward. -/
def ffnSample (x : FVec Ideal S128x8x2048 .f32) (g g' : FVec Ideal S2048 .f32) (wi : FVec Ideal S2048x11264 .f32) (wo : FVec Ideal S5632x2048 .f32) :
    FVec Ideal S128x8x2048 .f32 :=
  addf x (mulf (broadcastInDim S128x8x2048 ![] bcast_S_S128x8x2048 (constant S_ .f32 0x3F000000#32)) (normSample (downSample (gatedSample (upSample x g wi)) wo) g'))

theorem ffnSample_at (x : FVec Ideal S128x8x2048 .f32) (g g' : FVec Ideal S2048 .f32) (wi : FVec Ideal S2048x11264 .f32) (wo : FVec Ideal S5632x2048 .f32)
    (p : Fin 128) (q : Fin 8) (l : Fin 2048) :
    ffnSample x g g' wi wo (ix3 p q l)
      = ffn (fun k => x (ix3 p q k)) (fun k => g (ix1 k)) (fun k => g' (ix1 k)) (fun k f => wi (ix2 k f)) (fun f k => wo (ix2 f k)) l := by
  have e : ffnSample x g g' wi wo (ix3 p q l)
      = x (ix3 p q l) + Ideal.ofBits FTy.f32 1056964608#32 * normSample (downSample (gatedSample (upSample x g wi)) wo) g' (ix3 p q l) := by
    pointwise [ffnSample]
  rw [e, normSample_at]
  simp only [downSample_at, gatedSample_at, upSample_at]
  rfl

variable (m : (ℓ : Loc nD τ sig) → Buf (Elt Ideal) ℓ) (c : Dev nD)

/-- The reference's result at a row: the row's feed-forward. -/
theorem result (r : Fin 9216) (l : Fin 2048) :
    (Value.res_main_v72 m c : Vec Ideal S9216x2048 .f32) (ix2 r l)
      = ffn (row (m ((c : Thread nD τ).loc main_arg0) : Vec Ideal S2x4096x2048 .f32) (m ((c : Thread nD τ).loc main_arg1) : Vec Ideal S128x8x2048 .f32) r)
        (fun k => (m ((c : Thread nD τ).loc main_arg2) : Vec Ideal S2048 .f32) (ix1 k))
        (fun k => (m ((c : Thread nD τ).loc main_arg3) : Vec Ideal S2048 .f32) (ix1 k))
        (fun k f => (m ((c : Thread nD τ).loc main_arg4) : Vec Ideal S2048x11264 .f32) (ix2 k f))
        (fun f k => (m ((c : Thread nD τ).loc main_arg5) : Vec Ideal S5632x2048 .f32) (ix2 f k)) l := by
  refine (stacked (w := 2048)
    (ffnPrompt (m ((c : Thread nD τ).loc main_arg0)) (m ((c : Thread nD τ).loc main_arg2)) (m ((c : Thread nD τ).loc main_arg3))
      (m ((c : Thread nD τ).loc main_arg4)) (m ((c : Thread nD τ).loc main_arg5)))
    (ffnSample (m ((c : Thread nD τ).loc main_arg1)) (m ((c : Thread nD τ).loc main_arg2)) (m ((c : Thread nD τ).loc main_arg3))
      (m ((c : Thread nD τ).loc main_arg4)) (m ((c : Thread nD τ).loc main_arg5))) _ _ _ r l).trans ?_
  exact row_map _ _ _ _ (fun x => ffn x _ _ _ _) (ffnPrompt_at _ _ _ _ _) (ffnSample_at _ _ _ _ _) r l

end Cert.Reference2Ideal.Rows

end
-- ==== Proof.Ffn.Pay.lean ====
module

public import proofs.«01_k».proof.Proof.Rows.Norm
public import Idealize.ShloMosaic.Lib.Pipeline.ReadBack
public import proofs.«01_k».proof.Proof.Gen.Kernel2Ideal.Value

/-! What the feed-forward's kernel stores at one point, and the blocks and arrays it reads. -/

@[expose] public section

set_option maxRecDepth 16384

noncomputable section

namespace Cert.Kernel2Ideal.Rows

open Cert.Kernel2Ideal Cert.Kernel2Ideal.Gen Cert.Rows
open Idealize.ShloMosaic Idealize.ShloMosaic.TcCoe

/-! ## The stored values -/

theorem store_norm (v25 : Vec Ideal S512x2048 .f32) (v37 : Vec Ideal S1x2048 .f32) (r : Fin 512) (l : Fin 2048) :
    (k0_pay1 (F := Ideal) v25 v37 : Vec Ideal S512x2048 .bf16) (ix2 r l) = normed (fun k => v25 (ix2 r k)) (fun k => v37 (ix2 0 k)) l := by
  unfold normed
  pointwise [k0_pay1]

theorem store_zero (r : Fin 512) (l : Fin 2048) : (k0_pay2 (F := Ideal) : Vec Ideal S512x2048 .f32) (ix2 r l) = (0 : EReal) := by
  pointwise [k0_pay2]

theorem store_add (v3 : Vec Ideal S512x2048 .bf16) (v4 v7 : Vec Ideal S2048x512 .bf16) (v14 : Vec Ideal S512x2048 .f32) (v15 : Vec Ideal S512x2048 .bf16)
    (r : Fin 512) (l : Fin 2048) :
    (k0_pay3 (F := Ideal) v3 v4 v7 v14 v15 : Vec Ideal S512x2048 .f32) (ix2 r l)
      = (v14 (ix2 r l) + ∑ x : Fin 512, ((∑ k : Fin 2048, v3 (ix2 r k) * v4 (ix2 k x)) * Ideal.logistic (∑ k : Fin 2048, v3 (ix2 r k) * v4 (ix2 k x))
          * ∑ k : Fin 2048, v3 (ix2 r k) * v7 (ix2 k x)) * v15 (ix2 x l) : EReal) := by
  pointwise [k0_pay3]

theorem store_out (v25 v31 : Vec Ideal S512x2048 .f32) (v38 : Vec Ideal S1x2048 .f32) (r : Fin 512) (l : Fin 2048) :
    (k0_pay4 (F := Ideal) v25 v31 v38 : Vec Ideal S512x2048 .f32) (ix2 r l)
      = (v31 (ix2 r l) + Ideal.ofBits FTy.f32 1056964608#32 * normed (fun k => v25 (ix2 r k)) (fun k => v38 (ix2 0 k)) l : EReal) := by
  unfold normed
  pointwise [k0_pay4]

/-! ## The arrays -/

variable (m : (ℓ : Loc nD τ sig) → Buf (Elt Ideal) ℓ) (c : Dev nD)

/-- Row `r` of the residual stream, prompt over sample. -/
def xrow (r : Fin 9216) : Fin 2048 → EReal :=
  row (m ((c : Thread nD τ).loc main_arg0) : Vec Ideal S2x4096x2048 .f32) (m ((c : Thread nD τ).loc main_arg1) : Vec Ideal S128x8x2048 .f32) r
def gpre (k : Fin 2048) : EReal := (m ((c : Thread nD τ).loc main_arg2) : Vec Ideal S2048 .f32) (ix1 k)
def gpost (k : Fin 2048) : EReal := (m ((c : Thread nD τ).loc main_arg3) : Vec Ideal S2048 .f32) (ix1 k)
def wi (k : Fin 2048) (f : Fin 11264) : EReal := (m ((c : Thread nD τ).loc main_arg4) : Vec Ideal S2048x11264 .f32) (ix2 k f)
def wo (f : Fin 5632) (l : Fin 2048) : EReal := (m ((c : Thread nD τ).loc main_arg5) : Vec Ideal S5632x2048 .f32) (ix2 f l)

theorem host_rows (r : Fin 9216) (l : Fin 2048) : (V m c main_v2 : Vec Ideal S9216x2048 .f32) (ix2 r l) = xrow m c r l := by
  entry_read
  exact stacked _ _ _ _ _ r l
theorem host_in (k : Fin 2048) (f : Fin 11264) : (V m c main_v3 : Vec Ideal S2048x11264 .bf16) (ix2 k f) = wi m c k f := by
  unfold wi
  entry_read
  pointwise
theorem host_out (f : Fin 5632) (l : Fin 2048) : (V m c main_v4 : Vec Ideal S5632x2048 .bf16) (ix2 f l) = wo m c f l := by
  unfold wo
  entry_read
  pointwise
theorem host_pre (l : Fin 2048) : (V m c main_v5 : Vec Ideal S1x2048 .f32) (ix2 0 l) = gpre m c l := by
  unfold gpre
  entry_read
  pointwise
theorem host_post (l : Fin 2048) : (V m c main_v6 : Vec Ideal S1x2048 .f32) (ix2 0 l) = gpost m c l := by
  unfold gpost
  entry_read
  pointwise

/-! ## The blocks -/

theorem index0 : ∀ t : Fin cfg0.N, (cfg0.win 0).index t = ![t.val / 11, 0] := by decide +kernel
theorem index1 : ∀ t : Fin cfg0.N, (cfg0.win 1).index t = ![0, 0] := by decide +kernel
theorem index2 : ∀ t : Fin cfg0.N, (cfg0.win 2).index t = ![0, 0] := by decide +kernel
theorem index3 : ∀ t : Fin cfg0.N, (cfg0.win 3).index t = ![0, t.val % 11] := by decide +kernel
theorem index4 : ∀ t : Fin cfg0.N, (cfg0.win 4).index t = ![0, t.val % 11 + 11] := by decide +kernel
theorem index5 : ∀ t : Fin cfg0.N, (cfg0.win 5).index t = ![t.val % 11, 0] := by decide +kernel

theorem point_lt (t : Fin cfg0.N) : t.val < 198 := t.isLt

/-- The row that row `r` of point `t`'s block is. -/
def rowOf (t : Fin cfg0.N) (r : Fin 512) : Fin 9216 := ⟨t.val / 11 * 512 + r.val, by have := point_lt t; omega⟩

theorem block_rows (t : Fin cfg0.N) (r : Fin 512) (l : Fin 2048) :
    (iblk m c 0 t : Vec Ideal S512x2048 .f32) (ix2 r l) = xrow m c (rowOf t r) l := by
  refine Eq.trans ?_ (host_rows m c (rowOf t r) l)
  unfold rowOf
  blk_ext [iblk, index0 t]
theorem block_pre (t : Fin cfg0.N) (l : Fin 2048) : (iblk m c 1 t : Vec Ideal S1x2048 .f32) (ix2 0 l) = gpre m c l := by
  refine Eq.trans ?_ (host_pre m c l)
  blk_ext [iblk, index1 t]
theorem block_post (t : Fin cfg0.N) (l : Fin 2048) : (iblk m c 2 t : Vec Ideal S1x2048 .f32) (ix2 0 l) = gpost m c l := by
  refine Eq.trans ?_ (host_post m c l)
  blk_ext [iblk, index2 t]
theorem block_gate (t : Fin cfg0.N) (k : Fin 2048) (x : Fin 512) :
    (iblk m c 3 t : Vec Ideal S2048x512 .bf16) (ix2 k x) = wi m c k ⟨t.val % 11 * 512 + x.val, by omega⟩ := by
  refine Eq.trans ?_ (host_in m c k _)
  blk_ext [iblk, index3 t]
theorem block_up (t : Fin cfg0.N) (k : Fin 2048) (x : Fin 512) :
    (iblk m c 4 t : Vec Ideal S2048x512 .bf16) (ix2 k x) = wi m c k ⟨(t.val % 11 + 11) * 512 + x.val, by omega⟩ := by
  refine Eq.trans ?_ (host_in m c k _)
  blk_ext [iblk, index4 t]
theorem block_down (t : Fin cfg0.N) (x : Fin 512) (l : Fin 2048) :
    (iblk m c 5 t : Vec Ideal S512x2048 .bf16) (ix2 x l) = wo m c ⟨t.val % 11 * 512 + x.val, by omega⟩ l := by
  refine Eq.trans ?_ (host_out m c _ l)
  blk_ext [iblk, index5 t]

end Cert.Kernel2Ideal.Rows

end
-- ==== Proof.Ffn.Acc.lean ====
module

public import proofs.«01_k».proof.Proof.Ffn.Pay

/-! The feed-forward's kernel over its points: the normed row it keeps, the sum it gathers, and the row it writes. -/

@[expose] public section

set_option maxRecDepth 16384

noncomputable section

namespace Cert.Kernel2Ideal.Rows

open Cert.Kernel2Ideal Cert.Kernel2Ideal.Gen Cert.Rows
open Idealize.ShloMosaic Idealize.ShloMosaic.TcCoe

variable (m : (ℓ : Loc nD τ sig) → Buf (Elt Ideal) ℓ) (c : Dev nD)

/-- What hidden element `f` of row `r` adds to the down projection's element `l`. -/
def piece (r : Fin 9216) (f : Fin 5632) (l : Fin 2048) : EReal :=
  gated (xrow m c r) (gpre m c) (fun k => wi m c k ⟨f.val, by omega⟩) (fun k => wi m c k ⟨5632 + f.val, by omega⟩) * wo m c f l

/-- What the block `s` of hidden elements adds for row `r` of the block `i` of rows. -/
def pieces (r : Fin 512) (l : Fin 2048) (i s : ℕ) : EReal :=
  if h : i < 18 ∧ s < 11 then ∑ x : Fin 512, piece m c ⟨i * 512 + r.val, by omega⟩ ⟨s * 512 + x.val, by omega⟩ l else 0

theorem pieces_at (t : Fin cfg0.N) (r : Fin 512) (l : Fin 2048) :
    pieces m c r l (t.val / 11) (t.val % 11) = ∑ x : Fin 512, piece m c (rowOf t r) ⟨t.val % 11 * 512 + x.val, by omega⟩ l :=
  dif_pos ⟨by have := point_lt t; omega, by omega⟩

/-! ## One point -/

/-- The first point of a run keeps the normed row. -/
theorem kept_first (t : Fin cfg0.N) (h0 : t.val % 11 = 0) :
    (outsAt0 m c t.val t.isLt).2.1 = k0_pay1 (iblk m c 0 t) (iblk m c 1 t) := by
  rw [outsAt0_A m c t h0 (by omega)]
  dsimp only
  frame_out

/-- Every other point leaves it. -/
theorem kept_next (t : Fin cfg0.N) (h0 : ¬t.val % 11 = 0) :
    (outsAt0 m c t.val t.isLt).2.1 = (outsAt0 m c (t.val - 1) (Nat.lt_of_le_of_lt (Nat.sub_le _ _) t.isLt)).2.1 := by
  by_cases h1 : t.val % 11 = 10
  · rw [outsAt0_C m c t h0 h1]
    rfl
  · rw [outsAt0_B m c t h0 h1]
    rfl

theorem sum_first (t : Fin cfg0.N) (h0 : t.val % 11 = 0) :
    (outsAt0 m c t.val t.isLt).2.2 = k0_pay3 (k0_pay1 (iblk m c 0 t) (iblk m c 1 t)) (iblk m c 3 t) (iblk m c 4 t) (k0_pay2 (F := Ideal)) (iblk m c 5 t) := by
  rw [outsAt0_A m c t h0 (by omega)]
  dsimp only
  frame_out

theorem sum_next (t : Fin cfg0.N) (h0 : ¬t.val % 11 = 0) :
    (outsAt0 m c t.val t.isLt).2.2 = k0_pay3 (outsAt0 m c (t.val - 1) (Nat.lt_of_le_of_lt (Nat.sub_le _ _) t.isLt)).2.1 (iblk m c 3 t) (iblk m c 4 t)
      (outsAt0 m c (t.val - 1) (Nat.lt_of_le_of_lt (Nat.sub_le _ _) t.isLt)).2.2 (iblk m c 5 t) := by
  by_cases h1 : t.val % 11 = 10
  · rw [outsAt0_C m c t h0 h1]
    dsimp only
    frame_out
    simp only [read_unread_whole]
  · rw [outsAt0_B m c t h0 h1]
    dsimp only
    frame_out
    simp only [read_unread_whole]

theorem out_last (t : Fin cfg0.N) (h1 : t.val % 11 = 10) :
    (outsAt0 m c t.val t.isLt).1 = k0_pay4 (outsAt0 m c t.val t.isLt).2.2 (iblk m c 0 t) (iblk m c 2 t) := by
  rw [sum_next m c t (by omega), outsAt0_C m c t (by omega) h1]
  dsimp only
  frame_out
  simp only [read_unread_whole]

/-! ## All points -/

theorem kept : ∀ (n : ℕ) (hn : n < cfg0.N) (r : Fin 512) (k : Fin 2048),
    ((outsAt0 m c n hn).2.1 : Vec Ideal S512x2048 .bf16) (ix2 r k) = normed (xrow m c (rowOf ⟨n, hn⟩ r)) (gpre m c) k := by
  intro n
  induction n with
  | zero =>
    intro hn r k
    rw [kept_first m c ⟨0, hn⟩ rfl, store_norm]
    simp only [block_rows, block_pre]
  | succ n ih =>
    intro hn r k
    by_cases h0 : (n + 1) % 11 = 0
    · rw [kept_first m c ⟨n + 1, hn⟩ h0, store_norm]
      simp only [block_rows, block_pre]
    · rw [kept_next m c ⟨n + 1, hn⟩ h0]
      refine (ih _ r k).trans ?_
      have e : rowOf ⟨n, by omega⟩ r = rowOf ⟨n + 1, hn⟩ r := Fin.ext (by simp only [rowOf]; omega)
      rw [e]

/-- The normed row times this point's columns, gated, times this point's rows: the point's pieces. -/
theorem add_point (t : Fin cfg0.N) (h : Vec Ideal S512x2048 .bf16) (acc : Vec Ideal S512x2048 .f32) (r : Fin 512) (l : Fin 2048)
    (hh : ∀ k, h (ix2 r k) = normed (xrow m c (rowOf t r)) (gpre m c) k) :
    (k0_pay3 (F := Ideal) h (iblk m c 3 t) (iblk m c 4 t) acc (iblk m c 5 t) : Vec Ideal S512x2048 .f32) (ix2 r l)
      = (acc (ix2 r l) + pieces m c r l (t.val / 11) (t.val % 11) : EReal) := by
  rw [store_add, pieces_at]
  simp only [hh, block_gate, block_up, block_down]
  refine congrArg (acc (ix2 r l) + ·) (Finset.sum_congr rfl fun x _ => ?_)
  have e : (⟨(t.val % 11 + 11) * 512 + x.val, by omega⟩ : Fin 11264) = ⟨5632 + (t.val % 11 * 512 + x.val), by omega⟩ := Fin.ext (by simp only; omega)
  rw [e]
  rfl

theorem gathered (t : Fin cfg0.N) (r : Fin 512) (l : Fin 2048) :
    ((outsAt0 m c t.val t.isLt).2.2 : Vec Ideal S512x2048 .f32) (ix2 r l)
      = (0 + ∑ s ∈ Finset.range (t.val % 11 + 1), pieces m c r l (t.val / 11) s : EReal) := by
  refine Pipeline.eq_sum_of_reset_step_divmod (M := EReal) (fun n h => ((outsAt0 m c n h).2.2 : Vec Ideal S512x2048 .f32) (ix2 r l)) 11 0
    (pieces m c r l) (fun t h0 => ?_) (fun t h0 => ?_) t
  · rw [sum_first m c t h0]
    refine (add_point m c t _ _ r l fun k => ?_).trans ?_
    · rw [← kept_first m c t h0]
      exact kept m c t.val t.isLt r k
    · rw [store_zero]
  · rw [sum_next m c t h0]
    refine add_point m c t _ _ r l fun k => ?_
    rw [← kept_next m c t h0]
    exact kept m c t.val t.isLt r k

/-- After a run's last point: the whole down projection. -/
theorem gathered_last (t : Fin cfg0.N) (h1 : t.val % 11 = 10) (r : Fin 512) (l : Fin 2048) :
    ((outsAt0 m c t.val t.isLt).2.2 : Vec Ideal S512x2048 .f32) (ix2 r l) = (∑ f : Fin 5632, piece m c (rowOf t r) f l : EReal) := by
  rw [gathered, h1, zero_add, Finset.sum_range]
  refine (Finset.sum_congr rfl fun s _ => ?_).trans (Fin.sum_mul_add_fin 11 512 (fun f : Fin 5632 => piece m c (rowOf t r) f l))
  exact dif_pos ⟨by have := point_lt t; omega, by omega⟩

/-- The row a run's last point writes: the row's feed-forward. -/
theorem written (t : Fin cfg0.N) (h1 : t.val % 11 = 10) (r : Fin 512) (l : Fin 2048) :
    ((outsAt0 m c t.val t.isLt).1 : Vec Ideal S512x2048 .f32) (ix2 r l)
      = ffn (xrow m c (rowOf t r)) (gpre m c) (gpost m c) (wi m c) (wo m c) l := by
  rw [out_last m c t h1, store_out]
  simp only [gathered_last m c t h1, block_rows, block_post]
  rfl

/-! ## The array -/

/-- The kernel's result at a row: the row's feed-forward. -/
theorem result (r : Fin 9216) (l : Fin 2048) :
    (Value.G6 m c : Vec Ideal S9216x2048 .f32) (ix2 r l) = ffn (xrow m c r) (gpre m c) (gpost m c) (wi m c) (wo m c) l := by
  have hp : Value.pt6Of (ix2 r l) = 11 * (r.val / 512) + 10 := by
    show 11 * (1 * (r.val / 512 - 0) + 1 * (l.val / 2048 - 0)) + 10 = _
    omega
  have hN : Value.pt6Of (ix2 r l) < cfg0.N := by
    rw [hp]
    show _ < 198
    omega
  have hl : Value.loc6Of (ix2 r l) = ix2 ⟨r.val % 512, by omega⟩ l := by
    funext a
    fin_cases a
    · rfl
    · exact Fin.ext (Nat.mod_eq_of_lt l.isLt)
  have hr : rowOf ⟨Value.pt6Of (ix2 r l), hN⟩ ⟨r.val % 512, by omega⟩ = r := Fin.ext (by simp only [rowOf, hp]; omega)
  refine (dif_pos hN).trans ?_
  rw [hl, ← Value.outsAt0_sweep m c _ hN]
  refine (written m c ⟨_, hN⟩ (by simp only [hp]; omega) _ l).trans ?_
  rw [hr]

end Cert.Kernel2Ideal.Rows

end
-- ==== Proof.Ffn.Tie.lean ====
module

public import proofs.«01_k».proof.Defs
public import proofs.«01_k».proof.Proof.Gen.Kernel2
public import proofs.«01_k».proof.Proof.Gen.Kernel2Ideal.Value
public import proofs.«01_k».proof.Proof.Ffn.Ref
public import proofs.«01_k».proof.Proof.Ffn.Acc
public import Idealize.ShloMosaic.Adequacy
public import Idealize.ShloMosaic.Init

/-! The feed-forward: its frames, and that kernel and reference agree. -/

@[expose] public section

set_option maxRecDepth 16384

noncomputable section

namespace Cert.Call2

open Idealize.ShloMosaic Idealize.SL.Sem Cert.Rows

/-- The printed kernel's body is the idealized kernel's: no operation was replaced. -/
theorem defs₀_eq : Cert.Kernel2.defs₀ (F := Bits) = Cert.Kernel2Ideal.defs₀ (F := Bits) :=
  congrArg Defs.onTc (funext fun l => match l with
    | 0 => rfl
    | ⟨_ + 1, h⟩ => absurd h (Nat.not_lt.2 (Nat.le_add_left _ _)))

theorem defs_eq : Cert.Kernel2.defs (F := Bits) = Cert.Kernel2Ideal.defs (F := Bits) :=
  congrArg (Pipeline.defs Cert.Kernel2Ideal.pcfgs) defs₀_eq

/-- The printed kernel's frame, from the one run. -/
theorem frame : Cert.quiescent_Kernel2 (hKernel2 := Cert.Kernel2.Gen.facts) := fun m ρ _ => by
  rw [defs_eq]
  exact Cert.Kernel2Ideal.Gen.frame (F := Bits) m ρ

theorem frame_ideal : Cert.quiescent_Kernel2Ideal (hKernel2Ideal := Cert.Kernel2Ideal.Gen.facts) :=
  fun m ρ _ => Cert.Kernel2Ideal.Gen.frame m ρ

theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

/-- From equal arguments the reference's result is the kernel's. -/
theorem same (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    (Cert.Reference2Ideal.Value.res_main_v72 m' c : Vec Ideal (⟨2, ![9216, 2048]⟩ : Shape) .f32) = Cert.Kernel2Ideal.Value.G6 m c := by
  funext i
  have e : i = ix2 (i 0) (i 1) := funext fun a => by fin_cases a <;> rfl
  rw [e]
  refine (Cert.Reference2Ideal.Rows.result m' c (i 0) (i 1)).trans (Eq.trans ?_ (Cert.Kernel2Ideal.Rows.result m c (i 0) (i 1)).symm)
  rw [h0, h1, h2, h3, h4, h5]
  rfl

/-- The kernel and the reference compute the same array. -/
theorem value : Cert.algebraic_Kernel2Ideal_Reference2Ideal (hKernel2Ideal := Cert.Kernel2Ideal.Gen.facts)
    (hReference2Ideal := Cert.Reference2Ideal.Gen.facts) := fun m g m' g' _ hag =>
  ⟨fun c => Cert.Kernel2Ideal.Value.G6 m c,
    Cert.Kernel2Ideal.Value.run m g,
    (θ_run Cert.Reference2Ideal.defs _ _).mono (fun r h c => ⟨(h c).1.trans (same m m' c (hag c).1 (hag c).2.1 (hag c).2.2.1 (hag c).2.2.2.1 (hag c).2.2.2.2.1 (hag c).2.2.2.2.2), (h c).2⟩)
      (Cert.Reference2Ideal.Value.run m' g')⟩

end Cert.Call2

end
-- ==== Proof.Proj.RefOdd.lean ====
module

public import proofs.«01_k».proof.Proof.Ffn.Ref
public import proofs.«01_k».proof.Proof.Gen.Reference3Ideal.Run

/-! The reference's odd mixer projection, row by row. -/

@[expose] public section

set_option maxRecDepth 16384

noncomputable section

namespace Cert.Reference3Ideal.Rows

open Cert.Reference3Ideal Cert.Reference3Ideal.Gen Cert.Rows
open Cert.Reference2Ideal.Rows (normPrompt normPrompt_at normSample normSample_at)
open Idealize.ShloMosaic Idealize.ShloMosaic.TcCoe

/-- The prompt rows' projection. -/
def projectPrompt (x : FVec Ideal S2x4096x2048 .f32) (g : FVec Ideal S2048 .f32) (w : FVec Ideal S2048x12352 .f32) : FVec Ideal S2x4096x12352 .f32 :=
  Host.dotGeneral dot_S2x4096x2048_S2048x12352_S2x4096x12352_2_0_01_1_n_n none (normPrompt x g) w

theorem projectPrompt_at (x : FVec Ideal S2x4096x2048 .f32) (g : FVec Ideal S2048 .f32) (w : FVec Ideal S2048x12352 .f32) (p : Fin 2) (q : Fin 4096) (f : Fin 12352) :
    projectPrompt x g w (ix3 p q f) = project (fun k => x (ix3 p q k)) (fun k => g (ix1 k)) (fun k f => w (ix2 k f)) f := by
  unfold project
  simp only [← normPrompt_at]
  pointwise [projectPrompt]

/-- The prompt rows' projection, its first 12288 columns. -/
def mainPrompt (x : FVec Ideal S2x4096x2048 .f32) (g : FVec Ideal S2048 .f32) (w : FVec Ideal S2048x12352 .f32) : FVec Ideal S2x4096x12288 .f32 :=
  extractStridedSlice S2x4096x12288 ![0, 0, 0] (projectPrompt x g w) slices_S2x4096x12352_S2x4096x12288_0_0_0

theorem mainPrompt_at (x : FVec Ideal S2x4096x2048 .f32) (g : FVec Ideal S2048 .f32) (w : FVec Ideal S2048x12352 .f32) (p : Fin 2) (q : Fin 4096) (f : Fin 12288) :
    mainPrompt x g w (ix3 p q f)
      = project (fun k => x (ix3 p q k)) (fun k => g (ix1 k)) (fun k (f : Fin 12288) => w (ix2 k ⟨f.val, by omega⟩)) f := by
  have e : mainPrompt x g w (ix3 p q f) = projectPrompt x g w (ix3 p q ⟨f.val, by omega⟩) := by
    pointwise [mainPrompt]
  rw [e, projectPrompt_at]
  rfl

/-- The sample rows' projection. -/
def projectSample (x : FVec Ideal S128x8x2048 .f32) (g : FVec Ideal S2048 .f32) (w : FVec Ideal S2048x12352 .f32) : FVec Ideal S128x8x12352 .f32 :=
  Host.dotGeneral dot_S128x8x2048_S2048x12352_S128x8x12352_2_0_01_1_n_n none (normSample x g) w

theorem projectSample_at (x : FVec Ideal S128x8x2048 .f32) (g : FVec Ideal S2048 .f32) (w : FVec Ideal S2048x12352 .f32) (p : Fin 128) (q : Fin 8) (f : Fin 12352) :
    projectSample x g w (ix3 p q f) = project (fun k => x (ix3 p q k)) (fun k => g (ix1 k)) (fun k f => w (ix2 k f)) f := by
  unfold project
  simp only [← normSample_at]
  pointwise [projectSample]

/-- The sample rows' projection, its first 12288 columns. -/
def mainSample (x : FVec Ideal S128x8x2048 .f32) (g : FVec Ideal S2048 .f32) (w : FVec Ideal S2048x12352 .f32) : FVec Ideal S128x8x12288 .f32 :=
  extractStridedSlice S128x8x12288 ![0, 0, 0] (projectSample x g w) slices_S128x8x12352_S128x8x12288_0_0_0

theorem mainSample_at (x : FVec Ideal S128x8x2048 .f32) (g : FVec Ideal S2048 .f32) (w : FVec Ideal S2048x12352 .f32) (p : Fin 128) (q : Fin 8) (f : Fin 12288) :
    mainSample x g w (ix3 p q f)
      = project (fun k => x (ix3 p q k)) (fun k => g (ix1 k)) (fun k (f : Fin 12288) => w (ix2 k ⟨f.val, by omega⟩)) f := by
  have e : mainSample x g w (ix3 p q f) = projectSample x g w (ix3 p q ⟨f.val, by omega⟩) := by
    pointwise [mainSample]
  rw [e, projectSample_at]
  rfl

/-- The two projections, one over the other. -/
def both (X0 : FVec Ideal S2x4096x2048 .f32) (X1 : FVec Ideal S128x8x2048 .f32) (g : FVec Ideal S2048 .f32) (w : FVec Ideal S2048x12352 .f32) : FVec Ideal S9216x12288 .f32 :=
  concatenate S9216x12288 0 [⟨S8192x12288, shapeCast _ (mainPrompt X0 g w) shapeCasts_S2x4096x12288_S8192x12288⟩, ⟨S1024x12288, shapeCast _ (mainSample X1 g w) shapeCasts_S128x8x12288_S1024x12288⟩]
    concatenates_S8192x12288_S1024x12288_S9216x12288_d0

/-- The reference's result at a row. -/
theorem result (X0 : FVec Ideal S2x4096x2048 .f32) (X1 : FVec Ideal S128x8x2048 .f32) (g : FVec Ideal S2048 .f32) (w : FVec Ideal S2048x12352 .f32)
    (r : Fin 9216) (l : Fin 12288) :
    both X0 X1 g w (ix2 r l)
      = project (row X0 X1 r) (fun k => g (ix1 k)) (fun k (f : Fin 12288) => w (ix2 k ⟨f.val, by omega⟩)) l := by
  refine (stacked (w := 12288) (mainPrompt X0 g w) (mainSample X1 g w) _ _ _ r l).trans ?_
  exact row_map _ _ _ _ (fun x => project x _ _) (mainPrompt_at _ _ _) (mainSample_at _ _ _) r l

end Cert.Reference3Ideal.Rows

end
-- ==== Proof.Proj.Odd.lean ====
module

public import proofs.«01_k».proof.Proof.Rows.Norm
public import Idealize.ShloMosaic.Lib.Pipeline.ReadBack
public import proofs.«01_k».proof.Proof.Gen.Kernel3Ideal.Value

/-! The odd mixer projection's kernel, row by row. -/

@[expose] public section

set_option maxRecDepth 16384

noncomputable section

namespace Cert.Kernel3Ideal.Rows

open Cert.Kernel3Ideal Cert.Kernel3Ideal.Gen Cert.Rows
open Idealize.ShloMosaic Idealize.ShloMosaic.TcCoe

/-! ## The stored values -/

theorem store_norm (v8 : Vec Ideal S512x2048 .f32) (v20 : Vec Ideal S1x2048 .f32) (r : Fin 512) (l : Fin 2048) :
    (k0_pay1 (F := Ideal) v8 v20 : Vec Ideal S512x2048 .bf16) (ix2 r l) = normed (fun k => v8 (ix2 r k)) (fun k => v20 (ix2 0 k)) l := by
  unfold normed
  pointwise [k0_pay1]

theorem store_out (v3 : Vec Ideal S512x2048 .bf16) (v4 : Vec Ideal S2048x1024 .bf16) (r : Fin 512) (l : Fin 1024) :
    (k0_pay2 (F := Ideal) v3 v4 : Vec Ideal S512x1024 .f32) (ix2 r l) = (∑ k : Fin 2048, v3 (ix2 r k) * v4 (ix2 k l) : EReal) := by
  pointwise [k0_pay2]

/-! ## The arrays -/

variable (m : (ℓ : Loc nD τ sig) → Buf (Elt Ideal) ℓ) (c : Dev nD)

/-- Row `r` of the residual stream, prompt over sample. -/
def xrow (r : Fin 9216) : Fin 2048 → EReal :=
  row (m ((c : Thread nD τ).loc main_arg0) : Vec Ideal S2x4096x2048 .f32) (m ((c : Thread nD τ).loc main_arg1) : Vec Ideal S128x8x2048 .f32) r
def gain (k : Fin 2048) : EReal := (m ((c : Thread nD τ).loc main_arg2) : Vec Ideal S2048 .f32) (ix1 k)
def wt (k : Fin 2048) (f : Fin 12288) : EReal := (m ((c : Thread nD τ).loc main_arg3) : Vec Ideal S2048x12352 .f32) (ix2 k ⟨f.val, by omega⟩)

theorem host_rows (r : Fin 9216) (l : Fin 2048) : (V m c main_v2 : Vec Ideal S9216x2048 .f32) (ix2 r l) = xrow m c r l := by
  entry_read
  exact stacked _ _ _ _ _ r l
theorem host_gain (l : Fin 2048) : (V m c main_v5 : Vec Ideal S1x2048 .f32) (ix2 0 l) = gain m c l := by
  unfold gain
  entry_read
  pointwise
theorem host_weight (k : Fin 2048) (f : Fin 12288) : (V m c main_v4 : Vec Ideal S2048x12288 .bf16) (ix2 k f) = wt m c k f := by
  unfold wt
  entry_read
  pointwise

/-! ## The blocks -/

theorem index0 : ∀ t : Fin cfg0.N, (cfg0.win 0).index t = ![t.val / 12, 0] := by decide +kernel
theorem index1 : ∀ t : Fin cfg0.N, (cfg0.win 1).index t = ![0, 0] := by decide +kernel
theorem index2 : ∀ t : Fin cfg0.N, (cfg0.win 2).index t = ![0, t.val % 12] := by decide +kernel

theorem point_lt (t : Fin cfg0.N) : t.val < 216 := t.isLt

/-- The row that row `r` of point `t`'s block is. -/
def rowOf (t : Fin cfg0.N) (r : Fin 512) : Fin 9216 := ⟨t.val / 12 * 512 + r.val, by have := point_lt t; omega⟩

theorem block_rows (t : Fin cfg0.N) (r : Fin 512) (l : Fin 2048) :
    (iblk m c 0 t : Vec Ideal S512x2048 .f32) (ix2 r l) = xrow m c (rowOf t r) l := by
  refine Eq.trans ?_ (host_rows m c (rowOf t r) l)
  unfold rowOf
  blk_ext [iblk, index0 t]
theorem block_gain (t : Fin cfg0.N) (l : Fin 2048) : (iblk m c 1 t : Vec Ideal S1x2048 .f32) (ix2 0 l) = gain m c l := by
  refine Eq.trans ?_ (host_gain m c l)
  blk_ext [iblk, index1 t]
theorem block_weight (t : Fin cfg0.N) (k : Fin 2048) (x : Fin 1024) :
    (iblk m c 2 t : Vec Ideal S2048x1024 .bf16) (ix2 k x) = wt m c k ⟨t.val % 12 * 1024 + x.val, by omega⟩ := by
  refine Eq.trans ?_ (host_weight m c k _)
  blk_ext [iblk, index2 t]

/-! ## The points -/

/-- The first point of a run keeps the normed row. -/
theorem kept_first (t : Fin cfg0.N) (h0 : t.val % 12 = 0) :
    (outsAt0 m c t.val t.isLt).2 = k0_pay1 (iblk m c 0 t) (iblk m c 1 t) := by
  rw [outsAt0_A m c t h0]
  dsimp only
  frame_out

/-- Every other point leaves it. -/
theorem kept_next (t : Fin cfg0.N) (h0 : ¬t.val % 12 = 0) :
    (outsAt0 m c t.val t.isLt).2 = (outsAt0 m c (t.val - 1) (Nat.lt_of_le_of_lt (Nat.sub_le _ _) t.isLt)).2 := by
  rw [outsAt0_B m c t h0]
  rfl

/-- Every point writes the kept row times its columns. -/
theorem out_point (t : Fin cfg0.N) : (outsAt0 m c t.val t.isLt).1 = k0_pay2 (outsAt0 m c t.val t.isLt).2 (iblk m c 2 t) := by
  by_cases h0 : t.val % 12 = 0
  · rw [kept_first m c t h0, outsAt0_A m c t h0]
    dsimp only
    frame_out
  · rw [kept_next m c t h0, outsAt0_B m c t h0]
    dsimp only
    frame_out
    simp only [read_unread_whole]

theorem kept : ∀ (n : ℕ) (hn : n < cfg0.N) (r : Fin 512) (k : Fin 2048),
    ((outsAt0 m c n hn).2 : Vec Ideal S512x2048 .bf16) (ix2 r k) = normed (xrow m c (rowOf ⟨n, hn⟩ r)) (gain m c) k := by
  intro n
  induction n with
  | zero =>
    intro hn r k
    rw [kept_first m c ⟨0, hn⟩ rfl, store_norm]
    simp only [block_rows, block_gain]
  | succ n ih =>
    intro hn r k
    by_cases h0 : (n + 1) % 12 = 0
    · rw [kept_first m c ⟨n + 1, hn⟩ h0, store_norm]
      simp only [block_rows, block_gain]
    · rw [kept_next m c ⟨n + 1, hn⟩ h0]
      refine (ih _ r k).trans ?_
      have e : rowOf ⟨n, by omega⟩ r = rowOf ⟨n + 1, hn⟩ r := Fin.ext (by simp only [rowOf]; omega)
      rw [e]

theorem written (t : Fin cfg0.N) (r : Fin 512) (l : Fin 1024) :
    ((outsAt0 m c t.val t.isLt).1 : Vec Ideal S512x1024 .f32) (ix2 r l)
      = project (xrow m c (rowOf t r)) (gain m c) (wt m c) ⟨t.val % 12 * 1024 + l.val, by omega⟩ := by
  rw [out_point m c t, store_out]
  simp only [block_weight]
  exact Finset.sum_congr rfl fun k _ => congrArg (· * _) (kept m c t.val t.isLt r k)

/-! ## The array -/

/-- The kernel's result at a row: the normed row times the weight. -/
theorem result (r : Fin 9216) (l : Fin 12288) :
    (Value.G3 m c : Vec Ideal S9216x12288 .f32) (ix2 r l) = project (xrow m c r) (gain m c) (wt m c) l := by
  have hp : Value.pt3Of (ix2 r l) = 12 * (r.val / 512) + l.val / 1024 := by
    show 12 * (r.val / 512 - 0) + 1 * (l.val / 1024 - 0) = _
    omega
  have hN : Value.pt3Of (ix2 r l) < cfg0.N := by
    rw [hp]
    show _ < 216
    omega
  have hl : Value.loc3Of (ix2 r l) = ix2 ⟨r.val % 512, by omega⟩ ⟨l.val % 1024, by omega⟩ := by
    funext a
    fin_cases a
    · rfl
    · rfl
  have hr : rowOf ⟨Value.pt3Of (ix2 r l), hN⟩ ⟨r.val % 512, by omega⟩ = r := Fin.ext (by simp only [rowOf, hp]; omega)
  refine (dif_pos hN).trans ?_
  rw [hl, ← Value.outsAt0_sweep m c _ hN]
  refine (written m c ⟨_, hN⟩ _ _).trans ?_
  rw [hr]
  exact congrArg _ (Fin.ext (by simp only [hp]; omega))

end Cert.Kernel3Ideal.Rows

end
-- ==== Proof.Proj.TieOdd.lean ====
module

public import proofs.«01_k».proof.Defs
public import proofs.«01_k».proof.Proof.Gen.Kernel3
public import proofs.«01_k».proof.Proof.Gen.Kernel3Ideal.Value
public import proofs.«01_k».proof.Proof.Proj.RefOdd
public import proofs.«01_k».proof.Proof.Proj.Odd
public import Idealize.ShloMosaic.Adequacy
public import Idealize.ShloMosaic.Init

/-! The odd mixer projection: its frames, and that kernel and reference agree. -/

@[expose] public section

set_option maxRecDepth 16384

noncomputable section

namespace Cert.Call3

open Idealize.ShloMosaic Idealize.SL.Sem Cert.Rows

/-- The printed kernel's body is the idealized kernel's: no operation was replaced. -/
theorem defs₀_eq : Cert.Kernel3.defs₀ (F := Bits) = Cert.Kernel3Ideal.defs₀ (F := Bits) :=
  congrArg Defs.onTc (funext fun l => match l with
    | 0 => rfl
    | ⟨_ + 1, h⟩ => absurd h (Nat.not_lt.2 (Nat.le_add_left _ _)))

theorem defs_eq : Cert.Kernel3.defs (F := Bits) = Cert.Kernel3Ideal.defs (F := Bits) :=
  congrArg (Pipeline.defs Cert.Kernel3Ideal.pcfgs) defs₀_eq

/-- The printed kernel's frame, from the one run. -/
theorem frame : Cert.quiescent_Kernel3 (hKernel3 := Cert.Kernel3.Gen.facts) := fun m ρ _ => by
  rw [defs_eq]
  exact Cert.Kernel3Ideal.Gen.frame (F := Bits) m ρ

theorem frame_ideal : Cert.quiescent_Kernel3Ideal (hKernel3Ideal := Cert.Kernel3Ideal.Gen.facts) :=
  fun m ρ _ => Cert.Kernel3Ideal.Gen.frame m ρ

theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run m ρ)

/-- From equal arguments the reference's result is the kernel's. -/
theorem same (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    (Cert.Reference3Ideal.Rows.both (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) : Vec Ideal (⟨2, ![9216, 12288]⟩ : Shape) .f32) = Cert.Kernel3Ideal.Value.G3 m c := by
  funext i
  have e : i = ix2 (i 0) (i 1) := funext fun a => by fin_cases a <;> rfl
  rw [e]
  refine (Cert.Reference3Ideal.Rows.result (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (i 0) (i 1)).trans (Eq.trans ?_ (Cert.Kernel3Ideal.Rows.result m c (i 0) (i 1)).symm)
  rw [h0, h1, h2, h3]
  rfl

/-- The kernel and the reference compute the same array. -/
theorem value : Cert.algebraic_Kernel3Ideal_Reference3Ideal (hKernel3Ideal := Cert.Kernel3Ideal.Gen.facts)
    (hReference3Ideal := Cert.Reference3Ideal.Gen.facts) := fun m g m' g' _ hag =>
  ⟨fun c => Cert.Kernel3Ideal.Value.G3 m c,
    Cert.Kernel3Ideal.Value.run m g,
    (θ_run Cert.Reference3Ideal.defs _ _).mono (fun r h c => ⟨(h c).1.trans (same m m' c (hag c).1 (hag c).2.1 (hag c).2.2.1 (hag c).2.2.2), (h c).2⟩)
      (Cert.Reference3Ideal.Value.run m' g')⟩

end Cert.Call3

end
-- ==== Proof.Proj.RefEven.lean ====
module

public import proofs.«01_k».proof.Proof.Ffn.Ref
public import proofs.«01_k».proof.Proof.Gen.Reference4Ideal.Run

/-! The reference's even mixer projection, row by row. -/

@[expose] public section

set_option maxRecDepth 16384

noncomputable section

namespace Cert.Reference4Ideal.Rows

open Cert.Reference4Ideal Cert.Reference4Ideal.Gen Cert.Rows
open Cert.Reference2Ideal.Rows (normPrompt normPrompt_at normSample normSample_at)
open Idealize.ShloMosaic Idealize.ShloMosaic.TcCoe

/-- The prompt rows' projection. -/
def projectPrompt (x : FVec Ideal S2x4096x2048 .f32) (g : FVec Ideal S2048 .f32) (w : FVec Ideal S2048x2672 .f32) : FVec Ideal S2x4096x2672 .f32 :=
  Host.dotGeneral dot_S2x4096x2048_S2048x2672_S2x4096x2672_2_0_01_1_n_n none (normPrompt x g) w

theorem projectPrompt_at (x : FVec Ideal S2x4096x2048 .f32) (g : FVec Ideal S2048 .f32) (w : FVec Ideal S2048x2672 .f32) (p : Fin 2) (q : Fin 4096) (f : Fin 2672) :
    projectPrompt x g w (ix3 p q f) = project (fun k => x (ix3 p q k)) (fun k => g (ix1 k)) (fun k f => w (ix2 k f)) f := by
  unfold project
  simp only [← normPrompt_at]
  pointwise [projectPrompt]

/-- The sample rows' projection. -/
def projectSample (x : FVec Ideal S128x8x2048 .f32) (g : FVec Ideal S2048 .f32) (w : FVec Ideal S2048x2672 .f32) : FVec Ideal S128x8x2672 .f32 :=
  Host.dotGeneral dot_S128x8x2048_S2048x2672_S128x8x2672_2_0_01_1_n_n none (normSample x g) w

theorem projectSample_at (x : FVec Ideal S128x8x2048 .f32) (g : FVec Ideal S2048 .f32) (w : FVec Ideal S2048x2672 .f32) (p : Fin 128) (q : Fin 8) (f : Fin 2672) :
    projectSample x g w (ix3 p q f) = project (fun k => x (ix3 p q k)) (fun k => g (ix1 k)) (fun k f => w (ix2 k f)) f := by
  unfold project
  simp only [← normSample_at]
  pointwise [projectSample]

/-- The two projections, one over the other. -/
def both (X0 : FVec Ideal S2x4096x2048 .f32) (X1 : FVec Ideal S128x8x2048 .f32) (g : FVec Ideal S2048 .f32) (w : FVec Ideal S2048x2672 .f32) : FVec Ideal S9216x2672 .f32 :=
  concatenate S9216x2672 0 [⟨S8192x2672, shapeCast _ (projectPrompt X0 g w) shapeCasts_S2x4096x2672_S8192x2672⟩, ⟨S1024x2672, shapeCast _ (projectSample X1 g w) shapeCasts_S128x8x2672_S1024x2672⟩]
    concatenates_S8192x2672_S1024x2672_S9216x2672_d0

/-- The reference's result at a row. -/
theorem result (X0 : FVec Ideal S2x4096x2048 .f32) (X1 : FVec Ideal S128x8x2048 .f32) (g : FVec Ideal S2048 .f32) (w : FVec Ideal S2048x2672 .f32)
    (r : Fin 9216) (l : Fin 2672) :
    both X0 X1 g w (ix2 r l)
      = project (row X0 X1 r) (fun k => g (ix1 k)) (fun k (f : Fin 2672) => w (ix2 k f)) l := by
  refine (stacked (w := 2672) (projectPrompt X0 g w) (projectSample X1 g w) _ _ _ r l).trans ?_
  exact row_map _ _ _ _ (fun x => project x _ _) (projectPrompt_at _ _ _) (projectSample_at _ _ _) r l

end Cert.Reference4Ideal.Rows

end
-- ==== Proof.Proj.Even.lean ====
module

public import proofs.«01_k».proof.Proof.Rows.Norm
public import Idealize.ShloMosaic.Lib.Pipeline.ReadBack
public import proofs.«01_k».proof.Proof.Gen.Kernel4Ideal.Value

/-! The even mixer projection's kernel, row by row. -/

@[expose] public section

set_option maxRecDepth 16384

noncomputable section

namespace Cert.Kernel4Ideal.Rows

open Cert.Kernel4Ideal Cert.Kernel4Ideal.Gen Cert.Rows
open Idealize.ShloMosaic Idealize.ShloMosaic.TcCoe

/-! ## The stored values -/

theorem store_norm (v8 : Vec Ideal S256x2048 .f32) (v20 : Vec Ideal S1x2048 .f32) (r : Fin 256) (l : Fin 2048) :
    (k0_pay1 (F := Ideal) v8 v20 : Vec Ideal S256x2048 .bf16) (ix2 r l) = normed (fun k => v8 (ix2 r k)) (fun k => v20 (ix2 0 k)) l := by
  unfold normed
  pointwise [k0_pay1]

theorem store_out (v3 : Vec Ideal S256x2048 .bf16) (v4 : Vec Ideal S2048x2672 .bf16) (r : Fin 256) (l : Fin 2672) :
    (k0_pay2 (F := Ideal) v3 v4 : Vec Ideal S256x2672 .f32) (ix2 r l) = (∑ k : Fin 2048, v3 (ix2 r k) * v4 (ix2 k l) : EReal) := by
  pointwise [k0_pay2]

/-! ## The arrays -/

variable (m : (ℓ : Loc nD τ sig) → Buf (Elt Ideal) ℓ) (c : Dev nD)

/-- Row `r` of the residual stream, prompt over sample. -/
def xrow (r : Fin 9216) : Fin 2048 → EReal :=
  row (m ((c : Thread nD τ).loc main_arg0) : Vec Ideal S2x4096x2048 .f32) (m ((c : Thread nD τ).loc main_arg1) : Vec Ideal S128x8x2048 .f32) r
def gain (k : Fin 2048) : EReal := (m ((c : Thread nD τ).loc main_arg2) : Vec Ideal S2048 .f32) (ix1 k)
def wt (k : Fin 2048) (f : Fin 2672) : EReal := (m ((c : Thread nD τ).loc main_arg3) : Vec Ideal S2048x2672 .f32) (ix2 k f)

theorem host_rows (r : Fin 9216) (l : Fin 2048) : (V m c main_v2 : Vec Ideal S9216x2048 .f32) (ix2 r l) = xrow m c r l := by
  entry_read
  exact stacked _ _ _ _ _ r l
theorem host_gain (l : Fin 2048) : (V m c main_v4 : Vec Ideal S1x2048 .f32) (ix2 0 l) = gain m c l := by
  unfold gain
  entry_read
  pointwise
theorem host_weight (k : Fin 2048) (f : Fin 2672) : (V m c main_v3 : Vec Ideal S2048x2672 .bf16) (ix2 k f) = wt m c k f := by
  unfold wt
  entry_read
  pointwise

/-! ## The blocks -/

theorem index0 : ∀ t : Fin cfg0.N, (cfg0.win 0).index t = ![t.val, 0] := by decide +kernel
theorem index1 : ∀ t : Fin cfg0.N, (cfg0.win 1).index t = ![0, 0] := by decide +kernel
theorem index2 : ∀ t : Fin cfg0.N, (cfg0.win 2).index t = ![0, 0] := by decide +kernel

theorem point_lt (t : Fin cfg0.N) : t.val < 36 := t.isLt

/-- The row that row `r` of point `t`'s block is. -/
def rowOf (t : Fin cfg0.N) (r : Fin 256) : Fin 9216 := ⟨t.val * 256 + r.val, by have := point_lt t; omega⟩

theorem block_rows (t : Fin cfg0.N) (r : Fin 256) (l : Fin 2048) :
    (iblk m c 0 t : Vec Ideal S256x2048 .f32) (ix2 r l) = xrow m c (rowOf t r) l := by
  refine Eq.trans ?_ (host_rows m c (rowOf t r) l)
  unfold rowOf
  blk_ext [iblk, index0 t]
theorem block_gain (t : Fin cfg0.N) (l : Fin 2048) : (iblk m c 1 t : Vec Ideal S1x2048 .f32) (ix2 0 l) = gain m c l := by
  refine Eq.trans ?_ (host_gain m c l)
  blk_ext [iblk, index1 t]
theorem block_weight (t : Fin cfg0.N) (k : Fin 2048) (x : Fin 2672) :
    (iblk m c 2 t : Vec Ideal S2048x2672 .bf16) (ix2 k x) = wt m c k x := by
  refine Eq.trans ?_ (host_weight m c k x)
  blk_ext [iblk, index2 t]

/-! ## The points and the array -/

theorem out_point (t : Fin cfg0.N) : outsAt0 m c t = k0_pay2 (k0_pay1 (iblk m c 0 t) (iblk m c 1 t)) (iblk m c 2 t) := by
  unfold outsAt0
  frame_out

theorem written (t : Fin cfg0.N) (r : Fin 256) (l : Fin 2672) :
    (outsAt0 m c t : Vec Ideal S256x2672 .f32) (ix2 r l) = project (xrow m c (rowOf t r)) (gain m c) (wt m c) l := by
  rw [out_point m c t, store_out]
  simp only [store_norm, block_rows, block_gain, block_weight]
  rfl

theorem index3 : ∀ t : Fin cfg0.N, (cfg0.win 3).index t = ![t.val, 0] := by decide +kernel

theorem place (t : Fin cfg0.N) (r : Fin 256) (l : Fin 2672) (a : Fin 2) :
    ((((cfg0.win 3).blk t).view.emb (ix2 (n0 := 256) (n1 := 2672) r l)) a : ℕ) = (![t.val * 256 + r.val, l.val] : Fin 2 → ℕ) a := by
  refine (Pipeline.Window.rect_emb_val (cfg0.win 3) t _ a).trans ?_
  rw [index3 t]
  fin_cases a
  · rfl
  · exact (congrArg (· + l.val) (Nat.zero_mul 2672)).trans (Nat.zero_add _)

/-- The kernel's result: each row normed times the weight. -/
def total : Vec Ideal S9216x2672 .f32 := fun i => project (xrow m c (i 0)) (gain m c) (wt m c) (i 1)

theorem total_at (t : Fin cfg0.N) (r : Fin 256) (l : Fin 2672) :
    total m c (((cfg0.win 3).blk t).view.emb (ix2 (n0 := 256) (n1 := 2672) r l)) = project (xrow m c (rowOf t r)) (gain m c) (wt m c) l :=
  congrArg₂ (fun i j => project (xrow m c i) (gain m c) (wt m c) j) (Fin.ext (place t r l 0)) (Fin.ext (place t r l 1))

theorem result : (dats m 0 c).arrAt 3 cfg0.N = total m c := by
  refine (dats m 0 c).arrAt_eq_of_covers 3 _ (by decide +kernel) fun t hf y => ?_
  blk_simp
  rw [after0_3]
  have e : (y : S256x2672.Idx) = ix2 (y 0) (y 1) := funext fun a => by fin_cases a <;> rfl
  exact (congrArg (outsAt0 m c t) e).trans ((written m c t (y 0) (y 1)).trans
    ((total_at m c t (y 0) (y 1)).symm.trans (congrArg (fun i => total m c (((cfg0.win 3).blk t).view.emb i)) e.symm)))

end Cert.Kernel4Ideal.Rows

end
-- ==== Proof.Proj.TieEven.lean ====
module

public import proofs.«01_k».proof.Defs
public import proofs.«01_k».proof.Proof.Gen.Kernel4
public import proofs.«01_k».proof.Proof.Gen.Kernel4Ideal.Value
public import proofs.«01_k».proof.Proof.Proj.RefEven
public import proofs.«01_k».proof.Proof.Proj.Even
public import Idealize.ShloMosaic.Adequacy
public import Idealize.ShloMosaic.Init

/-! The even mixer projection: its frames, and that kernel and reference agree. -/

@[expose] public section

set_option maxRecDepth 16384

noncomputable section

namespace Cert.Call4

open Idealize.ShloMosaic Idealize.SL.Sem Cert.Rows

/-- The printed kernel's body is the idealized kernel's: no operation was replaced. -/
theorem defs₀_eq : Cert.Kernel4.defs₀ (F := Bits) = Cert.Kernel4Ideal.defs₀ (F := Bits) :=
  congrArg Defs.onTc (funext fun l => match l with
    | 0 => rfl
    | ⟨_ + 1, h⟩ => absurd h (Nat.not_lt.2 (Nat.le_add_left _ _)))

theorem defs_eq : Cert.Kernel4.defs (F := Bits) = Cert.Kernel4Ideal.defs (F := Bits) :=
  congrArg (Pipeline.defs Cert.Kernel4Ideal.pcfgs) defs₀_eq

/-- The printed kernel's frame, from the one run. -/
theorem frame : Cert.quiescent_Kernel4 (hKernel4 := Cert.Kernel4.Gen.facts) := fun m ρ _ => by
  rw [defs_eq]
  exact Cert.Kernel4Ideal.Gen.frame (F := Bits) m ρ

theorem frame_ideal : Cert.quiescent_Kernel4Ideal (hKernel4Ideal := Cert.Kernel4Ideal.Gen.facts) :=
  fun m ρ _ => Cert.Kernel4Ideal.Gen.frame m ρ

theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run m ρ)

/-- From equal arguments the reference's result is the kernel's. -/
theorem same (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) :
    (Cert.Reference4Ideal.Rows.both (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) : Vec Ideal (⟨2, ![9216, 2672]⟩ : Shape) .f32) = Cert.Kernel4Ideal.Rows.total m c := by
  funext i
  have e : i = ix2 (i 0) (i 1) := funext fun a => by fin_cases a <;> rfl
  rw [e]
  refine (Cert.Reference4Ideal.Rows.result (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (i 0) (i 1)).trans (Eq.trans ?_ (rfl : Cert.Kernel4Ideal.Rows.total m c (ix2 (i 0) (i 1)) = _).symm)
  rw [h0, h1, h2, h3]
  rfl

/-- The kernel and the reference compute the same array. -/
theorem value : Cert.algebraic_Kernel4Ideal_Reference4Ideal (hKernel4Ideal := Cert.Kernel4Ideal.Gen.facts)
    (hReference4Ideal := Cert.Reference4Ideal.Gen.facts) := fun m g m' g' _ hag =>
  ⟨fun c => Cert.Kernel4Ideal.Rows.total m c,
    (θ_run Cert.Kernel4Ideal.defs _ _).mono (fun r h c => ⟨(h c).1.trans (Cert.Kernel4Ideal.Rows.result m c), (h c).2⟩) (Cert.Kernel4Ideal.Value.run_blocks m g),
    (θ_run Cert.Reference4Ideal.defs _ _).mono (fun r h c => ⟨(h c).1.trans (same m m' c (hag c).1 (hag c).2.1 (hag c).2.2.1 (hag c).2.2.2), (h c).2⟩)
      (Cert.Reference4Ideal.Value.run m' g')⟩

end Cert.Call4

end
-- ==== Proof.OutProj.Ref.lean ====
module

public import proofs.«01_k».proof.Proof.Ffn.Ref
public import proofs.«01_k».proof.Proof.Gen.Reference5Ideal.Run

/-! The reference's output projection and residual, row by row. -/

@[expose] public section

set_option maxRecDepth 16384

noncomputable section

namespace Cert.Reference5Ideal.Rows

open Cert.Reference5Ideal Cert.Reference5Ideal.Gen Cert.Rows
open Cert.Reference2Ideal.Rows (normPrompt normPrompt_at normSample normSample_at)
open Idealize.ShloMosaic Idealize.ShloMosaic.TcCoe

/-- The prompt rows' output projection. -/
def outPrompt (o : FVec Ideal S2x4096x4096 .f32) (w : FVec Ideal S4096x2048 .f32) : FVec Ideal S2x4096x2048 .f32 :=
  Host.dotGeneral dot_S2x4096x4096_S4096x2048_S2x4096x2048_2_0_01_1_n_n none o w

theorem outPrompt_at (o : FVec Ideal S2x4096x4096 .f32) (w : FVec Ideal S4096x2048 .f32) (p : Fin 2) (q : Fin 4096) (l : Fin 2048) :
    outPrompt o w (ix3 p q l) = ∑ k : Fin 4096, o (ix3 p q k) * w (ix2 k l) := by
  pointwise [outPrompt]

/-- The prompt rows and their normed output projection. -/
def mixedPrompt (o : FVec Ideal S2x4096x4096 .f32) (w : FVec Ideal S4096x2048 .f32) (x : FVec Ideal S2x4096x2048 .f32) (g : FVec Ideal S2048 .f32) :
    FVec Ideal S2x4096x2048 .f32 :=
  addf x (normPrompt (outPrompt o w) g)

theorem mixedPrompt_at (o : FVec Ideal S2x4096x4096 .f32) (w : FVec Ideal S4096x2048 .f32) (x : FVec Ideal S2x4096x2048 .f32) (g : FVec Ideal S2048 .f32)
    (p : Fin 2) (q : Fin 4096) (l : Fin 2048) :
    mixedPrompt o w x g (ix3 p q l)
      = mixed (fun k => x (ix3 p q k)) (fun k => g (ix1 k)) (fun k => o (ix3 p q k)) (fun k f => w (ix2 k f)) l := by
  have e : mixedPrompt o w x g (ix3 p q l) = x (ix3 p q l) + normPrompt (outPrompt o w) g (ix3 p q l) := by
    pointwise [mixedPrompt]
  rw [e, normPrompt_at]
  simp only [outPrompt_at]
  rfl

/-- The sample rows' output projection. -/
def outSample (o : FVec Ideal S128x8x4096 .f32) (w : FVec Ideal S4096x2048 .f32) : FVec Ideal S128x8x2048 .f32 :=
  Host.dotGeneral dot_S128x8x4096_S4096x2048_S128x8x2048_2_0_01_1_n_n none o w

theorem outSample_at (o : FVec Ideal S128x8x4096 .f32) (w : FVec Ideal S4096x2048 .f32) (p : Fin 128) (q : Fin 8) (l : Fin 2048) :
    outSample o w (ix3 p q l) = ∑ k : Fin 4096, o (ix3 p q k) * w (ix2 k l) := by
  pointwise [outSample]

/-- The sample rows and their normed output projection. -/
def mixedSample (o : FVec Ideal S128x8x4096 .f32) (w : FVec Ideal S4096x2048 .f32) (x : FVec Ideal S128x8x2048 .f32) (g : FVec Ideal S2048 .f32) :
    FVec Ideal S128x8x2048 .f32 :=
  addf x (normSample (outSample o w) g)

theorem mixedSample_at (o : FVec Ideal S128x8x4096 .f32) (w : FVec Ideal S4096x2048 .f32) (x : FVec Ideal S128x8x2048 .f32) (g : FVec Ideal S2048 .f32)
    (p : Fin 128) (q : Fin 8) (l : Fin 2048) :
    mixedSample o w x g (ix3 p q l)
      = mixed (fun k => x (ix3 p q k)) (fun k => g (ix1 k)) (fun k => o (ix3 p q k)) (fun k f => w (ix2 k f)) l := by
  have e : mixedSample o w x g (ix3 p q l) = x (ix3 p q l) + normSample (outSample o w) g (ix3 p q l) := by
    pointwise [mixedSample]
  rw [e, normSample_at]
  simp only [outSample_at]
  rfl

/-- The two blocks of rows, one over the other. -/
def both (O0 : FVec Ideal S2x4096x4096 .f32) (O1 : FVec Ideal S128x8x4096 .f32) (w : FVec Ideal S4096x2048 .f32)
    (X0 : FVec Ideal S2x4096x2048 .f32) (X1 : FVec Ideal S128x8x2048 .f32) (g : FVec Ideal S2048 .f32) : FVec Ideal S9216x2048 .f32 :=
  concatenate S9216x2048 0 [⟨S8192x2048, shapeCast _ (mixedPrompt O0 w X0 g) shapeCasts_S2x4096x2048_S8192x2048⟩, ⟨S1024x2048, shapeCast _ (mixedSample O1 w X1 g) shapeCasts_S128x8x2048_S1024x2048⟩]
    concatenates_S8192x2048_S1024x2048_S9216x2048_d0

/-- The reference's result at a row. -/
theorem result (O0 : FVec Ideal S2x4096x4096 .f32) (O1 : FVec Ideal S128x8x4096 .f32) (w : FVec Ideal S4096x2048 .f32)
    (X0 : FVec Ideal S2x4096x2048 .f32) (X1 : FVec Ideal S128x8x2048 .f32) (g : FVec Ideal S2048 .f32) (r : Fin 9216) (l : Fin 2048) :
    both O0 O1 w X0 X1 g (ix2 r l)
      = mixed (row X0 X1 r) (fun k => g (ix1 k)) (row O0 O1 r) (fun k f => w (ix2 k f)) l := by
  refine (stacked (w := 2048) (mixedPrompt O0 w X0 g) (mixedSample O1 w X1 g) _ _ _ r l).trans ?_
  unfold row
  split
  · exact mixedPrompt_at _ _ _ _ _ _ _
  · exact mixedSample_at _ _ _ _ _ _ _

end Cert.Reference5Ideal.Rows

end
-- ==== Proof.OutProj.Kernel.lean ====
module

public import proofs.«01_k».proof.Proof.Rows.Norm
public import Idealize.ShloMosaic.Lib.Pipeline.ReadBack
public import proofs.«01_k».proof.Proof.Gen.Kernel5Ideal.Value

/-! The output projection's kernel, row by row. -/

@[expose] public section

set_option maxRecDepth 16384

noncomputable section

namespace Cert.Kernel5Ideal.Rows

open Cert.Kernel5Ideal Cert.Kernel5Ideal.Gen Cert.Rows
open Idealize.ShloMosaic Idealize.ShloMosaic.TcCoe

/-! ## The stored value -/

theorem store_out (v0 : Vec Ideal S256x4096 .f32) (v3 : Vec Ideal S4096x2048 .bf16) (v11 : Vec Ideal S256x2048 .f32) (v18 : Vec Ideal S1x2048 .f32)
    (r : Fin 256) (l : Fin 2048) :
    (k0_pay1 (F := Ideal) v0 v3 v11 v18 : Vec Ideal S256x2048 .f32) (ix2 r l)
      = mixed (fun k => v11 (ix2 r k)) (fun k => v18 (ix2 0 k)) (fun k => v0 (ix2 r k)) (fun k f => v3 (ix2 k f)) l := by
  unfold mixed normed
  pointwise [k0_pay1]

/-! ## The arrays -/

variable (m : (ℓ : Loc nD τ sig) → Buf (Elt Ideal) ℓ) (c : Dev nD)

/-- Row `r` of the mixer's result, prompt over sample. -/
def orow (r : Fin 9216) : Fin 4096 → EReal :=
  row (m ((c : Thread nD τ).loc main_arg0) : Vec Ideal S2x4096x4096 .f32) (m ((c : Thread nD τ).loc main_arg1) : Vec Ideal S128x8x4096 .f32) r
/-- Row `r` of the residual stream, prompt over sample. -/
def xrow (r : Fin 9216) : Fin 2048 → EReal :=
  row (m ((c : Thread nD τ).loc main_arg3) : Vec Ideal S2x4096x2048 .f32) (m ((c : Thread nD τ).loc main_arg4) : Vec Ideal S128x8x2048 .f32) r
def gain (k : Fin 2048) : EReal := (m ((c : Thread nD τ).loc main_arg5) : Vec Ideal S2048 .f32) (ix1 k)
def wt (k : Fin 4096) (f : Fin 2048) : EReal := (m ((c : Thread nD τ).loc main_arg2) : Vec Ideal S4096x2048 .f32) (ix2 k f)

theorem host_mixer (r : Fin 9216) (l : Fin 4096) : (V m c main_v2 : Vec Ideal S9216x4096 .f32) (ix2 r l) = orow m c r l := by
  entry_read
  exact stacked _ _ _ _ _ r l
theorem host_rows (r : Fin 9216) (l : Fin 2048) : (V m c main_v6 : Vec Ideal S9216x2048 .f32) (ix2 r l) = xrow m c r l := by
  entry_read
  exact stacked _ _ _ _ _ r l
theorem host_gain (l : Fin 2048) : (V m c main_v7 : Vec Ideal S1x2048 .f32) (ix2 0 l) = gain m c l := by
  unfold gain
  entry_read
  pointwise
theorem host_weight (k : Fin 4096) (f : Fin 2048) : (V m c main_v3 : Vec Ideal S4096x2048 .bf16) (ix2 k f) = wt m c k f := by
  unfold wt
  entry_read
  pointwise

/-! ## The blocks -/

theorem index0 : ∀ t : Fin cfg0.N, (cfg0.win 0).index t = ![t.val, 0] := by decide +kernel
theorem index1 : ∀ t : Fin cfg0.N, (cfg0.win 1).index t = ![0, 0] := by decide +kernel
theorem index2 : ∀ t : Fin cfg0.N, (cfg0.win 2).index t = ![t.val, 0] := by decide +kernel
theorem index3 : ∀ t : Fin cfg0.N, (cfg0.win 3).index t = ![0, 0] := by decide +kernel
theorem index4 : ∀ t : Fin cfg0.N, (cfg0.win 4).index t = ![t.val, 0] := by decide +kernel

theorem point_lt (t : Fin cfg0.N) : t.val < 36 := t.isLt

/-- The row that row `r` of point `t`'s block is. -/
def rowOf (t : Fin cfg0.N) (r : Fin 256) : Fin 9216 := ⟨t.val * 256 + r.val, by have := point_lt t; omega⟩

theorem block_mixer (t : Fin cfg0.N) (r : Fin 256) (l : Fin 4096) :
    (iblk m c 0 t : Vec Ideal S256x4096 .f32) (ix2 r l) = orow m c (rowOf t r) l := by
  refine Eq.trans ?_ (host_mixer m c (rowOf t r) l)
  unfold rowOf
  blk_ext [iblk, index0 t]
theorem block_weight (t : Fin cfg0.N) (k : Fin 4096) (x : Fin 2048) :
    (iblk m c 1 t : Vec Ideal S4096x2048 .bf16) (ix2 k x) = wt m c k x := by
  refine Eq.trans ?_ (host_weight m c k x)
  blk_ext [iblk, index1 t]
theorem block_rows (t : Fin cfg0.N) (r : Fin 256) (l : Fin 2048) :
    (iblk m c 2 t : Vec Ideal S256x2048 .f32) (ix2 r l) = xrow m c (rowOf t r) l := by
  refine Eq.trans ?_ (host_rows m c (rowOf t r) l)
  unfold rowOf
  blk_ext [iblk, index2 t]
theorem block_gain (t : Fin cfg0.N) (l : Fin 2048) : (iblk m c 3 t : Vec Ideal S1x2048 .f32) (ix2 0 l) = gain m c l := by
  refine Eq.trans ?_ (host_gain m c l)
  blk_ext [iblk, index3 t]

/-! ## The points and the array -/

theorem out_point (t : Fin cfg0.N) : (dats m 0 c).after 4 t = k0_pay1 (iblk m c 0 t) (iblk m c 1 t) (iblk m c 2 t) (iblk m c 3 t) := by
  rw [after0_4]
  frame_out

theorem written (t : Fin cfg0.N) (r : Fin 256) (l : Fin 2048) :
    ((dats m 0 c).after 4 t : Vec Ideal S256x2048 .f32) (ix2 r l) = mixed (xrow m c (rowOf t r)) (gain m c) (orow m c (rowOf t r)) (wt m c) l := by
  rw [out_point m c t, store_out]
  simp only [block_mixer, block_rows, block_gain, block_weight]

theorem place (t : Fin cfg0.N) (r : Fin 256) (l : Fin 2048) (a : Fin 2) :
    ((((cfg0.win 4).blk t).view.emb (ix2 (n0 := 256) (n1 := 2048) r l)) a : ℕ) = (![t.val * 256 + r.val, l.val] : Fin 2 → ℕ) a := by
  refine (Pipeline.Window.rect_emb_val (cfg0.win 4) t _ a).trans ?_
  rw [index4 t]
  fin_cases a
  · rfl
  · exact (congrArg (· + l.val) (Nat.zero_mul 2048)).trans (Nat.zero_add _)

/-- The kernel's result: each row and its normed output projection. -/
def total : Vec Ideal S9216x2048 .f32 := fun i => mixed (xrow m c (i 0)) (gain m c) (orow m c (i 0)) (wt m c) (i 1)

theorem total_at (t : Fin cfg0.N) (r : Fin 256) (l : Fin 2048) :
    total m c (((cfg0.win 4).blk t).view.emb (ix2 (n0 := 256) (n1 := 2048) r l))
      = mixed (xrow m c (rowOf t r)) (gain m c) (orow m c (rowOf t r)) (wt m c) l :=
  congrArg₂ (fun i j => mixed (xrow m c i) (gain m c) (orow m c i) (wt m c) j) (Fin.ext (place t r l 0)) (Fin.ext (place t r l 1))

theorem result : (dats m 0 c).arrAt 4 cfg0.N = total m c := by
  refine (dats m 0 c).arrAt_eq_of_covers 4 _ (by decide +kernel) fun t hf y => ?_
  blk_simp
  have e : (y : S256x2048.Idx) = ix2 (y 0) (y 1) := funext fun a => by fin_cases a <;> rfl
  exact (congrArg (fun i => ((dats m 0 c).after 4 t : Vec Ideal S256x2048 .f32) i) e).trans ((written m c t (y 0) (y 1)).trans
    ((total_at m c t (y 0) (y 1)).symm.trans (congrArg (fun i => total m c (((cfg0.win 4).blk t).view.emb i)) e.symm)))

end Cert.Kernel5Ideal.Rows

end
-- ==== Proof.OutProj.Tie.lean ====
module

public import proofs.«01_k».proof.Defs
public import proofs.«01_k».proof.Proof.Gen.Kernel5
public import proofs.«01_k».proof.Proof.Gen.Kernel5Ideal.Value
public import proofs.«01_k».proof.Proof.OutProj.Ref
public import proofs.«01_k».proof.Proof.OutProj.Kernel
public import Idealize.ShloMosaic.Adequacy
public import Idealize.ShloMosaic.Init

/-! The output projection and residual: its frames, and that kernel and reference agree. -/

@[expose] public section

set_option maxRecDepth 16384

noncomputable section

namespace Cert.Call5

open Idealize.ShloMosaic Idealize.SL.Sem Cert.Rows

/-- The printed kernel's body is the idealized kernel's: no operation was replaced. -/
theorem defs₀_eq : Cert.Kernel5.defs₀ (F := Bits) = Cert.Kernel5Ideal.defs₀ (F := Bits) :=
  congrArg Defs.onTc (funext fun l => match l with
    | 0 => rfl
    | ⟨_ + 1, h⟩ => absurd h (Nat.not_lt.2 (Nat.le_add_left _ _)))

theorem defs_eq : Cert.Kernel5.defs (F := Bits) = Cert.Kernel5Ideal.defs (F := Bits) :=
  congrArg (Pipeline.defs Cert.Kernel5Ideal.pcfgs) defs₀_eq

/-- The printed kernel's frame, from the one run. -/
theorem frame : Cert.quiescent_Kernel5 (hKernel5 := Cert.Kernel5.Gen.facts) := fun m ρ _ => by
  rw [defs_eq]
  exact Cert.Kernel5Ideal.Gen.frame (F := Bits) m ρ

theorem frame_ideal : Cert.quiescent_Kernel5Ideal (hKernel5Ideal := Cert.Kernel5Ideal.Gen.facts) :=
  fun m ρ _ => Cert.Kernel5Ideal.Gen.frame m ρ

theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run m ρ)

/-- From equal arguments the reference's result is the kernel's. -/
theorem same (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (h3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3))
    (h4 : m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4))
    (h5 : m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) :
    (Cert.Reference5Ideal.Rows.both (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) : Vec Ideal (⟨2, ![9216, 2048]⟩ : Shape) .f32) = Cert.Kernel5Ideal.Rows.total m c := by
  funext i
  have e : i = ix2 (i 0) (i 1) := funext fun a => by fin_cases a <;> rfl
  rw [e]
  refine (Cert.Reference5Ideal.Rows.result (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (i 0) (i 1)).trans (Eq.trans ?_ (rfl : Cert.Kernel5Ideal.Rows.total m c (ix2 (i 0) (i 1)) = _).symm)
  rw [h0, h1, h2, h3, h4, h5]
  rfl

/-- The kernel and the reference compute the same array. -/
theorem value : Cert.algebraic_Kernel5Ideal_Reference5Ideal (hKernel5Ideal := Cert.Kernel5Ideal.Gen.facts)
    (hReference5Ideal := Cert.Reference5Ideal.Gen.facts) := fun m g m' g' _ hag =>
  ⟨fun c => Cert.Kernel5Ideal.Rows.total m c,
    (θ_run Cert.Kernel5Ideal.defs _ _).mono (fun r h c => ⟨(h c).1.trans (Cert.Kernel5Ideal.Rows.result m c), (h c).2⟩) (Cert.Kernel5Ideal.Value.run_blocks m g),
    (θ_run Cert.Reference5Ideal.defs _ _).mono (fun r h c => ⟨(h c).1.trans (same m m' c (hag c).1 (hag c).2.1 (hag c).2.2.1 (hag c).2.2.2.1 (hag c).2.2.2.2.1 (hag c).2.2.2.2.2), (h c).2⟩)
      (Cert.Reference5Ideal.Value.run m' g')⟩

end Cert.Call5

end
-- ==== Proof.OutProj.RefEven.lean ====
module

public import proofs.«01_k».proof.Proof.Ffn.Ref
public import proofs.«01_k».proof.Proof.Gen.Reference6Ideal.Run

/-! The reference's output projection at the even mixers' width and residual, row by row. -/

@[expose] public section

set_option maxRecDepth 16384

noncomputable section

namespace Cert.Reference6Ideal.Rows

open Cert.Reference6Ideal Cert.Reference6Ideal.Gen Cert.Rows
open Cert.Reference2Ideal.Rows (normPrompt normPrompt_at normSample normSample_at)
open Idealize.ShloMosaic Idealize.ShloMosaic.TcCoe

/-- The prompt rows' output projection. -/
def outPrompt (o : FVec Ideal S2x4096x2048 .f32) (w : FVec Ideal S2048x2048 .f32) : FVec Ideal S2x4096x2048 .f32 :=
  Host.dotGeneral dot_S2x4096x2048_S2048x2048_S2x4096x2048_2_0_01_1_n_n none o w

theorem outPrompt_at (o : FVec Ideal S2x4096x2048 .f32) (w : FVec Ideal S2048x2048 .f32) (p : Fin 2) (q : Fin 4096) (l : Fin 2048) :
    outPrompt o w (ix3 p q l) = ∑ k : Fin 2048, o (ix3 p q k) * w (ix2 k l) := by
  pointwise [outPrompt]

/-- The prompt rows and their normed output projection. -/
def mixedPrompt (o : FVec Ideal S2x4096x2048 .f32) (w : FVec Ideal S2048x2048 .f32) (x : FVec Ideal S2x4096x2048 .f32) (g : FVec Ideal S2048 .f32) :
    FVec Ideal S2x4096x2048 .f32 :=
  addf x (normPrompt (outPrompt o w) g)

theorem mixedPrompt_at (o : FVec Ideal S2x4096x2048 .f32) (w : FVec Ideal S2048x2048 .f32) (x : FVec Ideal S2x4096x2048 .f32) (g : FVec Ideal S2048 .f32)
    (p : Fin 2) (q : Fin 4096) (l : Fin 2048) :
    mixedPrompt o w x g (ix3 p q l)
      = mixed (fun k => x (ix3 p q k)) (fun k => g (ix1 k)) (fun k => o (ix3 p q k)) (fun k f => w (ix2 k f)) l := by
  have e : mixedPrompt o w x g (ix3 p q l) = x (ix3 p q l) + normPrompt (outPrompt o w) g (ix3 p q l) := by
    pointwise [mixedPrompt]
  rw [e, normPrompt_at]
  simp only [outPrompt_at]
  rfl

/-- The sample rows' output projection. -/
def outSample (o : FVec Ideal S128x8x2048 .f32) (w : FVec Ideal S2048x2048 .f32) : FVec Ideal S128x8x2048 .f32 :=
  Host.dotGeneral dot_S128x8x2048_S2048x2048_S128x8x2048_2_0_01_1_n_n none o w

theorem outSample_at (o : FVec Ideal S128x8x2048 .f32) (w : FVec Ideal S2048x2048 .f32) (p : Fin 128) (q : Fin 8) (l : Fin 2048) :
    outSample o w (ix3 p q l) = ∑ k : Fin 2048, o (ix3 p q k) * w (ix2 k l) := by
  pointwise [outSample]

/-- The sample rows and their normed output projection. -/
def mixedSample (o : FVec Ideal S128x8x2048 .f32) (w : FVec Ideal S2048x2048 .f32) (x : FVec Ideal S128x8x2048 .f32) (g : FVec Ideal S2048 .f32) :
    FVec Ideal S128x8x2048 .f32 :=
  addf x (normSample (outSample o w) g)

theorem mixedSample_at (o : FVec Ideal S128x8x2048 .f32) (w : FVec Ideal S2048x2048 .f32) (x : FVec Ideal S128x8x2048 .f32) (g : FVec Ideal S2048 .f32)
    (p : Fin 128) (q : Fin 8) (l : Fin 2048) :
    mixedSample o w x g (ix3 p q l)
      = mixed (fun k => x (ix3 p q k)) (fun k => g (ix1 k)) (fun k => o (ix3 p q k)) (fun k f => w (ix2 k f)) l := by
  have e : mixedSample o w x g (ix3 p q l) = x (ix3 p q l) + normSample (outSample o w) g (ix3 p q l) := by
    pointwise [mixedSample]
  rw [e, normSample_at]
  simp only [outSample_at]
  rfl

/-- The two blocks of rows, one over the other. -/
def both (O0 : FVec Ideal S2x4096x2048 .f32) (O1 : FVec Ideal S128x8x2048 .f32) (w : FVec Ideal S2048x2048 .f32)
    (X0 : FVec Ideal S2x4096x2048 .f32) (X1 : FVec Ideal S128x8x2048 .f32) (g : FVec Ideal S2048 .f32) : FVec Ideal S9216x2048 .f32 :=
  concatenate S9216x2048 0 [⟨S8192x2048, shapeCast _ (mixedPrompt O0 w X0 g) shapeCasts_S2x4096x2048_S8192x2048⟩, ⟨S1024x2048, shapeCast _ (mixedSample O1 w X1 g) shapeCasts_S128x8x2048_S1024x2048⟩]
    concatenates_S8192x2048_S1024x2048_S9216x2048_d0

/-- The reference's result at a row. -/
theorem result (O0 : FVec Ideal S2x4096x2048 .f32) (O1 : FVec Ideal S128x8x2048 .f32) (w : FVec Ideal S2048x2048 .f32)
    (X0 : FVec Ideal S2x4096x2048 .f32) (X1 : FVec Ideal S128x8x2048 .f32) (g : FVec Ideal S2048 .f32) (r : Fin 9216) (l : Fin 2048) :
    both O0 O1 w X0 X1 g (ix2 r l)
      = mixed (row X0 X1 r) (fun k => g (ix1 k)) (row O0 O1 r) (fun k f => w (ix2 k f)) l := by
  refine (stacked (w := 2048) (mixedPrompt O0 w X0 g) (mixedSample O1 w X1 g) _ _ _ r l).trans ?_
  unfold row
  split
  · exact mixedPrompt_at _ _ _ _ _ _ _
  · exact mixedSample_at _ _ _ _ _ _ _

end Cert.Reference6Ideal.Rows

end
-- ==== Proof.OutProj.KernelEven.lean ====
module

public import proofs.«01_k».proof.Proof.Rows.Norm
public import Idealize.ShloMosaic.Lib.Pipeline.ReadBack
public import proofs.«01_k».proof.Proof.Gen.Kernel6Ideal.Value

/-! The even mixers' output projection's kernel, row by row. -/

@[expose] public section

set_option maxRecDepth 16384

noncomputable section

namespace Cert.Kernel6Ideal.Rows

open Cert.Kernel6Ideal Cert.Kernel6Ideal.Gen Cert.Rows
open Idealize.ShloMosaic Idealize.ShloMosaic.TcCoe

/-! ## The stored value -/

theorem store_out (v0 : Vec Ideal S256x2048 .f32) (v3 : Vec Ideal S2048x2048 .bf16) (v11 : Vec Ideal S256x2048 .f32) (v18 : Vec Ideal S1x2048 .f32)
    (r : Fin 256) (l : Fin 2048) :
    (k0_pay1 (F := Ideal) v0 v3 v11 v18 : Vec Ideal S256x2048 .f32) (ix2 r l)
      = mixed (fun k => v11 (ix2 r k)) (fun k => v18 (ix2 0 k)) (fun k => v0 (ix2 r k)) (fun k f => v3 (ix2 k f)) l := by
  unfold mixed normed
  pointwise [k0_pay1]

/-! ## The arrays -/

variable (m : (ℓ : Loc nD τ sig) → Buf (Elt Ideal) ℓ) (c : Dev nD)

/-- Row `r` of the mixer's result, prompt over sample. -/
def orow (r : Fin 9216) : Fin 2048 → EReal :=
  row (m ((c : Thread nD τ).loc main_arg0) : Vec Ideal S2x4096x2048 .f32) (m ((c : Thread nD τ).loc main_arg1) : Vec Ideal S128x8x2048 .f32) r
/-- Row `r` of the residual stream, prompt over sample. -/
def xrow (r : Fin 9216) : Fin 2048 → EReal :=
  row (m ((c : Thread nD τ).loc main_arg3) : Vec Ideal S2x4096x2048 .f32) (m ((c : Thread nD τ).loc main_arg4) : Vec Ideal S128x8x2048 .f32) r
def gain (k : Fin 2048) : EReal := (m ((c : Thread nD τ).loc main_arg5) : Vec Ideal S2048 .f32) (ix1 k)
def wt (k : Fin 2048) (f : Fin 2048) : EReal := (m ((c : Thread nD τ).loc main_arg2) : Vec Ideal S2048x2048 .f32) (ix2 k f)

theorem host_mixer (r : Fin 9216) (l : Fin 2048) : (V m c main_v2 : Vec Ideal S9216x2048 .f32) (ix2 r l) = orow m c r l := by
  entry_read
  exact stacked _ _ _ _ _ r l
theorem host_rows (r : Fin 9216) (l : Fin 2048) : (V m c main_v6 : Vec Ideal S9216x2048 .f32) (ix2 r l) = xrow m c r l := by
  entry_read
  exact stacked _ _ _ _ _ r l
theorem host_gain (l : Fin 2048) : (V m c main_v7 : Vec Ideal S1x2048 .f32) (ix2 0 l) = gain m c l := by
  unfold gain
  entry_read
  pointwise
theorem host_weight (k : Fin 2048) (f : Fin 2048) : (V m c main_v3 : Vec Ideal S2048x2048 .bf16) (ix2 k f) = wt m c k f := by
  unfold wt
  entry_read
  pointwise

/-! ## The blocks -/

theorem index0 : ∀ t : Fin cfg0.N, (cfg0.win 0).index t = ![t.val, 0] := by decide +kernel
theorem index1 : ∀ t : Fin cfg0.N, (cfg0.win 1).index t = ![0, 0] := by decide +kernel
theorem index2 : ∀ t : Fin cfg0.N, (cfg0.win 2).index t = ![t.val, 0] := by decide +kernel
theorem index3 : ∀ t : Fin cfg0.N, (cfg0.win 3).index t = ![0, 0] := by decide +kernel
theorem index4 : ∀ t : Fin cfg0.N, (cfg0.win 4).index t = ![t.val, 0] := by decide +kernel

theorem point_lt (t : Fin cfg0.N) : t.val < 36 := t.isLt

/-- The row that row `r` of point `t`'s block is. -/
def rowOf (t : Fin cfg0.N) (r : Fin 256) : Fin 9216 := ⟨t.val * 256 + r.val, by have := point_lt t; omega⟩

theorem block_mixer (t : Fin cfg0.N) (r : Fin 256) (l : Fin 2048) :
    (iblk m c 0 t : Vec Ideal S256x2048 .f32) (ix2 r l) = orow m c (rowOf t r) l := by
  refine Eq.trans ?_ (host_mixer m c (rowOf t r) l)
  unfold rowOf
  blk_ext [iblk, index0 t]
theorem block_weight (t : Fin cfg0.N) (k : Fin 2048) (x : Fin 2048) :
    (iblk m c 1 t : Vec Ideal S2048x2048 .bf16) (ix2 k x) = wt m c k x := by
  refine Eq.trans ?_ (host_weight m c k x)
  blk_ext [iblk, index1 t]
theorem block_rows (t : Fin cfg0.N) (r : Fin 256) (l : Fin 2048) :
    (iblk m c 2 t : Vec Ideal S256x2048 .f32) (ix2 r l) = xrow m c (rowOf t r) l := by
  refine Eq.trans ?_ (host_rows m c (rowOf t r) l)
  unfold rowOf
  blk_ext [iblk, index2 t]
theorem block_gain (t : Fin cfg0.N) (l : Fin 2048) : (iblk m c 3 t : Vec Ideal S1x2048 .f32) (ix2 0 l) = gain m c l := by
  refine Eq.trans ?_ (host_gain m c l)
  blk_ext [iblk, index3 t]

/-! ## The points and the array -/

theorem out_point (t : Fin cfg0.N) : (dats m 0 c).after 4 t = k0_pay1 (iblk m c 0 t) (iblk m c 1 t) (iblk m c 2 t) (iblk m c 3 t) := by
  rw [after0_4]
  frame_out

theorem written (t : Fin cfg0.N) (r : Fin 256) (l : Fin 2048) :
    ((dats m 0 c).after 4 t : Vec Ideal S256x2048 .f32) (ix2 r l) = mixed (xrow m c (rowOf t r)) (gain m c) (orow m c (rowOf t r)) (wt m c) l := by
  rw [out_point m c t, store_out]
  simp only [block_mixer, block_rows, block_gain, block_weight]

theorem place (t : Fin cfg0.N) (r : Fin 256) (l : Fin 2048) (a : Fin 2) :
    ((((cfg0.win 4).blk t).view.emb (ix2 (n0 := 256) (n1 := 2048) r l)) a : ℕ) = (![t.val * 256 + r.val, l.val] : Fin 2 → ℕ) a := by
  refine (Pipeline.Window.rect_emb_val (cfg0.win 4) t _ a).trans ?_
  rw [index4 t]
  fin_cases a
  · rfl
  · exact (congrArg (· + l.val) (Nat.zero_mul 2048)).trans (Nat.zero_add _)

/-- The kernel's result: each row and its normed output projection. -/
def total : Vec Ideal S9216x2048 .f32 := fun i => mixed (xrow m c (i 0)) (gain m c) (orow m c (i 0)) (wt m c) (i 1)

theorem total_at (t : Fin cfg0.N) (r : Fin 256) (l : Fin 2048) :
    total m c (((cfg0.win 4).blk t).view.emb (ix2 (n0 := 256) (n1 := 2048) r l))
      = mixed (xrow m c (rowOf t r)) (gain m c) (orow m c (rowOf t r)) (wt m c) l :=
  congrArg₂ (fun i j => mixed (xrow m c i) (gain m c) (orow m c i) (wt m c) j) (Fin.ext (place t r l 0)) (Fin.ext (place t r l 1))

theorem result : (dats m 0 c).arrAt 4 cfg0.N = total m c := by
  refine (dats m 0 c).arrAt_eq_of_covers 4 _ (by decide +kernel) fun t hf y => ?_
  blk_simp
  have e : (y : S256x2048.Idx) = ix2 (y 0) (y 1) := funext fun a => by fin_cases a <;> rfl
  exact (congrArg (fun i => ((dats m 0 c).after 4 t : Vec Ideal S256x2048 .f32) i) e).trans ((written m c t (y 0) (y 1)).trans
    ((total_at m c t (y 0) (y 1)).symm.trans (congrArg (fun i => total m c (((cfg0.win 4).blk t).view.emb i)) e.symm)))

end Cert.Kernel6Ideal.Rows

end
-- ==== Proof.OutProj.TieEven.lean ====
module

public import proofs.«01_k».proof.Defs
public import proofs.«01_k».proof.Proof.Gen.Kernel6
public import proofs.«01_k».proof.Proof.Gen.Kernel6Ideal.Value
public import proofs.«01_k».proof.Proof.OutProj.RefEven
public import proofs.«01_k».proof.Proof.OutProj.KernelEven
public import Idealize.ShloMosaic.Adequacy
public import Idealize.ShloMosaic.Init

/-! The even mixers' output projection and residual: its frames, and that kernel and reference agree. -/

@[expose] public section

set_option maxRecDepth 16384

noncomputable section

namespace Cert.Call6

open Idealize.ShloMosaic Idealize.SL.Sem Cert.Rows

/-- The printed kernel's body is the idealized kernel's: no operation was replaced. -/
theorem defs₀_eq : Cert.Kernel6.defs₀ (F := Bits) = Cert.Kernel6Ideal.defs₀ (F := Bits) :=
  congrArg Defs.onTc (funext fun l => match l with
    | 0 => rfl
    | ⟨_ + 1, h⟩ => absurd h (Nat.not_lt.2 (Nat.le_add_left _ _)))

theorem defs_eq : Cert.Kernel6.defs (F := Bits) = Cert.Kernel6Ideal.defs (F := Bits) :=
  congrArg (Pipeline.defs Cert.Kernel6Ideal.pcfgs) defs₀_eq

/-- The printed kernel's frame, from the one run. -/
theorem frame : Cert.quiescent_Kernel6 (hKernel6 := Cert.Kernel6.Gen.facts) := fun m ρ _ => by
  rw [defs_eq]
  exact Cert.Kernel6Ideal.Gen.frame (F := Bits) m ρ

theorem frame_ideal : Cert.quiescent_Kernel6Ideal (hKernel6Ideal := Cert.Kernel6Ideal.Gen.facts) :=
  fun m ρ _ => Cert.Kernel6Ideal.Gen.frame m ρ

theorem frame_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run m ρ)

/-- From equal arguments the reference's result is the kernel's. -/
theorem same (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (c : Dev Cert.Kernel6Ideal.nD)
    (h0 : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0))
    (h1 : m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1))
    (h2 : m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2))
    (h3 : m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3))
    (h4 : m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4))
    (h5 : m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) :
    (Cert.Reference6Ideal.Rows.both (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) : Vec Ideal (⟨2, ![9216, 2048]⟩ : Shape) .f32) = Cert.Kernel6Ideal.Rows.total m c := by
  funext i
  have e : i = ix2 (i 0) (i 1) := funext fun a => by fin_cases a <;> rfl
  rw [e]
  refine (Cert.Reference6Ideal.Rows.result (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (i 0) (i 1)).trans (Eq.trans ?_ (rfl : Cert.Kernel6Ideal.Rows.total m c (ix2 (i 0) (i 1)) = _).symm)
  rw [h0, h1, h2, h3, h4, h5]
  rfl

/-- The kernel and the reference compute the same array. -/
theorem value : Cert.algebraic_Kernel6Ideal_Reference6Ideal (hKernel6Ideal := Cert.Kernel6Ideal.Gen.facts)
    (hReference6Ideal := Cert.Reference6Ideal.Gen.facts) := fun m g m' g' _ hag =>
  ⟨fun c => Cert.Kernel6Ideal.Rows.total m c,
    (θ_run Cert.Kernel6Ideal.defs _ _).mono (fun r h c => ⟨(h c).1.trans (Cert.Kernel6Ideal.Rows.result m c), (h c).2⟩) (Cert.Kernel6Ideal.Value.run_blocks m g),
    (θ_run Cert.Reference6Ideal.defs _ _).mono (fun r h c => ⟨(h c).1.trans (same m m' c (hag c).1 (hag c).2.1 (hag c).2.2.1 (hag c).2.2.2.1 (hag c).2.2.2.2.1 (hag c).2.2.2.2.2), (h c).2⟩)
      (Cert.Reference6Ideal.Value.run m' g')⟩

end Cert.Call6

end
-- ==== Proof.lean ====
/-
  Hand-written. `Cert.Claim`: the frames of every program, the attentions' named constants, and that each kernel computes
  what its reference does: the prompt's attention, the feed-forward, the two mixer projections, the output projection
  at its two widths, the decoding attention through the page table.
-/
module

public import proofs.«01_k».proof.Proof.Gen.Kernel6
public import proofs.«01_k».proof.Proof.Gen.Kernel6Ideal.Value
public import proofs.«01_k».proof.Proof.Gen.Reference6Ideal.Run
public import proofs.«01_k».proof.Proof.Gen.Kernel7
public import proofs.«01_k».proof.Proof.MlaSample.Value
public import proofs.«01_k».proof.Proof.Gen.Reference7Ideal.Run
public import proofs.«01_k».proof.Proof.Gen.Pre_in_pool
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.MlaWords.Run
public import proofs.«01_k».proof.Proof.Mla.Tie
public import proofs.«01_k».proof.Proof.Ffn.Tie
public import proofs.«01_k».proof.Proof.Proj.TieOdd
public import proofs.«01_k».proof.Proof.Proj.TieEven
public import proofs.«01_k».proof.Proof.OutProj.Tie
public import proofs.«01_k».proof.Proof.OutProj.TieEven
public import Idealize.ShloMosaic.Adequacy
public import Idealize.ShloMosaic.Init

@[expose] public section

noncomputable section

namespace Cert.Proof

open Idealize.ShloMosaic Idealize.SL.Sem Cert.Kernel

/-- The plain attention leaves its arguments and every counter. -/
theorem frame_r : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The tiled attention's result is the plain attention's. -/
theorem value : Cert.algebraic_KernelIdeal_ReferenceIdeal (hKernelIdeal := Cert.KernelIdeal.Gen.facts)
    (hReferenceIdeal := Cert.ReferenceIdeal.Gen.facts) := fun m g m' g' _ hag =>
  ⟨fun c => Cert.KernelIdeal.Mla.plain c m',
    (θ_run Cert.KernelIdeal.defs _ _).mono (fun r h c =>
      ⟨Cert.KernelIdeal.Mla.result_eq m c m' r (hag c).1 (hag c).2.1 (hag c).2.2.1 (hag c).2.2.2 h.1.1, h.2.1 c⟩)
      (θ_run_and (Cert.KernelIdeal.Mla.run_main m g) (Cert.KernelIdeal.Mla.frame m g)),
    Cert.ReferenceIdeal.Value.run m' g'⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_in_pool.Gen.facts,
  fun m ρ _ => Cert.Kernel.Mla.frame m ρ, fun m ρ _ => Cert.KernelIdeal.Mla.frame m ρ, frame_r,
  Cert.Call2.frame, Cert.Call2.frame_ideal, Cert.Call2.frame_reference,
  Cert.Call3.frame, Cert.Call3.frame_ideal, Cert.Call3.frame_reference,
  Cert.Call4.frame, Cert.Call4.frame_ideal, Cert.Call4.frame_reference,
  Cert.Call5.frame, Cert.Call5.frame_ideal, Cert.Call5.frame_reference,
  Cert.Call6.frame, Cert.Call6.frame_ideal, Cert.Call6.frame_reference,
  Cert.Call7.frame, Cert.Call7.frame_ideal, Cert.Call7.frame_reference, fun m ρ _ => Cert.Call7.frame_reference m ρ trivial,
  ⟨IdealRules.named_const.statement _ _ _ _ _ rfl, IdealRules.named_const.statement _ _ _ _ _ rfl⟩, value,
  trivial, Cert.Call2.value, trivial, Cert.Call3.value, trivial, Cert.Call4.value, trivial, Cert.Call5.value, trivial, Cert.Call6.value,
  IdealRules.named_const.statement _ _ _ _ _ rfl, Cert.Call7.value⟩

end Cert.Proof

end
